-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_InprojS (m : (ℓ : Loc Cert.InprojS.nD Cert.InprojS.τ Cert.InprojS.sig) → Buf (Elt Bits) ℓ) : Prop :=
  True

def Pre_InprojSIdeal (m : (ℓ : Loc Cert.InprojSIdeal.nD Cert.InprojSIdeal.τ Cert.InprojSIdeal.sig) → Buf (Elt Ideal) ℓ) : Prop :=
  True

def Pre_InprojSRefIdeal (m : (ℓ : Loc Cert.InprojSRefIdeal.nD Cert.InprojSRefIdeal.τ Cert.InprojSRefIdeal.sig) → Buf (Elt Ideal) ℓ) : Prop :=
  True

def Pre_PleS (m : (ℓ : Loc Cert.PleS.nD Cert.PleS.τ Cert.PleS.sig) → Buf (Elt Bits) ℓ) : Prop :=
  True

def Pre_PleSIdeal (m : (ℓ : Loc Cert.PleSIdeal.nD Cert.PleSIdeal.τ Cert.PleSIdeal.sig) → Buf (Elt Ideal) ℓ) : Prop :=
  True

def Pre_PleSRefIdeal (m : (ℓ : Loc Cert.PleSRefIdeal.nD Cert.PleSRefIdeal.τ Cert.PleSRefIdeal.sig) → Buf (Elt Ideal) ℓ) : Prop :=
  True

def Pre_RnnS (m : (ℓ : Loc Cert.RnnS.nD Cert.RnnS.τ Cert.RnnS.sig) → Buf (Elt Bits) ℓ) : Prop :=
  True

def Pre_RnnSIdeal (m : (ℓ : Loc Cert.RnnSIdeal.nD Cert.RnnSIdeal.τ Cert.RnnSIdeal.sig) → Buf (Elt Ideal) ℓ) : Prop :=
  True

def Pre_RnnSRefIdeal (m : (ℓ : Loc Cert.RnnSRefIdeal.nD Cert.RnnSRefIdeal.τ Cert.RnnSRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_InprojS [hInprojS : Cert.InprojS.Facts] : Prop :=
  ∀ (m : (ℓ : Loc Cert.InprojS.nD Cert.InprojS.τ Cert.InprojS.sig) → Buf (Elt Bits) ℓ) (g : Dev Cert.InprojS.nD → PrngReg), Pre_InprojS m →
    θ_run (Cert.InprojS.defs (F := Bits)) (onTc (τ := Cert.InprojS.τ) (Cert.InprojS.main (F := Bits))) ⟨m, fun _ => 0, g⟩ (fun r => (∀ c : Dev Cert.InprojS.nD,
      r.2.mem ((c.tc : Thread Cert.InprojS.nD Cert.InprojS.τ).loc Cert.InprojS.main_arg0) = m ((c.tc : Thread Cert.InprojS.nD Cert.InprojS.τ).loc Cert.InprojS.main_arg0)
      ∧ r.2.mem ((c.tc : Thread Cert.InprojS.nD Cert.InprojS.τ).loc Cert.InprojS.main_arg1) = m ((c.tc : Thread Cert.InprojS.nD Cert.InprojS.τ).loc Cert.InprojS.main_arg1)
      ∧ r.2.mem ((c.tc : Thread Cert.InprojS.nD Cert.InprojS.τ).loc Cert.InprojS.main_arg2) = m ((c.tc : Thread Cert.InprojS.nD Cert.InprojS.τ).loc Cert.InprojS.main_arg2))
      ∧ r.2.sem = fun _ => 0)

def quiescent_InprojSIdeal [hInprojSIdeal : Cert.InprojSIdeal.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2))
      ∧ r.2.sem = fun _ => 0)

def quiescent_InprojSRefIdeal [hInprojSRefIdeal : Cert.InprojSRefIdeal.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2))
      ∧ r.2.sem = fun _ => 0)

def quiescent_PleS [hPleS : Cert.PleS.Facts] : Prop :=
  ∀ (m : (ℓ : Loc Cert.PleS.nD Cert.PleS.τ Cert.PleS.sig) → Buf (Elt Bits) ℓ) (g : Dev Cert.PleS.nD → PrngReg), Pre_PleS m →
    θ_run (Cert.PleS.defs (F := Bits)) (onTc (τ := Cert.PleS.τ) (Cert.PleS.main (F := Bits))) ⟨m, fun _ => 0, g⟩ (fun r => (∀ c : Dev Cert.PleS.nD,
      r.2.mem ((c.tc : Thread Cert.PleS.nD Cert.PleS.τ).loc Cert.PleS.main_arg0) = m ((c.tc : Thread Cert.PleS.nD Cert.PleS.τ).loc Cert.PleS.main_arg0)
      ∧ r.2.mem ((c.tc : Thread Cert.PleS.nD Cert.PleS.τ).loc Cert.PleS.main_arg1) = m ((c.tc : Thread Cert.PleS.nD Cert.PleS.τ).loc Cert.PleS.main_arg1)
      ∧ r.2.mem ((c.tc : Thread Cert.PleS.nD Cert.PleS.τ).loc Cert.PleS.main_arg2) = m ((c.tc : Thread Cert.PleS.nD Cert.PleS.τ).loc Cert.PleS.main_arg2)
      ∧ r.2.mem ((c.tc : Thread Cert.PleS.nD Cert.PleS.τ).loc Cert.PleS.main_arg3) = m ((c.tc : Thread Cert.PleS.nD Cert.PleS.τ).loc Cert.PleS.main_arg3)
      ∧ r.2.mem ((c.tc : Thread Cert.PleS.nD Cert.PleS.τ).loc Cert.PleS.main_arg4) = m ((c.tc : Thread Cert.PleS.nD Cert.PleS.τ).loc Cert.PleS.main_arg4)
      ∧ r.2.mem ((c.tc : Thread Cert.PleS.nD Cert.PleS.τ).loc Cert.PleS.main_arg5) = m ((c.tc : Thread Cert.PleS.nD Cert.PleS.τ).loc Cert.PleS.main_arg5))
      ∧ r.2.sem = fun _ => 0)

def quiescent_PleSIdeal [hPleSIdeal : Cert.PleSIdeal.Facts] : Prop :=
  ∀ (m : (ℓ : Loc Cert.PleSIdeal.nD Cert.PleSIdeal.τ Cert.PleSIdeal.sig) → Buf (Elt Ideal) ℓ) (g : Dev Cert.PleSIdeal.nD → PrngReg), Pre_PleSIdeal m →
    θ_run (Cert.PleSIdeal.defs (F := Ideal)) (onTc (τ := Cert.PleSIdeal.τ) (Cert.PleSIdeal.main (F := Ideal))) ⟨m, fun _ => 0, g⟩ (fun r => (∀ c : Dev Cert.PleSIdeal.nD,
      r.2.mem ((c.tc : Thread Cert.PleSIdeal.nD Cert.PleSIdeal.τ).loc Cert.PleSIdeal.main_arg0) = m ((c.tc : Thread Cert.PleSIdeal.nD Cert.PleSIdeal.τ).loc Cert.PleSIdeal.main_arg0)
      ∧ r.2.mem ((c.tc : Thread Cert.PleSIdeal.nD Cert.PleSIdeal.τ).loc Cert.PleSIdeal.main_arg1) = m ((c.tc : Thread Cert.PleSIdeal.nD Cert.PleSIdeal.τ).loc Cert.PleSIdeal.main_arg1)
      ∧ r.2.mem ((c.tc : Thread Cert.PleSIdeal.nD Cert.PleSIdeal.τ).loc Cert.PleSIdeal.main_arg2) = m ((c.tc : Thread Cert.PleSIdeal.nD Cert.PleSIdeal.τ).loc Cert.PleSIdeal.main_arg2)
      ∧ r.2.mem ((c.tc : Thread Cert.PleSIdeal.nD Cert.PleSIdeal.τ).loc Cert.PleSIdeal.main_arg3) = m ((c.tc : Thread Cert.PleSIdeal.nD Cert.PleSIdeal.τ).loc Cert.PleSIdeal.main_arg3)
      ∧ r.2.mem ((c.tc : Thread Cert.PleSIdeal.nD Cert.PleSIdeal.τ).loc Cert.PleSIdeal.main_arg4) = m ((c.tc : Thread Cert.PleSIdeal.nD Cert.PleSIdeal.τ).loc Cert.PleSIdeal.main_arg4)
      ∧ r.2.mem ((c.tc : Thread Cert.PleSIdeal.nD Cert.PleSIdeal.τ).loc Cert.PleSIdeal.main_arg5) = m ((c.tc : Thread Cert.PleSIdeal.nD Cert.PleSIdeal.τ).loc Cert.PleSIdeal.main_arg5))
      ∧ r.2.sem = fun _ => 0)

def quiescent_PleSRefIdeal [hPleSRefIdeal : Cert.PleSRefIdeal.Facts] : Prop :=
  ∀ (m : (ℓ : Loc Cert.PleSRefIdeal.nD Cert.PleSRefIdeal.τ Cert.PleSRefIdeal.sig) → Buf (Elt Ideal) ℓ) (g : Dev Cert.PleSRefIdeal.nD → PrngReg), Pre_PleSRefIdeal m →
    θ_run (Cert.PleSRefIdeal.defs (F := Ideal)) (onTc (τ := Cert.PleSRefIdeal.τ) (Cert.PleSRefIdeal.main (F := Ideal))) ⟨m, fun _ => 0, g⟩ (fun r => (∀ c : Dev Cert.PleSRefIdeal.nD,
      r.2.mem ((c.tc : Thread Cert.PleSRefIdeal.nD Cert.PleSRefIdeal.τ).loc Cert.PleSRefIdeal.main_arg0) = m ((c.tc : Thread Cert.PleSRefIdeal.nD Cert.PleSRefIdeal.τ).loc Cert.PleSRefIdeal.main_arg0)
      ∧ r.2.mem ((c.tc : Thread Cert.PleSRefIdeal.nD Cert.PleSRefIdeal.τ).loc Cert.PleSRefIdeal.main_arg1) = m ((c.tc : Thread Cert.PleSRefIdeal.nD Cert.PleSRefIdeal.τ).loc Cert.PleSRefIdeal.main_arg1)
      ∧ r.2.mem ((c.tc : Thread Cert.PleSRefIdeal.nD Cert.PleSRefIdeal.τ).loc Cert.PleSRefIdeal.main_arg2) = m ((c.tc : Thread Cert.PleSRefIdeal.nD Cert.PleSRefIdeal.τ).loc Cert.PleSRefIdeal.main_arg2)
      ∧ r.2.mem ((c.tc : Thread Cert.PleSRefIdeal.nD Cert.PleSRefIdeal.τ).loc Cert.PleSRefIdeal.main_arg3) = m ((c.tc : Thread Cert.PleSRefIdeal.nD Cert.PleSRefIdeal.τ).loc Cert.PleSRefIdeal.main_arg3)
      ∧ r.2.mem ((c.tc : Thread Cert.PleSRefIdeal.nD Cert.PleSRefIdeal.τ).loc Cert.PleSRefIdeal.main_arg4) = m ((c.tc : Thread Cert.PleSRefIdeal.nD Cert.PleSRefIdeal.τ).loc Cert.PleSRefIdeal.main_arg4)
      ∧ r.2.mem ((c.tc : Thread Cert.PleSRefIdeal.nD Cert.PleSRefIdeal.τ).loc Cert.PleSRefIdeal.main_arg5) = m ((c.tc : Thread Cert.PleSRefIdeal.nD Cert.PleSRefIdeal.τ).loc Cert.PleSRefIdeal.main_arg5))
      ∧ r.2.sem = fun _ => 0)

def quiescent_RnnS [hRnnS : Cert.RnnS.Facts] : Prop :=
  ∀ (m : (ℓ : Loc Cert.RnnS.nD Cert.RnnS.τ Cert.RnnS.sig) → Buf (Elt Bits) ℓ) (g : Dev Cert.RnnS.nD → PrngReg), Pre_RnnS m →
    θ_run (Cert.RnnS.defs (F := Bits)) (onTc (τ := Cert.RnnS.τ) (Cert.RnnS.main (F := Bits))) ⟨m, fun _ => 0, g⟩ (fun r => (∀ c : Dev Cert.RnnS.nD,
      r.2.mem ((c.tc : Thread Cert.RnnS.nD Cert.RnnS.τ).loc Cert.RnnS.main_arg0) = m ((c.tc : Thread Cert.RnnS.nD Cert.RnnS.τ).loc Cert.RnnS.main_arg0)
      ∧ r.2.mem ((c.tc : Thread Cert.RnnS.nD Cert.RnnS.τ).loc Cert.RnnS.main_arg1) = m ((c.tc : Thread Cert.RnnS.nD Cert.RnnS.τ).loc Cert.RnnS.main_arg1)
      ∧ r.2.mem ((c.tc : Thread Cert.RnnS.nD Cert.RnnS.τ).loc Cert.RnnS.main_arg2) = m ((c.tc : Thread Cert.RnnS.nD Cert.RnnS.τ).loc Cert.RnnS.main_arg2)
      ∧ r.2.mem ((c.tc : Thread Cert.RnnS.nD Cert.RnnS.τ).loc Cert.RnnS.main_arg3) = m ((c.tc : Thread Cert.RnnS.nD Cert.RnnS.τ).loc Cert.RnnS.main_arg3)
      ∧ r.2.mem ((c.tc : Thread Cert.RnnS.nD Cert.RnnS.τ).loc Cert.RnnS.main_arg4) = m ((c.tc : Thread Cert.RnnS.nD Cert.RnnS.τ).loc Cert.RnnS.main_arg4)
      ∧ r.2.mem ((c.tc : Thread Cert.RnnS.nD Cert.RnnS.τ).loc Cert.RnnS.main_arg5) = m ((c.tc : Thread Cert.RnnS.nD Cert.RnnS.τ).loc Cert.RnnS.main_arg5)
      ∧ r.2.mem ((c.tc : Thread Cert.RnnS.nD Cert.RnnS.τ).loc Cert.RnnS.main_arg6) = m ((c.tc : Thread Cert.RnnS.nD Cert.RnnS.τ).loc Cert.RnnS.main_arg6)
      ∧ r.2.mem ((c.tc : Thread Cert.RnnS.nD Cert.RnnS.τ).loc Cert.RnnS.main_arg7) = m ((c.tc : Thread Cert.RnnS.nD Cert.RnnS.τ).loc Cert.RnnS.main_arg7)
      ∧ r.2.mem ((c.tc : Thread Cert.RnnS.nD Cert.RnnS.τ).loc Cert.RnnS.main_arg8) = m ((c.tc : Thread Cert.RnnS.nD Cert.RnnS.τ).loc Cert.RnnS.main_arg8)
      ∧ r.2.mem ((c.tc : Thread Cert.RnnS.nD Cert.RnnS.τ).loc Cert.RnnS.main_arg9) = m ((c.tc : Thread Cert.RnnS.nD Cert.RnnS.τ).loc Cert.RnnS.main_arg9)
      ∧ r.2.mem ((c.tc : Thread Cert.RnnS.nD Cert.RnnS.τ).loc Cert.RnnS.main_arg10) = m ((c.tc : Thread Cert.RnnS.nD Cert.RnnS.τ).loc Cert.RnnS.main_arg10))
      ∧ r.2.sem = fun _ => 0)

def quiescent_RnnSIdeal [hRnnSIdeal : Cert.RnnSIdeal.Facts] : Prop :=
  ∀ (m : (ℓ : Loc Cert.RnnSIdeal.nD Cert.RnnSIdeal.τ Cert.RnnSIdeal.sig) → Buf (Elt Ideal) ℓ) (g : Dev Cert.RnnSIdeal.nD → PrngReg), Pre_RnnSIdeal m →
    θ_run (Cert.RnnSIdeal.defs (F := Ideal)) (onTc (τ := Cert.RnnSIdeal.τ) (Cert.RnnSIdeal.main (F := Ideal))) ⟨m, fun _ => 0, g⟩ (fun r => (∀ c : Dev Cert.RnnSIdeal.nD,
      r.2.mem ((c.tc : Thread Cert.RnnSIdeal.nD Cert.RnnSIdeal.τ).loc Cert.RnnSIdeal.main_arg0) = m ((c.tc : Thread Cert.RnnSIdeal.nD Cert.RnnSIdeal.τ).loc Cert.RnnSIdeal.main_arg0)
      ∧ r.2.mem ((c.tc : Thread Cert.RnnSIdeal.nD Cert.RnnSIdeal.τ).loc Cert.RnnSIdeal.main_arg1) = m ((c.tc : Thread Cert.RnnSIdeal.nD Cert.RnnSIdeal.τ).loc Cert.RnnSIdeal.main_arg1)
      ∧ r.2.mem ((c.tc : Thread Cert.RnnSIdeal.nD Cert.RnnSIdeal.τ).loc Cert.RnnSIdeal.main_arg2) = m ((c.tc : Thread Cert.RnnSIdeal.nD Cert.RnnSIdeal.τ).loc Cert.RnnSIdeal.main_arg2)
      ∧ r.2.mem ((c.tc : Thread Cert.RnnSIdeal.nD Cert.RnnSIdeal.τ).loc Cert.RnnSIdeal.main_arg3) = m ((c.tc : Thread Cert.RnnSIdeal.nD Cert.RnnSIdeal.τ).loc Cert.RnnSIdeal.main_arg3)
      ∧ r.2.mem ((c.tc : Thread Cert.RnnSIdeal.nD Cert.RnnSIdeal.τ).loc Cert.RnnSIdeal.main_arg4) = m ((c.tc : Thread Cert.RnnSIdeal.nD Cert.RnnSIdeal.τ).loc Cert.RnnSIdeal.main_arg4)
      ∧ r.2.mem ((c.tc : Thread Cert.RnnSIdeal.nD Cert.RnnSIdeal.τ).loc Cert.RnnSIdeal.main_arg5) = m ((c.tc : Thread Cert.RnnSIdeal.nD Cert.RnnSIdeal.τ).loc Cert.RnnSIdeal.main_arg5)
      ∧ r.2.mem ((c.tc : Thread Cert.RnnSIdeal.nD Cert.RnnSIdeal.τ).loc Cert.RnnSIdeal.main_arg6) = m ((c.tc : Thread Cert.RnnSIdeal.nD Cert.RnnSIdeal.τ).loc Cert.RnnSIdeal.main_arg6)
      ∧ r.2.mem ((c.tc : Thread Cert.RnnSIdeal.nD Cert.RnnSIdeal.τ).loc Cert.RnnSIdeal.main_arg7) = m ((c.tc : Thread Cert.RnnSIdeal.nD Cert.RnnSIdeal.τ).loc Cert.RnnSIdeal.main_arg7)
      ∧ r.2.mem ((c.tc : Thread Cert.RnnSIdeal.nD Cert.RnnSIdeal.τ).loc Cert.RnnSIdeal.main_arg8) = m ((c.tc : Thread Cert.RnnSIdeal.nD Cert.RnnSIdeal.τ).loc Cert.RnnSIdeal.main_arg8)
      ∧ r.2.mem ((c.tc : Thread Cert.RnnSIdeal.nD Cert.RnnSIdeal.τ).loc Cert.RnnSIdeal.main_arg9) = m ((c.tc : Thread Cert.RnnSIdeal.nD Cert.RnnSIdeal.τ).loc Cert.RnnSIdeal.main_arg9)
      ∧ r.2.mem ((c.tc : Thread Cert.RnnSIdeal.nD Cert.RnnSIdeal.τ).loc Cert.RnnSIdeal.main_arg10) = m ((c.tc : Thread Cert.RnnSIdeal.nD Cert.RnnSIdeal.τ).loc Cert.RnnSIdeal.main_arg10))
      ∧ r.2.sem = fun _ => 0)

def quiescent_RnnSRefIdeal [hRnnSRefIdeal : Cert.RnnSRefIdeal.Facts] : Prop :=
  ∀ (m : (ℓ : Loc Cert.RnnSRefIdeal.nD Cert.RnnSRefIdeal.τ Cert.RnnSRefIdeal.sig) → Buf (Elt Ideal) ℓ) (g : Dev Cert.RnnSRefIdeal.nD → PrngReg), Pre_RnnSRefIdeal m →
    θ_run (Cert.RnnSRefIdeal.defs (F := Ideal)) (onTc (τ := Cert.RnnSRefIdeal.τ) (Cert.RnnSRefIdeal.main (F := Ideal))) ⟨m, fun _ => 0, g⟩ (fun r => (∀ c : Dev Cert.RnnSRefIdeal.nD,
      r.2.mem ((c.tc : Thread Cert.RnnSRefIdeal.nD Cert.RnnSRefIdeal.τ).loc Cert.RnnSRefIdeal.main_arg0) = m ((c.tc : Thread Cert.RnnSRefIdeal.nD Cert.RnnSRefIdeal.τ).loc Cert.RnnSRefIdeal.main_arg0)
      ∧ r.2.mem ((c.tc : Thread Cert.RnnSRefIdeal.nD Cert.RnnSRefIdeal.τ).loc Cert.RnnSRefIdeal.main_arg1) = m ((c.tc : Thread Cert.RnnSRefIdeal.nD Cert.RnnSRefIdeal.τ).loc Cert.RnnSRefIdeal.main_arg1)
      ∧ r.2.mem ((c.tc : Thread Cert.RnnSRefIdeal.nD Cert.RnnSRefIdeal.τ).loc Cert.RnnSRefIdeal.main_arg2) = m ((c.tc : Thread Cert.RnnSRefIdeal.nD Cert.RnnSRefIdeal.τ).loc Cert.RnnSRefIdeal.main_arg2)
      ∧ r.2.mem ((c.tc : Thread Cert.RnnSRefIdeal.nD Cert.RnnSRefIdeal.τ).loc Cert.RnnSRefIdeal.main_arg3) = m ((c.tc : Thread Cert.RnnSRefIdeal.nD Cert.RnnSRefIdeal.τ).loc Cert.RnnSRefIdeal.main_arg3)
      ∧ r.2.mem ((c.tc : Thread Cert.RnnSRefIdeal.nD Cert.RnnSRefIdeal.τ).loc Cert.RnnSRefIdeal.main_arg4) = m ((c.tc : Thread Cert.RnnSRefIdeal.nD Cert.RnnSRefIdeal.τ).loc Cert.RnnSRefIdeal.main_arg4)
      ∧ r.2.mem ((c.tc : Thread Cert.RnnSRefIdeal.nD Cert.RnnSRefIdeal.τ).loc Cert.RnnSRefIdeal.main_arg5) = m ((c.tc : Thread Cert.RnnSRefIdeal.nD Cert.RnnSRefIdeal.τ).loc Cert.RnnSRefIdeal.main_arg5)
      ∧ r.2.mem ((c.tc : Thread Cert.RnnSRefIdeal.nD Cert.RnnSRefIdeal.τ).loc Cert.RnnSRefIdeal.main_arg6) = m ((c.tc : Thread Cert.RnnSRefIdeal.nD Cert.RnnSRefIdeal.τ).loc Cert.RnnSRefIdeal.main_arg6)
      ∧ r.2.mem ((c.tc : Thread Cert.RnnSRefIdeal.nD Cert.RnnSRefIdeal.τ).loc Cert.RnnSRefIdeal.main_arg7) = m ((c.tc : Thread Cert.RnnSRefIdeal.nD Cert.RnnSRefIdeal.τ).loc Cert.RnnSRefIdeal.main_arg7)
      ∧ r.2.mem ((c.tc : Thread Cert.RnnSRefIdeal.nD Cert.RnnSRefIdeal.τ).loc Cert.RnnSRefIdeal.main_arg8) = m ((c.tc : Thread Cert.RnnSRefIdeal.nD Cert.RnnSRefIdeal.τ).loc Cert.RnnSRefIdeal.main_arg8)
      ∧ r.2.mem ((c.tc : Thread Cert.RnnSRefIdeal.nD Cert.RnnSRefIdeal.τ).loc Cert.RnnSRefIdeal.main_arg9) = m ((c.tc : Thread Cert.RnnSRefIdeal.nD Cert.RnnSRefIdeal.τ).loc Cert.RnnSRefIdeal.main_arg9)
      ∧ r.2.mem ((c.tc : Thread Cert.RnnSRefIdeal.nD Cert.RnnSRefIdeal.τ).loc Cert.RnnSRefIdeal.main_arg10) = m ((c.tc : Thread Cert.RnnSRefIdeal.nD Cert.RnnSRefIdeal.τ).loc Cert.RnnSRefIdeal.main_arg10))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v25) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v2_0)) (v1 : (c : Dev Cert.InprojIdeal.nD) → Buf (Elt Ideal) ((c.tc : Thread Cert.InprojIdeal.nD Cert.InprojIdeal.τ).loc Cert.InprojIdeal.main_v2_1)) (v2 : (c : Dev Cert.InprojIdeal.nD) → Buf (Elt Ideal) ((c.tc : Thread Cert.InprojIdeal.nD Cert.InprojIdeal.τ).loc Cert.InprojIdeal.main_v2_2)) (v3 : (c : Dev Cert.InprojIdeal.nD) → Buf (Elt Ideal) ((c.tc : Thread Cert.InprojIdeal.nD Cert.InprojIdeal.τ).loc Cert.InprojIdeal.main_v2_3)) (v4 : (c : Dev Cert.InprojIdeal.nD) → Buf (Elt Ideal) ((c.tc : Thread Cert.InprojIdeal.nD Cert.InprojIdeal.τ).loc Cert.InprojIdeal.main_v2_4)) (v5 : (c : Dev Cert.InprojIdeal.nD) → Buf (Elt Ideal) ((c.tc : Thread Cert.InprojIdeal.nD Cert.InprojIdeal.τ).loc Cert.InprojIdeal.main_v2_5)) (v6 : (c : Dev Cert.InprojIdeal.nD) → Buf (Elt Ideal) ((c.tc : Thread Cert.InprojIdeal.nD Cert.InprojIdeal.τ).loc Cert.InprojIdeal.main_v2_6)) (v7 : (c : Dev Cert.InprojIdeal.nD) → Buf (Elt Ideal) ((c.tc : Thread Cert.InprojIdeal.nD Cert.InprojIdeal.τ).loc Cert.InprojIdeal.main_v2_7)) (v8 : (c : Dev Cert.InprojIdeal.nD) → Buf (Elt Ideal) ((c.tc : Thread Cert.InprojIdeal.nD Cert.InprojIdeal.τ).loc Cert.InprojIdeal.main_v2_8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2_0) = v0 c
          ∧ r.2.mem ((c.tc : Thread Cert.InprojIdeal.nD Cert.InprojIdeal.τ).loc Cert.InprojIdeal.main_v2_1) = v1 c
          ∧ r.2.mem ((c.tc : Thread Cert.InprojIdeal.nD Cert.InprojIdeal.τ).loc Cert.InprojIdeal.main_v2_2) = v2 c
          ∧ r.2.mem ((c.tc : Thread Cert.InprojIdeal.nD Cert.InprojIdeal.τ).loc Cert.InprojIdeal.main_v2_3) = v3 c
          ∧ r.2.mem ((c.tc : Thread Cert.InprojIdeal.nD Cert.InprojIdeal.τ).loc Cert.InprojIdeal.main_v2_4) = v4 c
          ∧ r.2.mem ((c.tc : Thread Cert.InprojIdeal.nD Cert.InprojIdeal.τ).loc Cert.InprojIdeal.main_v2_5) = v5 c
          ∧ r.2.mem ((c.tc : Thread Cert.InprojIdeal.nD Cert.InprojIdeal.τ).loc Cert.InprojIdeal.main_v2_6) = v6 c
          ∧ r.2.mem ((c.tc : Thread Cert.InprojIdeal.nD Cert.InprojIdeal.τ).loc Cert.InprojIdeal.main_v2_7) = v7 c
          ∧ r.2.mem ((c.tc : Thread Cert.InprojIdeal.nD Cert.InprojIdeal.τ).loc Cert.InprojIdeal.main_v2_8) = v8 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v14) = v0 c
          ∧ r.2.mem ((c.tc : Thread Cert.InprojRefIdeal.nD Cert.InprojRefIdeal.τ).loc Cert.InprojRefIdeal.main_v34) = v1 c
          ∧ r.2.mem ((c.tc : Thread Cert.InprojRefIdeal.nD Cert.InprojRefIdeal.τ).loc Cert.InprojRefIdeal.main_v37) = v2 c
          ∧ r.2.mem ((c.tc : Thread Cert.InprojRefIdeal.nD Cert.InprojRefIdeal.τ).loc Cert.InprojRefIdeal.main_v17) = v3 c
          ∧ r.2.mem ((c.tc : Thread Cert.InprojRefIdeal.nD Cert.InprojRefIdeal.τ).loc Cert.InprojRefIdeal.main_v18) = v4 c
          ∧ r.2.mem ((c.tc : Thread Cert.InprojRefIdeal.nD Cert.InprojRefIdeal.τ).loc Cert.InprojRefIdeal.main_v38) = v5 c
          ∧ r.2.mem ((c.tc : Thread Cert.InprojRefIdeal.nD Cert.InprojRefIdeal.τ).loc Cert.InprojRefIdeal.main_v39) = v6 c
          ∧ r.2.mem ((c.tc : Thread Cert.InprojRefIdeal.nD Cert.InprojRefIdeal.τ).loc Cert.InprojRefIdeal.main_v46) = v7 c
          ∧ r.2.mem ((c.tc : Thread Cert.InprojRefIdeal.nD Cert.InprojRefIdeal.τ).loc Cert.InprojRefIdeal.main_v53) = v8 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v10) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v35) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_InprojS_InprojSIdeal : Prop :=
  True

def algebraic_InprojSIdeal_InprojSRefIdeal [hInprojSIdeal : Cert.InprojSIdeal.Facts] [hInprojSRefIdeal : Cert.InprojSRefIdeal.Facts] : Prop :=
  ∀ (m : (ℓ : Loc Cert.InprojSIdeal.nD Cert.InprojSIdeal.τ Cert.InprojSIdeal.sig) → Buf (Elt Ideal) ℓ) (g : Dev Cert.InprojSIdeal.nD → PrngReg)
    (m' : (ℓ : Loc Cert.InprojSRefIdeal.nD Cert.InprojSRefIdeal.τ Cert.InprojSRefIdeal.sig) → Buf (Elt Ideal) ℓ) (g' : Dev Cert.InprojSRefIdeal.nD → PrngReg), Pre_InprojSIdeal m →
    (∀ c : Dev Cert.InprojSIdeal.nD,
      m' ((c.tc : Thread Cert.InprojSRefIdeal.nD Cert.InprojSRefIdeal.τ).loc Cert.InprojSRefIdeal.main_arg0) = m ((c.tc : Thread Cert.InprojSIdeal.nD Cert.InprojSIdeal.τ).loc Cert.InprojSIdeal.main_arg0)
      ∧ m' ((c.tc : Thread Cert.InprojSRefIdeal.nD Cert.InprojSRefIdeal.τ).loc Cert.InprojSRefIdeal.main_arg1) = m ((c.tc : Thread Cert.InprojSIdeal.nD Cert.InprojSIdeal.τ).loc Cert.InprojSIdeal.main_arg1)
      ∧ m' ((c.tc : Thread Cert.InprojSRefIdeal.nD Cert.InprojSRefIdeal.τ).loc Cert.InprojSRefIdeal.main_arg2) = m ((c.tc : Thread Cert.InprojSIdeal.nD Cert.InprojSIdeal.τ).loc Cert.InprojSIdeal.main_arg2)) →
    ∃ (v0 : (c : Dev Cert.InprojSIdeal.nD) → Buf (Elt Ideal) ((c.tc : Thread Cert.InprojSIdeal.nD Cert.InprojSIdeal.τ).loc Cert.InprojSIdeal.main_v2_0)) (v1 : (c : Dev Cert.InprojSIdeal.nD) → Buf (Elt Ideal) ((c.tc : Thread Cert.InprojSIdeal.nD Cert.InprojSIdeal.τ).loc Cert.InprojSIdeal.main_v2_1)) (v2 : (c : Dev Cert.InprojSIdeal.nD) → Buf (Elt Ideal) ((c.tc : Thread Cert.InprojSIdeal.nD Cert.InprojSIdeal.τ).loc Cert.InprojSIdeal.main_v2_2)) (v3 : (c : Dev Cert.InprojSIdeal.nD) → Buf (Elt Ideal) ((c.tc : Thread Cert.InprojSIdeal.nD Cert.InprojSIdeal.τ).loc Cert.InprojSIdeal.main_v2_3)) (v4 : (c : Dev Cert.InprojSIdeal.nD) → Buf (Elt Ideal) ((c.tc : Thread Cert.InprojSIdeal.nD Cert.InprojSIdeal.τ).loc Cert.InprojSIdeal.main_v2_4)) (v5 : (c : Dev Cert.InprojSIdeal.nD) → Buf (Elt Ideal) ((c.tc : Thread Cert.InprojSIdeal.nD Cert.InprojSIdeal.τ).loc Cert.InprojSIdeal.main_v2_5)) (v6 : (c : Dev Cert.InprojSIdeal.nD) → Buf (Elt Ideal) ((c.tc : Thread Cert.InprojSIdeal.nD Cert.InprojSIdeal.τ).loc Cert.InprojSIdeal.main_v2_6)) (v7 : (c : Dev Cert.InprojSIdeal.nD) → Buf (Elt Ideal) ((c.tc : Thread Cert.InprojSIdeal.nD Cert.InprojSIdeal.τ).loc Cert.InprojSIdeal.main_v2_7)) (v8 : (c : Dev Cert.InprojSIdeal.nD) → Buf (Elt Ideal) ((c.tc : Thread Cert.InprojSIdeal.nD Cert.InprojSIdeal.τ).loc Cert.InprojSIdeal.main_v2_8)),
      θ_run (Cert.InprojSIdeal.defs (F := Ideal)) (onTc (τ := Cert.InprojSIdeal.τ) (Cert.InprojSIdeal.main (F := Ideal))) ⟨m, fun _ => 0, g⟩ (fun r => ∀ c : Dev Cert.InprojSIdeal.nD,
          r.2.mem ((c.tc : Thread Cert.InprojSIdeal.nD Cert.InprojSIdeal.τ).loc Cert.InprojSIdeal.main_v2_0) = v0 c
          ∧ r.2.mem ((c.tc : Thread Cert.InprojSIdeal.nD Cert.InprojSIdeal.τ).loc Cert.InprojSIdeal.main_v2_1) = v1 c
          ∧ r.2.mem ((c.tc : Thread Cert.InprojSIdeal.nD Cert.InprojSIdeal.τ).loc Cert.InprojSIdeal.main_v2_2) = v2 c
          ∧ r.2.mem ((c.tc : Thread Cert.InprojSIdeal.nD Cert.InprojSIdeal.τ).loc Cert.InprojSIdeal.main_v2_3) = v3 c
          ∧ r.2.mem ((c.tc : Thread Cert.InprojSIdeal.nD Cert.InprojSIdeal.τ).loc Cert.InprojSIdeal.main_v2_4) = v4 c
          ∧ r.2.mem ((c.tc : Thread Cert.InprojSIdeal.nD Cert.InprojSIdeal.τ).loc Cert.InprojSIdeal.main_v2_5) = v5 c
          ∧ r.2.mem ((c.tc : Thread Cert.InprojSIdeal.nD Cert.InprojSIdeal.τ).loc Cert.InprojSIdeal.main_v2_6) = v6 c
          ∧ r.2.mem ((c.tc : Thread Cert.InprojSIdeal.nD Cert.InprojSIdeal.τ).loc Cert.InprojSIdeal.main_v2_7) = v7 c
          ∧ r.2.mem ((c.tc : Thread Cert.InprojSIdeal.nD Cert.InprojSIdeal.τ).loc Cert.InprojSIdeal.main_v2_8) = v8 c
          ∧ r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
          ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
          ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2))
      ∧ θ_run (Cert.InprojSRefIdeal.defs (F := Ideal)) (onTc (τ := Cert.InprojSRefIdeal.τ) (Cert.InprojSRefIdeal.main (F := Ideal))) ⟨m', fun _ => 0, g'⟩ (fun r => ∀ c : Dev Cert.InprojSRefIdeal.nD,
          r.2.mem ((c.tc : Thread Cert.InprojSRefIdeal.nD Cert.InprojSRefIdeal.τ).loc Cert.InprojSRefIdeal.main_v14) = v0 c
          ∧ r.2.mem ((c.tc : Thread Cert.InprojSRefIdeal.nD Cert.InprojSRefIdeal.τ).loc Cert.InprojSRefIdeal.main_v34) = v1 c
          ∧ r.2.mem ((c.tc : Thread Cert.InprojSRefIdeal.nD Cert.InprojSRefIdeal.τ).loc Cert.InprojSRefIdeal.main_v37) = v2 c
          ∧ r.2.mem ((c.tc : Thread Cert.InprojSRefIdeal.nD Cert.InprojSRefIdeal.τ).loc Cert.InprojSRefIdeal.main_v17) = v3 c
          ∧ r.2.mem ((c.tc : Thread Cert.InprojSRefIdeal.nD Cert.InprojSRefIdeal.τ).loc Cert.InprojSRefIdeal.main_v18) = v4 c
          ∧ r.2.mem ((c.tc : Thread Cert.InprojSRefIdeal.nD Cert.InprojSRefIdeal.τ).loc Cert.InprojSRefIdeal.main_v38) = v5 c
          ∧ r.2.mem ((c.tc : Thread Cert.InprojSRefIdeal.nD Cert.InprojSRefIdeal.τ).loc Cert.InprojSRefIdeal.main_v39) = v6 c
          ∧ r.2.mem ((c.tc : Thread Cert.InprojSRefIdeal.nD Cert.InprojSRefIdeal.τ).loc Cert.InprojSRefIdeal.main_v46) = v7 c
          ∧ r.2.mem ((c.tc : Thread Cert.InprojSRefIdeal.nD Cert.InprojSRefIdeal.τ).loc Cert.InprojSRefIdeal.main_v53) = v8 c
          ∧ r.2.mem ((c.tc : Thread Cert.InprojSRefIdeal.nD Cert.InprojSRefIdeal.τ).loc Cert.InprojSRefIdeal.main_arg0) = m' ((c.tc : Thread Cert.InprojSRefIdeal.nD Cert.InprojSRefIdeal.τ).loc Cert.InprojSRefIdeal.main_arg0)
          ∧ r.2.mem ((c.tc : Thread Cert.InprojSRefIdeal.nD Cert.InprojSRefIdeal.τ).loc Cert.InprojSRefIdeal.main_arg1) = m' ((c.tc : Thread Cert.InprojSRefIdeal.nD Cert.InprojSRefIdeal.τ).loc Cert.InprojSRefIdeal.main_arg1)
          ∧ r.2.mem ((c.tc : Thread Cert.InprojSRefIdeal.nD Cert.InprojSRefIdeal.τ).loc Cert.InprojSRefIdeal.main_arg2) = m' ((c.tc : Thread Cert.InprojSRefIdeal.nD Cert.InprojSRefIdeal.τ).loc Cert.InprojSRefIdeal.main_arg2))

def preserves_PleS_PleSIdeal : Prop :=
  True

def algebraic_PleSIdeal_PleSRefIdeal [hPleSIdeal : Cert.PleSIdeal.Facts] [hPleSRefIdeal : Cert.PleSRefIdeal.Facts] : Prop :=
  ∀ (m : (ℓ : Loc Cert.PleSIdeal.nD Cert.PleSIdeal.τ Cert.PleSIdeal.sig) → Buf (Elt Ideal) ℓ) (g : Dev Cert.PleSIdeal.nD → PrngReg)
    (m' : (ℓ : Loc Cert.PleSRefIdeal.nD Cert.PleSRefIdeal.τ Cert.PleSRefIdeal.sig) → Buf (Elt Ideal) ℓ) (g' : Dev Cert.PleSRefIdeal.nD → PrngReg), Pre_PleSIdeal m →
    (∀ c : Dev Cert.PleSIdeal.nD,
      m' ((c.tc : Thread Cert.PleSRefIdeal.nD Cert.PleSRefIdeal.τ).loc Cert.PleSRefIdeal.main_arg0) = m ((c.tc : Thread Cert.PleSIdeal.nD Cert.PleSIdeal.τ).loc Cert.PleSIdeal.main_arg0)
      ∧ m' ((c.tc : Thread Cert.PleSRefIdeal.nD Cert.PleSRefIdeal.τ).loc Cert.PleSRefIdeal.main_arg1) = m ((c.tc : Thread Cert.PleSIdeal.nD Cert.PleSIdeal.τ).loc Cert.PleSIdeal.main_arg1)
      ∧ m' ((c.tc : Thread Cert.PleSRefIdeal.nD Cert.PleSRefIdeal.τ).loc Cert.PleSRefIdeal.main_arg2) = m ((c.tc : Thread Cert.PleSIdeal.nD Cert.PleSIdeal.τ).loc Cert.PleSIdeal.main_arg2)
      ∧ m' ((c.tc : Thread Cert.PleSRefIdeal.nD Cert.PleSRefIdeal.τ).loc Cert.PleSRefIdeal.main_arg3) = m ((c.tc : Thread Cert.PleSIdeal.nD Cert.PleSIdeal.τ).loc Cert.PleSIdeal.main_arg3)
      ∧ m' ((c.tc : Thread Cert.PleSRefIdeal.nD Cert.PleSRefIdeal.τ).loc Cert.PleSRefIdeal.main_arg4) = m ((c.tc : Thread Cert.PleSIdeal.nD Cert.PleSIdeal.τ).loc Cert.PleSIdeal.main_arg4)
      ∧ m' ((c.tc : Thread Cert.PleSRefIdeal.nD Cert.PleSRefIdeal.τ).loc Cert.PleSRefIdeal.main_arg5) = m ((c.tc : Thread Cert.PleSIdeal.nD Cert.PleSIdeal.τ).loc Cert.PleSIdeal.main_arg5)) →
    ∃ (v0 : (c : Dev Cert.PleSIdeal.nD) → Buf (Elt Ideal) ((c.tc : Thread Cert.PleSIdeal.nD Cert.PleSIdeal.τ).loc Cert.PleSIdeal.main_v4)),
      θ_run (Cert.PleSIdeal.defs (F := Ideal)) (onTc (τ := Cert.PleSIdeal.τ) (Cert.PleSIdeal.main (F := Ideal))) ⟨m, fun _ => 0, g⟩ (fun r => ∀ c : Dev Cert.PleSIdeal.nD,
          r.2.mem ((c.tc : Thread Cert.PleSIdeal.nD Cert.PleSIdeal.τ).loc Cert.PleSIdeal.main_v4) = v0 c
          ∧ r.2.mem ((c.tc : Thread Cert.PleSIdeal.nD Cert.PleSIdeal.τ).loc Cert.PleSIdeal.main_arg0) = m ((c.tc : Thread Cert.PleSIdeal.nD Cert.PleSIdeal.τ).loc Cert.PleSIdeal.main_arg0)
          ∧ r.2.mem ((c.tc : Thread Cert.PleSIdeal.nD Cert.PleSIdeal.τ).loc Cert.PleSIdeal.main_arg1) = m ((c.tc : Thread Cert.PleSIdeal.nD Cert.PleSIdeal.τ).loc Cert.PleSIdeal.main_arg1)
          ∧ r.2.mem ((c.tc : Thread Cert.PleSIdeal.nD Cert.PleSIdeal.τ).loc Cert.PleSIdeal.main_arg2) = m ((c.tc : Thread Cert.PleSIdeal.nD Cert.PleSIdeal.τ).loc Cert.PleSIdeal.main_arg2)
          ∧ r.2.mem ((c.tc : Thread Cert.PleSIdeal.nD Cert.PleSIdeal.τ).loc Cert.PleSIdeal.main_arg3) = m ((c.tc : Thread Cert.PleSIdeal.nD Cert.PleSIdeal.τ).loc Cert.PleSIdeal.main_arg3)
          ∧ r.2.mem ((c.tc : Thread Cert.PleSIdeal.nD Cert.PleSIdeal.τ).loc Cert.PleSIdeal.main_arg4) = m ((c.tc : Thread Cert.PleSIdeal.nD Cert.PleSIdeal.τ).loc Cert.PleSIdeal.main_arg4)
          ∧ r.2.mem ((c.tc : Thread Cert.PleSIdeal.nD Cert.PleSIdeal.τ).loc Cert.PleSIdeal.main_arg5) = m ((c.tc : Thread Cert.PleSIdeal.nD Cert.PleSIdeal.τ).loc Cert.PleSIdeal.main_arg5))
      ∧ θ_run (Cert.PleSRefIdeal.defs (F := Ideal)) (onTc (τ := Cert.PleSRefIdeal.τ) (Cert.PleSRefIdeal.main (F := Ideal))) ⟨m', fun _ => 0, g'⟩ (fun r => ∀ c : Dev Cert.PleSRefIdeal.nD,
          r.2.mem ((c.tc : Thread Cert.PleSRefIdeal.nD Cert.PleSRefIdeal.τ).loc Cert.PleSRefIdeal.main_v35) = v0 c
          ∧ r.2.mem ((c.tc : Thread Cert.PleSRefIdeal.nD Cert.PleSRefIdeal.τ).loc Cert.PleSRefIdeal.main_arg0) = m' ((c.tc : Thread Cert.PleSRefIdeal.nD Cert.PleSRefIdeal.τ).loc Cert.PleSRefIdeal.main_arg0)
          ∧ r.2.mem ((c.tc : Thread Cert.PleSRefIdeal.nD Cert.PleSRefIdeal.τ).loc Cert.PleSRefIdeal.main_arg1) = m' ((c.tc : Thread Cert.PleSRefIdeal.nD Cert.PleSRefIdeal.τ).loc Cert.PleSRefIdeal.main_arg1)
          ∧ r.2.mem ((c.tc : Thread Cert.PleSRefIdeal.nD Cert.PleSRefIdeal.τ).loc Cert.PleSRefIdeal.main_arg2) = m' ((c.tc : Thread Cert.PleSRefIdeal.nD Cert.PleSRefIdeal.τ).loc Cert.PleSRefIdeal.main_arg2)
          ∧ r.2.mem ((c.tc : Thread Cert.PleSRefIdeal.nD Cert.PleSRefIdeal.τ).loc Cert.PleSRefIdeal.main_arg3) = m' ((c.tc : Thread Cert.PleSRefIdeal.nD Cert.PleSRefIdeal.τ).loc Cert.PleSRefIdeal.main_arg3)
          ∧ r.2.mem ((c.tc : Thread Cert.PleSRefIdeal.nD Cert.PleSRefIdeal.τ).loc Cert.PleSRefIdeal.main_arg4) = m' ((c.tc : Thread Cert.PleSRefIdeal.nD Cert.PleSRefIdeal.τ).loc Cert.PleSRefIdeal.main_arg4)
          ∧ r.2.mem ((c.tc : Thread Cert.PleSRefIdeal.nD Cert.PleSRefIdeal.τ).loc Cert.PleSRefIdeal.main_arg5) = m' ((c.tc : Thread Cert.PleSRefIdeal.nD Cert.PleSRefIdeal.τ).loc Cert.PleSRefIdeal.main_arg5))

def preserves_RnnS_RnnSIdeal : Prop :=
  True

def algebraic_RnnSIdeal_RnnSRefIdeal [hRnnSIdeal : Cert.RnnSIdeal.Facts] [hRnnSRefIdeal : Cert.RnnSRefIdeal.Facts] : Prop :=
  ∀ (m : (ℓ : Loc Cert.RnnSIdeal.nD Cert.RnnSIdeal.τ Cert.RnnSIdeal.sig) → Buf (Elt Ideal) ℓ) (g : Dev Cert.RnnSIdeal.nD → PrngReg)
    (m' : (ℓ : Loc Cert.RnnSRefIdeal.nD Cert.RnnSRefIdeal.τ Cert.RnnSRefIdeal.sig) → Buf (Elt Ideal) ℓ) (g' : Dev Cert.RnnSRefIdeal.nD → PrngReg), Pre_RnnSIdeal m →
    (∀ c : Dev Cert.RnnSIdeal.nD,
      m' ((c.tc : Thread Cert.RnnSRefIdeal.nD Cert.RnnSRefIdeal.τ).loc Cert.RnnSRefIdeal.main_arg0) = m ((c.tc : Thread Cert.RnnSIdeal.nD Cert.RnnSIdeal.τ).loc Cert.RnnSIdeal.main_arg0)
      ∧ m' ((c.tc : Thread Cert.RnnSRefIdeal.nD Cert.RnnSRefIdeal.τ).loc Cert.RnnSRefIdeal.main_arg1) = m ((c.tc : Thread Cert.RnnSIdeal.nD Cert.RnnSIdeal.τ).loc Cert.RnnSIdeal.main_arg1)
      ∧ m' ((c.tc : Thread Cert.RnnSRefIdeal.nD Cert.RnnSRefIdeal.τ).loc Cert.RnnSRefIdeal.main_arg2) = m ((c.tc : Thread Cert.RnnSIdeal.nD Cert.RnnSIdeal.τ).loc Cert.RnnSIdeal.main_arg2)
      ∧ m' ((c.tc : Thread Cert.RnnSRefIdeal.nD Cert.RnnSRefIdeal.τ).loc Cert.RnnSRefIdeal.main_arg3) = m ((c.tc : Thread Cert.RnnSIdeal.nD Cert.RnnSIdeal.τ).loc Cert.RnnSIdeal.main_arg3)
      ∧ m' ((c.tc : Thread Cert.RnnSRefIdeal.nD Cert.RnnSRefIdeal.τ).loc Cert.RnnSRefIdeal.main_arg4) = m ((c.tc : Thread Cert.RnnSIdeal.nD Cert.RnnSIdeal.τ).loc Cert.RnnSIdeal.main_arg4)
      ∧ m' ((c.tc : Thread Cert.RnnSRefIdeal.nD Cert.RnnSRefIdeal.τ).loc Cert.RnnSRefIdeal.main_arg5) = m ((c.tc : Thread Cert.RnnSIdeal.nD Cert.RnnSIdeal.τ).loc Cert.RnnSIdeal.main_arg5)
      ∧ m' ((c.tc : Thread Cert.RnnSRefIdeal.nD Cert.RnnSRefIdeal.τ).loc Cert.RnnSRefIdeal.main_arg6) = m ((c.tc : Thread Cert.RnnSIdeal.nD Cert.RnnSIdeal.τ).loc Cert.RnnSIdeal.main_arg6)
      ∧ m' ((c.tc : Thread Cert.RnnSRefIdeal.nD Cert.RnnSRefIdeal.τ).loc Cert.RnnSRefIdeal.main_arg7) = m ((c.tc : Thread Cert.RnnSIdeal.nD Cert.RnnSIdeal.τ).loc Cert.RnnSIdeal.main_arg7)
      ∧ m' ((c.tc : Thread Cert.RnnSRefIdeal.nD Cert.RnnSRefIdeal.τ).loc Cert.RnnSRefIdeal.main_arg8) = m ((c.tc : Thread Cert.RnnSIdeal.nD Cert.RnnSIdeal.τ).loc Cert.RnnSIdeal.main_arg8)
      ∧ m' ((c.tc : Thread Cert.RnnSRefIdeal.nD Cert.RnnSRefIdeal.τ).loc Cert.RnnSRefIdeal.main_arg9) = m ((c.tc : Thread Cert.RnnSIdeal.nD Cert.RnnSIdeal.τ).loc Cert.RnnSIdeal.main_arg9)
      ∧ m' ((c.tc : Thread Cert.RnnSRefIdeal.nD Cert.RnnSRefIdeal.τ).loc Cert.RnnSRefIdeal.main_arg10) = m ((c.tc : Thread Cert.RnnSIdeal.nD Cert.RnnSIdeal.τ).loc Cert.RnnSIdeal.main_arg10)) →
    ∃ (v0 : (c : Dev Cert.RnnSIdeal.nD) → Buf (Elt Ideal) ((c.tc : Thread Cert.RnnSIdeal.nD Cert.RnnSIdeal.τ).loc Cert.RnnSIdeal.main_v30_0)) (v1 : (c : Dev Cert.RnnSIdeal.nD) → Buf (Elt Ideal) ((c.tc : Thread Cert.RnnSIdeal.nD Cert.RnnSIdeal.τ).loc Cert.RnnSIdeal.main_v30_1)) (v2 : (c : Dev Cert.RnnSIdeal.nD) → Buf (Elt Ideal) ((c.tc : Thread Cert.RnnSIdeal.nD Cert.RnnSIdeal.τ).loc Cert.RnnSIdeal.main_v30_2)),
      θ_run (Cert.RnnSIdeal.defs (F := Ideal)) (onTc (τ := Cert.RnnSIdeal.τ) (Cert.RnnSIdeal.main (F := Ideal))) ⟨m, fun _ => 0, g⟩ (fun r => ∀ c : Dev Cert.RnnSIdeal.nD,
          r.2.mem ((c.tc : Thread Cert.RnnSIdeal.nD Cert.RnnSIdeal.τ).loc Cert.RnnSIdeal.main_v30_0) = v0 c
          ∧ r.2.mem ((c.tc : Thread Cert.RnnSIdeal.nD Cert.RnnSIdeal.τ).loc Cert.RnnSIdeal.main_v30_1) = v1 c
          ∧ r.2.mem ((c.tc : Thread Cert.RnnSIdeal.nD Cert.RnnSIdeal.τ).loc Cert.RnnSIdeal.main_v30_2) = v2 c
          ∧ r.2.mem ((c.tc : Thread Cert.RnnSIdeal.nD Cert.RnnSIdeal.τ).loc Cert.RnnSIdeal.main_arg0) = m ((c.tc : Thread Cert.RnnSIdeal.nD Cert.RnnSIdeal.τ).loc Cert.RnnSIdeal.main_arg0)
          ∧ r.2.mem ((c.tc : Thread Cert.RnnSIdeal.nD Cert.RnnSIdeal.τ).loc Cert.RnnSIdeal.main_arg1) = m ((c.tc : Thread Cert.RnnSIdeal.nD Cert.RnnSIdeal.τ).loc Cert.RnnSIdeal.main_arg1)
          ∧ r.2.mem ((c.tc : Thread Cert.RnnSIdeal.nD Cert.RnnSIdeal.τ).loc Cert.RnnSIdeal.main_arg2) = m ((c.tc : Thread Cert.RnnSIdeal.nD Cert.RnnSIdeal.τ).loc Cert.RnnSIdeal.main_arg2)
          ∧ r.2.mem ((c.tc : Thread Cert.RnnSIdeal.nD Cert.RnnSIdeal.τ).loc Cert.RnnSIdeal.main_arg3) = m ((c.tc : Thread Cert.RnnSIdeal.nD Cert.RnnSIdeal.τ).loc Cert.RnnSIdeal.main_arg3)
          ∧ r.2.mem ((c.tc : Thread Cert.RnnSIdeal.nD Cert.RnnSIdeal.τ).loc Cert.RnnSIdeal.main_arg4) = m ((c.tc : Thread Cert.RnnSIdeal.nD Cert.RnnSIdeal.τ).loc Cert.RnnSIdeal.main_arg4)
          ∧ r.2.mem ((c.tc : Thread Cert.RnnSIdeal.nD Cert.RnnSIdeal.τ).loc Cert.RnnSIdeal.main_arg5) = m ((c.tc : Thread Cert.RnnSIdeal.nD Cert.RnnSIdeal.τ).loc Cert.RnnSIdeal.main_arg5)
          ∧ r.2.mem ((c.tc : Thread Cert.RnnSIdeal.nD Cert.RnnSIdeal.τ).loc Cert.RnnSIdeal.main_arg6) = m ((c.tc : Thread Cert.RnnSIdeal.nD Cert.RnnSIdeal.τ).loc Cert.RnnSIdeal.main_arg6)
          ∧ r.2.mem ((c.tc : Thread Cert.RnnSIdeal.nD Cert.RnnSIdeal.τ).loc Cert.RnnSIdeal.main_arg7) = m ((c.tc : Thread Cert.RnnSIdeal.nD Cert.RnnSIdeal.τ).loc Cert.RnnSIdeal.main_arg7)
          ∧ r.2.mem ((c.tc : Thread Cert.RnnSIdeal.nD Cert.RnnSIdeal.τ).loc Cert.RnnSIdeal.main_arg8) = m ((c.tc : Thread Cert.RnnSIdeal.nD Cert.RnnSIdeal.τ).loc Cert.RnnSIdeal.main_arg8)
          ∧ r.2.mem ((c.tc : Thread Cert.RnnSIdeal.nD Cert.RnnSIdeal.τ).loc Cert.RnnSIdeal.main_arg9) = m ((c.tc : Thread Cert.RnnSIdeal.nD Cert.RnnSIdeal.τ).loc Cert.RnnSIdeal.main_arg9)
          ∧ r.2.mem ((c.tc : Thread Cert.RnnSIdeal.nD Cert.RnnSIdeal.τ).loc Cert.RnnSIdeal.main_arg10) = m ((c.tc : Thread Cert.RnnSIdeal.nD Cert.RnnSIdeal.τ).loc Cert.RnnSIdeal.main_arg10))
      ∧ θ_run (Cert.RnnSRefIdeal.defs (F := Ideal)) (onTc (τ := Cert.RnnSRefIdeal.τ) (Cert.RnnSRefIdeal.main (F := Ideal))) ⟨m', fun _ => 0, g'⟩ (fun r => ∀ c : Dev Cert.RnnSRefIdeal.nD,
          r.2.mem ((c.tc : Thread Cert.RnnSRefIdeal.nD Cert.RnnSRefIdeal.τ).loc Cert.RnnSRefIdeal.main_v146) = v0 c
          ∧ r.2.mem ((c.tc : Thread Cert.RnnSRefIdeal.nD Cert.RnnSRefIdeal.τ).loc Cert.RnnSRefIdeal.main_v142) = v1 c
          ∧ r.2.mem ((c.tc : Thread Cert.RnnSRefIdeal.nD Cert.RnnSRefIdeal.τ).loc Cert.RnnSRefIdeal.main_v147) = v2 c
          ∧ r.2.mem ((c.tc : Thread Cert.RnnSRefIdeal.nD Cert.RnnSRefIdeal.τ).loc Cert.RnnSRefIdeal.main_arg0) = m' ((c.tc : Thread Cert.RnnSRefIdeal.nD Cert.RnnSRefIdeal.τ).loc Cert.RnnSRefIdeal.main_arg0)
          ∧ r.2.mem ((c.tc : Thread Cert.RnnSRefIdeal.nD Cert.RnnSRefIdeal.τ).loc Cert.RnnSRefIdeal.main_arg1) = m' ((c.tc : Thread Cert.RnnSRefIdeal.nD Cert.RnnSRefIdeal.τ).loc Cert.RnnSRefIdeal.main_arg1)
          ∧ r.2.mem ((c.tc : Thread Cert.RnnSRefIdeal.nD Cert.RnnSRefIdeal.τ).loc Cert.RnnSRefIdeal.main_arg2) = m' ((c.tc : Thread Cert.RnnSRefIdeal.nD Cert.RnnSRefIdeal.τ).loc Cert.RnnSRefIdeal.main_arg2)
          ∧ r.2.mem ((c.tc : Thread Cert.RnnSRefIdeal.nD Cert.RnnSRefIdeal.τ).loc Cert.RnnSRefIdeal.main_arg3) = m' ((c.tc : Thread Cert.RnnSRefIdeal.nD Cert.RnnSRefIdeal.τ).loc Cert.RnnSRefIdeal.main_arg3)
          ∧ r.2.mem ((c.tc : Thread Cert.RnnSRefIdeal.nD Cert.RnnSRefIdeal.τ).loc Cert.RnnSRefIdeal.main_arg4) = m' ((c.tc : Thread Cert.RnnSRefIdeal.nD Cert.RnnSRefIdeal.τ).loc Cert.RnnSRefIdeal.main_arg4)
          ∧ r.2.mem ((c.tc : Thread Cert.RnnSRefIdeal.nD Cert.RnnSRefIdeal.τ).loc Cert.RnnSRefIdeal.main_arg5) = m' ((c.tc : Thread Cert.RnnSRefIdeal.nD Cert.RnnSRefIdeal.τ).loc Cert.RnnSRefIdeal.main_arg5)
          ∧ r.2.mem ((c.tc : Thread Cert.RnnSRefIdeal.nD Cert.RnnSRefIdeal.τ).loc Cert.RnnSRefIdeal.main_arg6) = m' ((c.tc : Thread Cert.RnnSRefIdeal.nD Cert.RnnSRefIdeal.τ).loc Cert.RnnSRefIdeal.main_arg6)
          ∧ r.2.mem ((c.tc : Thread Cert.RnnSRefIdeal.nD Cert.RnnSRefIdeal.τ).loc Cert.RnnSRefIdeal.main_arg7) = m' ((c.tc : Thread Cert.RnnSRefIdeal.nD Cert.RnnSRefIdeal.τ).loc Cert.RnnSRefIdeal.main_arg7)
          ∧ r.2.mem ((c.tc : Thread Cert.RnnSRefIdeal.nD Cert.RnnSRefIdeal.τ).loc Cert.RnnSRefIdeal.main_arg8) = m' ((c.tc : Thread Cert.RnnSRefIdeal.nD Cert.RnnSRefIdeal.τ).loc Cert.RnnSRefIdeal.main_arg8)
          ∧ r.2.mem ((c.tc : Thread Cert.RnnSRefIdeal.nD Cert.RnnSRefIdeal.τ).loc Cert.RnnSRefIdeal.main_arg9) = m' ((c.tc : Thread Cert.RnnSRefIdeal.nD Cert.RnnSRefIdeal.τ).loc Cert.RnnSRefIdeal.main_arg9)
          ∧ r.2.mem ((c.tc : Thread Cert.RnnSRefIdeal.nD Cert.RnnSRefIdeal.τ).loc Cert.RnnSRefIdeal.main_arg10) = m' ((c.tc : Thread Cert.RnnSRefIdeal.nD Cert.RnnSRefIdeal.τ).loc Cert.RnnSRefIdeal.main_arg10))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hPle : Cert.Ple.Facts) (hPleIdeal : Cert.PleIdeal.Facts) (hPleRefIdeal : Cert.PleRefIdeal.Facts) (hInprojS : Cert.InprojS.Facts) (hInprojSIdeal : Cert.InprojSIdeal.Facts) (hInprojSRefIdeal : Cert.InprojSRefIdeal.Facts) (hPleS : Cert.PleS.Facts) (hPleSIdeal : Cert.PleSIdeal.Facts) (hPleSRefIdeal : Cert.PleSRefIdeal.Facts) (hRnnS : Cert.RnnS.Facts) (hRnnSIdeal : Cert.RnnSIdeal.Facts) (hRnnSRefIdeal : Cert.RnnSRefIdeal.Facts) (hPre_finite_scores : Cert.Pre_finite_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ple (hPle := hPle)
    ∧ quiescent_PleIdeal (hPleIdeal := hPleIdeal)
    ∧ quiescent_PleRefIdeal (hPleRefIdeal := hPleRefIdeal)
    ∧ quiescent_InprojS (hInprojS := hInprojS)
    ∧ quiescent_InprojSIdeal (hInprojSIdeal := hInprojSIdeal)
    ∧ quiescent_InprojSRefIdeal (hInprojSRefIdeal := hInprojSRefIdeal)
    ∧ quiescent_PleS (hPleS := hPleS)
    ∧ quiescent_PleSIdeal (hPleSIdeal := hPleSIdeal)
    ∧ quiescent_PleSRefIdeal (hPleSRefIdeal := hPleSRefIdeal)
    ∧ quiescent_RnnS (hRnnS := hRnnS)
    ∧ quiescent_RnnSIdeal (hRnnSIdeal := hRnnSIdeal)
    ∧ quiescent_RnnSRefIdeal (hRnnSRefIdeal := hRnnSRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Ple_PleIdeal
    ∧ algebraic_PleIdeal_PleRefIdeal (hPleIdeal := hPleIdeal) (hPleRefIdeal := hPleRefIdeal)
    ∧ preserves_InprojS_InprojSIdeal
    ∧ algebraic_InprojSIdeal_InprojSRefIdeal (hInprojSIdeal := hInprojSIdeal) (hInprojSRefIdeal := hInprojSRefIdeal)
    ∧ preserves_PleS_PleSIdeal
    ∧ algebraic_PleSIdeal_PleSRefIdeal (hPleSIdeal := hPleSIdeal) (hPleSRefIdeal := hPleSRefIdeal)
    ∧ preserves_RnnS_RnnSIdeal
    ∧ algebraic_RnnSIdeal_RnnSRefIdeal (hRnnSIdeal := hRnnSIdeal) (hRnnSRefIdeal := hRnnSRefIdeal)
-- ==== Pre_finite_scores.lean ====
abbrev S4x8192x1024 : Shape := ⟨3, ![4, 8192, 1024]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel

variable [Facts]

def fn {F : FTy → Type} [FloatOps F] (main_arg0 : FVec F S4x8192x1024 .bf16) (main_arg1 : FVec F S4x8192x1024 .bf16) (main_arg2 : FVec F S4x8192x1024 .bf16) : IVec S_ 1 :=
  let main_v0 : FVec F S4x8192x1024 .f32 := (extf .f32 · bitsLt_bf16_f32) main_arg0
  let main_v1 : FVec F S4x8192x1024 .f32 := (extf .f32 · bitsLt_bf16_f32) main_arg1
  let main_v2 : FVec F S4x8192x1024 .f32 := Host.absf main_v0
  let main_cst : FVec F S_ .f32 := constant S_ .f32 0x7F800000#32
  let main_v3 : FVec F S4x8192x1024 .f32 := broadcastInDim S4x8192x1024 ![] bcast_S_S4x8192x1024 main_cst
  let main_v4 : IVec S4x8192x1024 1 := cmpf .olt main_v2 main_v3
  let main_c : IVec S_ 1 := constantI S_ 1 1#1
  let main_v5 : IVec S_ 1 := (fun x v => Host.reduce IntOp.andi x v reducesTo_S4x8192x1024_S_d0_1_2 h_S_) main_v4 main_c
  let main_v6 : FVec F S4x8192x1024 .f32 := Host.absf main_v1
  let main_cst_0 : FVec F S_ .f32 := constant S_ .f32 0x7F800000#32
  let main_v7 : FVec F S4x8192x1024 .f32 := broadcastInDim S4x8192x1024 ![] bcast_S_S4x8192x1024 main_cst_0
  let main_v8 : IVec S4x8192x1024 1 := cmpf .olt main_v6 main_v7
  let main_c_1 : IVec S_ 1 := constantI S_ 1 1#1
  let main_v9 : IVec S_ 1 := (fun x v => Host.reduce IntOp.andi x v reducesTo_S4x8192x1024_S_d0_1_2 h_S_) main_v8 main_c_1
  let main_v10 : IVec S_ 1 := andi main_v5 main_v9
  main_v10
-- ==== Attn.lean ====
abbrev S4x8192x1024 : Shape := ⟨3, ![4, 8192, 1024]⟩
abbrev S1x256x128 : Shape := ⟨3, ![1, 256, 128]⟩
abbrev S1x8192x128 : Shape := ⟨3, ![1, 8192, 128]⟩
abbrev S256x256 : Shape := ⟨2, ![256, 256]⟩
abbrev S256x128 : Shape := ⟨2, ![256, 128]⟩
abbrev S256x64 : Shape := ⟨2, ![256, 64]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x1024, .bf16⟩
  | .hbm, ⟨3, _⟩ => ⟨S4x8192x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .bf16⟩
  | .local _ .vmem, ⟨7, _⟩ => ⟨S1x256x128, .bf16⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 32], ![false, false, false]⟩

def k0_mult1 (i : grid0.Coords) : BitVec 32 :=
  let c0_i32 : BitVec 32 := 0#32
  let arg2 : BitVec 32 := BitVec.ofNat 32 (i 2).val
  let c256_i32 : BitVec 32 := 256#32
  let v0 : BitVec 32 := Scalar.muli arg2 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c256_i32_10 : BitVec 32 := 256#32
  let v38 : BitVec 32 := Scalar.muli v18 c256_i32_10
  v38
def k0_off1 (i : grid0.Coords) : Fin 3 → Nat :=
  let c0_11 : Index := 0#32
  let c0_i32 : BitVec 32 := 0#32
  let arg2 : BitVec 32 := BitVec.ofNat 32 (i 2).val
  let c256_i32 : BitVec 32 := 256#32
  let v0 : BitVec 32 := Scalar.muli arg2 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c256_i32_10 : BitVec 32 := 256#32
  let v38 : BitVec 32 := Scalar.muli v18 c256_i32_10
  let v39 : BitVec 32 := v38
  let v40 : Index := Scalar.indexCast v39
  let c0_12 : Index := 0#32
  ![0, v40.toNat, 0]
def k0_mult2 (i : grid0.Coords) : BitVec 32 :=
  let c0_i32 : BitVec 32 := 0#32
  let arg2 : BitVec 32 := BitVec.ofNat 32 (i 2).val
  let c256_i32 : BitVec 32 := 256#32
  let v0 : BitVec 32 := Scalar.muli arg2 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c256_i32_13 : BitVec 32 := 256#32
  let v43 : BitVec 32 := Scalar.muli v18 c256_i32_13
  v43
@[reducible] def k0_t1_loop (i : grid0.Coords) : Scf.Loop 32 :=
  let c0_i32_34 : BitVec 32 := 0#32
  let c0_i32 : BitVec 32 := 0#32
  let arg2 : BitVec 32 := BitVec.ofNat 32 (i 2).val
  let c256_i32 : BitVec 32 := 256#32
  let v0 : BitVec 32 := Scalar.muli arg2 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let v106 : BitVec 32 := Scalar.subi v18 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_36 : BitVec 32 := 1#32
  ⟨c0_i32_34, v110, c1_i32_36⟩
def k0_mult3 (i : grid0.Coords) (k0_t1 : Fin (k0_t1_loop i).trips) : BitVec 32 :=
  let c0_i32 : BitVec 32 := 0#32
  let arg2 : BitVec 32 := BitVec.ofNat 32 (i 2).val
  let c256_i32 : BitVec 32 := 256#32
  let v0 : BitVec 32 := Scalar.muli arg2 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c1_i32_41 : BitVec 32 := 1#32
  let v118 : BitVec 32 := Scalar.subi v18 c1_i32_41
  let c0_i32_34 : BitVec 32 := 0#32
  let c1_i32_36 : BitVec 32 := 1#32
  let arg7 : BitVec 32 := Scf.iv c0_i32_34 c1_i32_36 k0_t1
  let v119 : BitVec 32 := Scalar.subi v118 arg7
  let c256_i32_42 : BitVec 32 := 256#32
  let v120 : BitVec 32 := Scalar.muli v119 c256_i32_42
  v120
def k0_off2 (i : grid0.Coords) (k0_t1 : Fin (k0_t1_loop i).trips) : Fin 3 → Nat :=
  let c0_43 : Index := 0#32
  let c0_i32 : BitVec 32 := 0#32
  let arg2 : BitVec 32 := BitVec.ofNat 32 (i 2).val
  let c256_i32 : BitVec 32 := 256#32
  let v0 : BitVec 32 := Scalar.muli arg2 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c1_i32_41 : BitVec 32 := 1#32
  let v118 : BitVec 32 := Scalar.subi v18 c1_i32_41
  let c0_i32_34 : BitVec 32 := 0#32
  let c1_i32_36 : BitVec 32 := 1#32
  let arg7 : BitVec 32 := Scf.iv c0_i32_34 c1_i32_36 k0_t1
  let v119 : BitVec 32 := Scalar.subi v118 arg7
  let c256_i32_42 : BitVec 32 := 256#32
  let v120 : BitVec 32 := Scalar.muli v119 c256_i32_42
  let v121 : BitVec 32 := v120
  let v122 : Index := Scalar.indexCast v121
  let c0_44 : Index := 0#32
  ![0, v122.toNat, 0]
def k0_mult4 (i : grid0.Coords) (k0_t1 : Fin (k0_t1_loop i).trips) : BitVec 32 :=
  let c0_i32 : BitVec 32 := 0#32
  let arg2 : BitVec 32 := BitVec.ofNat 32 (i 2).val
  let c256_i32 : BitVec 32 := 256#32
  let v0 : BitVec 32 := Scalar.muli arg2 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c1_i32_41 : BitVec 32 := 1#32
  let v118 : BitVec 32 := Scalar.subi v18 c1_i32_41
  let c0_i32_34 : BitVec 32 := 0#32
  let c1_i32_36 : BitVec 32 := 1#32
  let arg7 : BitVec 32 := Scf.iv c0_i32_34 c1_i32_36 k0_t1
  let v119 : BitVec 32 := Scalar.subi v118 arg7
  let c256_i32_45 : BitVec 32 := 256#32
  let v125 : BitVec 32 := Scalar.muli v119 c256_i32_45
  v125
@[reducible] def k0_t2_loop (i : grid0.Coords) : Scf.Loop 32 :=
  let c0_i32_34 : BitVec 32 := 0#32
  let c0_i32 : BitVec 32 := 0#32
  let arg2 : BitVec 32 := BitVec.ofNat 32 (i 2).val
  let c256_i32 : BitVec 32 := 256#32
  let v0 : BitVec 32 := Scalar.muli arg2 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let v106 : BitVec 32 := Scalar.subi v18 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let v107 : BitVec 32 := Scalar.addi c0_i32_34 v106
  let c1_i32_37 : BitVec 32 := 1#32
  ⟨v110, v107, c1_i32_37⟩
def k0_mult5 (i : grid0.Coords) (k0_t2 : Fin (k0_t2_loop i).trips) : BitVec 32 :=
  let c0_i32 : BitVec 32 := 0#32
  let arg2 : BitVec 32 := BitVec.ofNat 32 (i 2).val
  let c256_i32 : BitVec 32 := 256#32
  let v0 : BitVec 32 := Scalar.muli arg2 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c1_i32_41 : BitVec 32 := 1#32
  let v118 : BitVec 32 := Scalar.subi v18 c1_i32_41
  let c0_i32_34 : BitVec 32 := 0#32
  let v106 : BitVec 32 := Scalar.subi v18 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg7 : BitVec 32 := Scf.iv v110 c1_i32_37 k0_t2
  let v119 : BitVec 32 := Scalar.subi v118 arg7
  let c256_i32_42 : BitVec 32 := 256#32
  let v120 : BitVec 32 := Scalar.muli v119 c256_i32_42
  v120
def k0_off3 (i : grid0.Coords) (k0_t2 : Fin (k0_t2_loop i).trips) : Fin 3 → Nat :=
  let c0_43 : Index := 0#32
  let c0_i32 : BitVec 32 := 0#32
  let arg2 : BitVec 32 := BitVec.ofNat 32 (i 2).val
  let c256_i32 : BitVec 32 := 256#32
  let v0 : BitVec 32 := Scalar.muli arg2 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c1_i32_41 : BitVec 32 := 1#32
  let v118 : BitVec 32 := Scalar.subi v18 c1_i32_41
  let c0_i32_34 : BitVec 32 := 0#32
  let v106 : BitVec 32 := Scalar.subi v18 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg7 : BitVec 32 := Scf.iv v110 c1_i32_37 k0_t2
  let v119 : BitVec 32 := Scalar.subi v118 arg7
  let c256_i32_42 : BitVec 32 := 256#32
  let v120 : BitVec 32 := Scalar.muli v119 c256_i32_42
  let v121 : BitVec 32 := v120
  let v122 : Index := Scalar.indexCast v121
  let c0_44 : Index := 0#32
  ![0, v122.toNat, 0]
def k0_mult6 (i : grid0.Coords) (k0_t2 : Fin (k0_t2_loop i).trips) : BitVec 32 :=
  let c0_i32 : BitVec 32 := 0#32
  let arg2 : BitVec 32 := BitVec.ofNat 32 (i 2).val
  let c256_i32 : BitVec 32 := 256#32
  let v0 : BitVec 32 := Scalar.muli arg2 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c1_i32_41 : BitVec 32 := 1#32
  let v118 : BitVec 32 := Scalar.subi v18 c1_i32_41
  let c0_i32_34 : BitVec 32 := 0#32
  let v106 : BitVec 32 := Scalar.subi v18 c0_i32_34
  let c1_i32_35 : BitVec 32 := 1#32
  let v108 : BitVec 32 := Scalar.divsi v106 c1_i32_35
  let v109 : BitVec 32 := Scalar.muli v108 c1_i32_35
  let v110 : BitVec 32 := Scalar.addi c0_i32_34 v109
  let c1_i32_37 : BitVec 32 := 1#32
  let arg7 : BitVec 32 := Scf.iv v110 c1_i32_37 k0_t2
  let v119 : BitVec 32 := Scalar.subi v118 arg7
  let c256_i32_45 : BitVec 32 := 256#32
  let v125 : BitVec 32 := Scalar.muli v119 c256_i32_45
  v125
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S4x8192x1024 : Shape := ⟨3, ![4, 8192, 1024]⟩
abbrev S4x8192x16x64 : Shape := ⟨4, ![4, 8192, 16, 64]⟩
abbrev S8192 : Shape := ⟨1, ![8192]⟩
abbrev S4x16x8192x8192 : Shape := ⟨4, ![4, 16, 8192, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x16x64x8192 : Shape := ⟨4, ![4, 16, 64, 8192]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x1024, .bf16⟩
  | .hbm, ⟨3, _⟩ => ⟨S4x8192x1024, .f32⟩
  | .hbm, ⟨4, _⟩ => ⟨S4x8192x16x64, .f32⟩
  | .hbm, ⟨5, _⟩ => ⟨S4x8192x1024, .f32⟩
  | .hbm, ⟨6, _⟩ => ⟨S4x8192x16x64, .f32⟩
  | .hbm, ⟨7, _⟩ => ⟨S4x8192x1024, .f32⟩
  | .hbm, ⟨8, _⟩ => ⟨S4x8192x16x64, .f32⟩
  | .hbm, ⟨9, _⟩ => ⟨S8192, .i32⟩
  | .hbm, ⟨10, _⟩ => ⟨S4x16x8192x8192, .f32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S4x16x8192x8192, .f32⟩
  | .hbm, ⟨17, _⟩ => ⟨S4x16x8192x8192, .f32⟩
  | .hbm, ⟨18, _⟩ => ⟨S_, .f32⟩
  | .hbm, ⟨19, _⟩ => ⟨S4x16x8192x8192, .f32⟩
  | .hbm, ⟨20, _⟩ => ⟨S4x16x8192x8192, .f32⟩
  | .hbm, ⟨21, _⟩ => ⟨S4x16x8192x8192, .f32⟩
  | .hbm, ⟨22, _⟩ => ⟨S4x16x8192x8192, .f32⟩
  | .hbm, ⟨23, _⟩ => ⟨S4x16x8192x8192, .i1⟩
  | .hbm, ⟨24, _⟩ => ⟨S4x16x8192x8192, .f32⟩
  | .hbm, ⟨25, _⟩ => ⟨S4x16x8192x8192, .f32⟩
  | .hbm, ⟨26, _⟩ => ⟨S4x16x8192x8192, .f32⟩
  | .hbm, ⟨27, _⟩ => ⟨S4x16x8192x8192, .f32⟩
  | .hbm, ⟨28, _⟩ => ⟨S4x16x8192x8192, .f32⟩
  | .hbm, ⟨29, _⟩ => ⟨S4x16x8192x8192, .f32⟩
  | .hbm, ⟨30, _⟩ => ⟨S4x16x8192x8192, .f32⟩
  | .hbm, ⟨31, _⟩ => ⟨S4x16x8192x8192, .f32⟩
  | .hbm, ⟨32, _⟩ => ⟨S4x16x8192x8192, .f32⟩
  | .hbm, ⟨33, _⟩ => ⟨S_, .f32⟩
  | .hbm, ⟨34, _⟩ => ⟨S_, .f32⟩
  | .hbm, ⟨35, _⟩ => ⟨S4x16x8192x8192, .i1⟩
  | .hbm, ⟨36, _⟩ => ⟨S4x16x8192x8192, .f32⟩
  | .hbm, ⟨37, _⟩ => ⟨S4x16x8192x8192, .f32⟩
  | .hbm, ⟨38, _⟩ => ⟨S_, .f32⟩
  | .hbm, ⟨39, _⟩ => ⟨S_, .f32⟩
  | .hbm, ⟨40, _⟩ => ⟨S4x16x8192x8192, .f32⟩
  | .hbm, ⟨41, _⟩ => ⟨S4x16x8192x8192, .f32⟩
  | .hbm, ⟨42, _⟩ => ⟨S4x16x8192x8192, .f32⟩
  | .hbm, ⟨43, _⟩ => ⟨S_, .f32⟩
  | .hbm, ⟨44, _⟩ => ⟨S4x16x8192x8192, .f32⟩
  | .hbm, ⟨45, _⟩ => ⟨S4x16x8192x8192, .f32⟩
  | .hbm, ⟨46, _⟩ => ⟨S4x16x8192x8192, .f32⟩
  | .hbm, ⟨47, _⟩ => ⟨S4x16x8192x8192, .f32⟩
  | .hbm, ⟨48, _⟩ => ⟨S4x16x8192x8192, .i1⟩
  | .hbm, ⟨49, _⟩ => ⟨S4x16x8192x8192, .f32⟩
  | .hbm, ⟨50, _⟩ => ⟨S4x16x8192x8192, .f32⟩
  | .hbm, ⟨51, _⟩ => ⟨S4x16x8192x8192, .f32⟩
  | .hbm, ⟨52, _⟩ => ⟨S4x16x8192x8192, .f32⟩
  | .hbm, ⟨53, _⟩ => ⟨S4x16x8192x8192, .f32⟩
  | .hbm, ⟨54, _⟩ => ⟨S4x16x8192x8192, .f32⟩
  | .hbm, ⟨55, _⟩ => ⟨S4x16x8192x8192, .f32⟩
  | .hbm, ⟨56, _⟩ => ⟨S4x16x8192x8192, .f32⟩
  | .hbm, ⟨57, _⟩ => ⟨S4x16x8192x8192, .f32⟩
  | .hbm, ⟨58, _⟩ => ⟨S4x16x8192x8192, .f32⟩
  | .hbm, ⟨59, _⟩ => ⟨S4x16x8192x8192, .f32⟩
  | .hbm, ⟨60, _⟩ => ⟨S_, .f32⟩
  | .hbm, ⟨61, _⟩ => ⟨S_, .f32⟩
  | .hbm, ⟨62, _⟩ => ⟨S4x16x8192x8192, .i1⟩
  | .hbm, ⟨63, _⟩ => ⟨S4x16x8192x8192, .f32⟩
  | .hbm, ⟨64, _⟩ => ⟨S4x16x8192x8192, .f32⟩
  | .hbm, ⟨65, _⟩ => ⟨S4x16x64x8192, .f32⟩
  | .hbm, ⟨66, _⟩ => ⟨S4x8192x16x64, .f32⟩
  | .hbm, ⟨67, _⟩ => ⟨S4x8192x1024, .f32⟩
  | .hbm, ⟨68, _⟩ => ⟨S4x8192x1024, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v14 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v15 : Ref sig .tc := ⟨.hbm, 37, rfl⟩
abbrev main_call2_cst : Ref sig .tc := ⟨.hbm, 38, rfl⟩
abbrev main_call2_v0 : Ref sig .tc := ⟨.hbm, 39, rfl⟩
abbrev main_v16 : Ref sig .tc := ⟨.hbm, 40, rfl⟩
abbrev main_v17 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_0 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x7168 : Shape := ⟨2, ![1024, 7168]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 14
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7168, .f32⟩
  | .hbm, ⟨3, _⟩ => ⟨S1x1024, .f32⟩
  | .hbm, ⟨4, _⟩ => ⟨S1024x7168, .bf16⟩
  | .hbm, ⟨5, _⟩ => ⟨S32768x1024, .f32⟩
  | .hbm, ⟨6, _⟩ => ⟨S32768x1024, .bf16⟩
  | .hbm, ⟨7, _⟩ => ⟨S32768x1024, .bf16⟩
  | .hbm, ⟨8, _⟩ => ⟨S32768x1024, .f32⟩
  | .hbm, ⟨9, _⟩ => ⟨S32768x1024, .f32⟩
  | .hbm, ⟨10, _⟩ => ⟨S32768x1024, .bf16⟩
  | .hbm, ⟨11, _⟩ => ⟨S32768x1024, .bf16⟩
  | .hbm, ⟨12, _⟩ => ⟨S32768x1024, .bf16⟩
  | .hbm, ⟨13, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7168, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InprojRefIdeal.lean ====
abbrev S32768x1024 : Shape := ⟨2, ![32768, 1024]⟩
abbrev S1024 : Shape := ⟨1, ![1024]⟩
abbrev S1024x7168 : Shape := ⟨2, ![1024, 7168]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7168 : Shape := ⟨2, ![32768, 7168]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7168, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x7168, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .bf16⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S32768x1024, .bf16⟩
  | .hbm, ⟨49, _⟩ => ⟨S32768x1024, .bf16⟩
  | .hbm, ⟨50, _⟩ => ⟨S32768x1024, .bf16⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768x1024, .f32⟩
  | .hbm, ⟨58, _⟩ => ⟨S32768x1024, .f32⟩
  | .hbm, ⟨59, _⟩ => ⟨S32768x1024, .bf16⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768x1024, .f32⟩
  | .hbm, ⟨64, _⟩ => ⟨S32768x1024, .f32⟩
  | .hbm, ⟨65, _⟩ => ⟨S_, .f32⟩
  | .hbm, ⟨66, _⟩ => ⟨S32768x1024, .f32⟩
  | .hbm, ⟨67, _⟩ => ⟨S32768x1024, .f32⟩
  | .hbm, ⟨68, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Merge.lean ====
abbrev S32768x1024 : Shape := ⟨2, ![32768, 1024]⟩
abbrev S1024x1024 : Shape := ⟨2, ![1024, 1024]⟩
abbrev S256x1024 : Shape := ⟨2, ![256, 1024]⟩

abbrev nBuf : Space → Nat
  | .hbm => 12
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S32768x1024 : Shape := ⟨2, ![32768, 1024]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Ple.lean ====
abbrev S32768x1024 : Shape := ⟨2, ![32768, 1024]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S32768x1024 : Shape := ⟨2, ![32768, 1024]⟩
abbrev S32768x256 : Shape := ⟨2, ![32768, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== InprojS.lean ====
abbrev S128x1024 : Shape := ⟨2, ![128, 1024]⟩
abbrev S1024 : Shape := ⟨1, ![1024]⟩
abbrev S1024x7168 : Shape := ⟨2, ![1024, 7168]⟩
abbrev S1x1024 : Shape := ⟨2, ![1, 1024]⟩
abbrev S128 : Shape := ⟨1, ![128]⟩
abbrev S128x1 : Shape := ⟨2, ![128, 1]⟩
abbrev S1024x1024 : Shape := ⟨2, ![1024, 1024]⟩

abbrev nBuf : Space → Nat
  | .hbm => 14
  | .vmem => 12
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x7168, .f32⟩
  | .hbm, ⟨3, _⟩ => ⟨S1x1024, .f32⟩
  | .hbm, ⟨4, _⟩ => ⟨S1024x7168, .bf16⟩
  | .hbm, ⟨5, _⟩ => ⟨S128x1024, .f32⟩
  | .hbm, ⟨6, _⟩ => ⟨S128x1024, .bf16⟩
  | .hbm, ⟨7, _⟩ => ⟨S128x1024, .bf16⟩
  | .hbm, ⟨8, _⟩ => ⟨S128x1024, .f32⟩
  | .hbm, ⟨9, _⟩ => ⟨S128x1024, .f32⟩
  | .hbm, ⟨10, _⟩ => ⟨S128x1024, .bf16⟩
  | .hbm, ⟨11, _⟩ => ⟨S128x1024, .bf16⟩
  | .hbm, ⟨12, _⟩ => ⟨S128x1024, .bf16⟩
  | .hbm, ⟨13, _⟩ => ⟨S128x1024, .bf16⟩
  | .local _ .vmem, ⟨0, _⟩ => ⟨S128x1024, .f32⟩
  | .local _ .vmem, ⟨1, _⟩ => ⟨S1x1024, .f32⟩
  | .local _ .vmem, ⟨2, _⟩ => ⟨S1024x7168, .bf16⟩
  | .local _ .vmem, ⟨3, _⟩ => ⟨S128x1024, .f32⟩
  | .local _ .vmem, ⟨4, _⟩ => ⟨S128x1024, .bf16⟩
  | .local _ .vmem, ⟨5, _⟩ => ⟨S128x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== InprojSRefIdeal.lean ====
abbrev S128x1024 : Shape := ⟨2, ![128, 1024]⟩
abbrev S1024 : Shape := ⟨1, ![1024]⟩
abbrev S1024x7168 : Shape := ⟨2, ![1024, 7168]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x7168 : Shape := ⟨2, ![128, 7168]⟩

abbrev nBuf : Space → Nat
  | .hbm => 69
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x7168, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x7168, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S128x1024, .bf16⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S128x1024, .bf16⟩
  | .hbm, ⟨49, _⟩ => ⟨S128x1024, .bf16⟩
  | .hbm, ⟨50, _⟩ => ⟨S128x1024, .bf16⟩
  | .hbm, ⟨51, _⟩ => ⟨S128x1024, .f32⟩
  | .hbm, ⟨52, _⟩ => ⟨S128x1024, .f32⟩
  | .hbm, ⟨53, _⟩ => ⟨S_, .f32⟩
  | .hbm, ⟨54, _⟩ => ⟨S128x1024, .f32⟩
  | .hbm, ⟨55, _⟩ => ⟨S128x1024, .f32⟩
  | .hbm, ⟨56, _⟩ => ⟨S_, .f32⟩
  | .hbm, ⟨57, _⟩ => ⟨S128x1024, .f32⟩
  | .hbm, ⟨58, _⟩ => ⟨S128x1024, .f32⟩
  | .hbm, ⟨59, _⟩ => ⟨S128x1024, .bf16⟩
  | .hbm, ⟨60, _⟩ => ⟨S128x1024, .f32⟩
  | .hbm, ⟨61, _⟩ => ⟨S128x1024, .f32⟩
  | .hbm, ⟨62, _⟩ => ⟨S_, .f32⟩
  | .hbm, ⟨63, _⟩ => ⟨S128x1024, .f32⟩
  | .hbm, ⟨64, _⟩ => ⟨S128x1024, .f32⟩
  | .hbm, ⟨65, _⟩ => ⟨S_, .f32⟩
  | .hbm, ⟨66, _⟩ => ⟨S128x1024, .f32⟩
  | .hbm, ⟨67, _⟩ => ⟨S128x1024, .f32⟩
  | .hbm, ⟨68, _⟩ => ⟨S128x1024, .bf16⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== PleS.lean ====
abbrev S128x1024 : Shape := ⟨2, ![128, 1024]⟩
abbrev S128x256 : Shape := ⟨2, ![128, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S128 : Shape := ⟨1, ![128]⟩
abbrev S128x1 : Shape := ⟨2, ![128, 1]⟩

abbrev nBuf : Space → Nat
  | .hbm => 11
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S128x1024, .f32⟩
  | .local _ .vmem, ⟨0, _⟩ => ⟨S128x1024, .f32⟩
  | .local _ .vmem, ⟨1, _⟩ => ⟨S128x256, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S1x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== PleSRefIdeal.lean ====
abbrev S128x1024 : Shape := ⟨2, ![128, 1024]⟩
abbrev S128x256 : Shape := ⟨2, ![128, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128, .f32⟩
  | .hbm, ⟨37, _⟩ => ⟨S128x1, .f32⟩
  | .hbm, ⟨38, _⟩ => ⟨S_, .f32⟩
  | .hbm, ⟨39, _⟩ => ⟨S128x1, .f32⟩
  | .hbm, ⟨40, _⟩ => ⟨S128x1, .f32⟩
  | .hbm, ⟨41, _⟩ => ⟨S_, .f32⟩
  | .hbm, ⟨42, _⟩ => ⟨S128x1, .f32⟩
  | .hbm, ⟨43, _⟩ => ⟨S128x1, .f32⟩
  | .hbm, ⟨44, _⟩ => ⟨S128x1, .f32⟩
  | .hbm, ⟨45, _⟩ => ⟨S128x1024, .f32⟩
  | .hbm, ⟨46, _⟩ => ⟨S128x1024, .f32⟩
  | .hbm, ⟨47, _⟩ => ⟨S1x1024, .f32⟩
  | .hbm, ⟨48, _⟩ => ⟨S128x1024, .f32⟩
  | .hbm, ⟨49, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== RnnS.lean ====
abbrev S8x16x1024 : Shape := ⟨3, ![8, 16, 1024]⟩
abbrev S4x1024 : Shape := ⟨2, ![4, 1024]⟩
abbrev S1024 : Shape := ⟨1, ![1024]⟩
abbrev S16x64x64 : Shape := ⟨3, ![16, 64, 64]⟩
abbrev S16x64 : Shape := ⟨2, ![16, 64]⟩
abbrev S8x1x1024 : Shape := ⟨3, ![8, 1, 1024]⟩
abbrev S8x3x1024 : Shape := ⟨3, ![8, 3, 1024]⟩
abbrev S1x1024 : Shape := ⟨2, ![1, 1024]⟩
abbrev S16x16 : Shape := ⟨2, ![16, 16]⟩
abbrev S_ : Shape := ⟨0, ![]⟩
abbrev S16x1x16x1 : Shape := ⟨4, ![16, 1, 16, 1]⟩
abbrev S16x64x1x64 : Shape := ⟨4, ![16, 64, 1, 64]⟩
abbrev S16x64x16x64 : Shape := ⟨4, ![16, 64, 16, 64]⟩
abbrev S1024x1024 : Shape := ⟨2, ![1024, 1024]⟩
abbrev S1x16x1024 : Shape := ⟨3, ![1, 16, 1024]⟩
abbrev S1x1x1024 : Shape := ⟨3, ![1, 1, 1024]⟩
abbrev S1x3x1024 : Shape := ⟨3, ![1, 3, 1024]⟩
abbrev S24x1024 : Shape := ⟨2, ![24, 1024]⟩
abbrev S16x1024 : Shape := ⟨2, ![16, 1024]⟩
abbrev S3x1024 : Shape := ⟨2, ![3, 1024]⟩
abbrev S8x1024 : Shape := ⟨2, ![8, 1024]⟩
abbrev S16x1 : Shape := ⟨2, ![16, 1]⟩

abbrev nBuf : Space → Nat
  | .hbm => 46
  | .vmem => 26
  | .smem => 0
  | _ => 0

abbrev bufTy : (tb : Table) → Fin (tcTables nBuf tb) → BufTy
  | .hbm, ⟨0, _⟩ => ⟨S8x16x1024, .f32⟩
  | .hbm, ⟨1, _⟩ => ⟨S8x16x1024, .bf16⟩
  | .hbm, ⟨2, _⟩ => ⟨S4x1024, .f32⟩
  | .hbm, ⟨3, _⟩ => ⟨S1024, .f32⟩
  | .hbm, ⟨4, _⟩ => ⟨S16x64x64, .f32⟩
  | .hbm, ⟨5, _⟩ => ⟨S16x64, .f32⟩
  | .hbm, ⟨6, _⟩ => ⟨S16x64x64, .f32⟩
  | .hbm, ⟨7, _⟩ => ⟨S16x64, .f32⟩
  | .hbm, ⟨8, _⟩ => ⟨S1024, .f32⟩
  | .hbm, ⟨9, _⟩ => ⟨S8x1x1024, .f32⟩
  | .hbm, ⟨10, _⟩ => ⟨S8x3x1024, .f32⟩
  | .hbm, ⟨11, _⟩ => ⟨S1x1024, .f32⟩
  | .hbm, ⟨12, _⟩ => ⟨S16x16, .i32⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i32⟩
  | .hbm, ⟨17, _⟩ => ⟨S16x16, .i1⟩
  | .hbm, ⟨18, _⟩ => ⟨S16x16, .f32⟩
  | .hbm, ⟨19, _⟩ => ⟨S16x1x16x1, .f32⟩
  | .hbm, ⟨20, _⟩ => ⟨S16x64x1x64, .f32⟩
  | .hbm, ⟨21, _⟩ => ⟨S16x64x16x64, .f32⟩
  | .hbm, ⟨22, _⟩ => ⟨S16x64x16x64, .f32⟩
  | .hbm, ⟨23, _⟩ => ⟨S16x64x16x64, .f32⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S16x16, .i32⟩
  | .hbm, ⟨28, _⟩ => ⟨S16x16, .i32⟩
  | .hbm, ⟨29, _⟩ => ⟨S_, .i32⟩
  | .hbm, ⟨30, _⟩ => ⟨S16x16, .i32⟩
  | .hbm, ⟨31, _⟩ => ⟨S16x16, .i32⟩
  | .hbm, ⟨32, _⟩ => ⟨S16x16, .i1⟩
  | .hbm, ⟨33, _⟩ => ⟨S16x16, .f32⟩
  | .hbm, ⟨34, _⟩ => ⟨S16x1x16x1, .f32⟩
  | .hbm, ⟨35, _⟩ => ⟨S16x64x1x64, .f32⟩
  | .hbm, ⟨36, _⟩ => ⟨S16x64x16x64, .f32⟩
  | .hbm, ⟨37, _⟩ => ⟨S16x64x16x64, .f32⟩
  | .hbm, ⟨38, _⟩ => ⟨S16x64x16x64, .f32⟩
  | .hbm, ⟨39, _⟩ => ⟨S1024x1024, .f32⟩
  | .hbm, ⟨40, _⟩ => ⟨S1024x1024, .bf16⟩
  | .hbm, ⟨41, _⟩ => ⟨S1x1024, .f32⟩
  | .hbm, ⟨42, _⟩ => ⟨S1x1024, .f32⟩
  | .hbm, ⟨43, _⟩ => ⟨S8x16x1024, .bf16⟩
  | .hbm, ⟨44, _⟩ => ⟨S8x1x1024, .f32⟩
  | .hbm, ⟨45, _⟩ => ⟨S8x3x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x16x1024, .bf16⟩
  | .local _ .vmem, ⟨3, _⟩ => ⟨S1x16x1024, .bf16⟩
  | .local _ .vmem, ⟨4, _⟩ => ⟨S4x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x3x1024, .f32⟩
  | .local _ .vmem, ⟨14, _⟩ => ⟨S1x3x1024, .f32⟩
  | .local _ .vmem, ⟨15, _⟩ => ⟨S1x16x1024, .bf16⟩
  | .local _ .vmem, ⟨16, _⟩ => ⟨S1x16x1024, .bf16⟩
  | .local _ .vmem, ⟨17, _⟩ => ⟨S1x1x1024, .f32⟩
  | .local _ .vmem, ⟨18, _⟩ => ⟨S1x1x1024, .f32⟩
  | .local _ .vmem, ⟨19, _⟩ => ⟨S1x3x1024, .f32⟩
  | .local _ .vmem, ⟨20, _⟩ => ⟨S1x3x1024, .f32⟩
  | .local _ .vmem, ⟨21, _⟩ => ⟨S24x1024, .f32⟩
  | .local _ .vmem, ⟨22, _⟩ => ⟨S16x1024, .f32⟩
  | .local _ .vmem, ⟨23, _⟩ => ⟨S16x1024, .f32⟩
  | .local _ .vmem, ⟨24, _⟩ => ⟨S16x1024, .f32⟩
  | .local _ .vmem, ⟨25, _⟩ => ⟨S1x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 1], ![false, false]⟩

@[reducible] def k0_t1_loop : Scf.Loop 32 :=
  let c0_i32_44 : BitVec 32 := 0#32
  let c16_i32_45 : BitVec 32 := 16#32
  let v99 : BitVec 32 := Scalar.addi c0_i32_44 c16_i32_45
  let c1_i32 : BitVec 32 := 1#32
  ⟨c0_i32_44, v99, c1_i32⟩
def k0_off1 (k0_t1 : Fin k0_t1_loop.trips) : Fin 2 → Nat :=
  let c0_i32_44 : BitVec 32 := 0#32
  let c1_i32 : BitVec 32 := 1#32
  let arg21 : BitVec 32 := Scf.iv c0_i32_44 c1_i32 k0_t1
  let v120 : Index := Scalar.indexCast arg21
  let c0_64 : Index := 0#32
  ![v120.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x3x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x3x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== RnnSRefIdeal.lean ====
abbrev S8x16x1024 : Shape := ⟨3, ![8, 16, 1024]⟩
abbrev S4x1024 : Shape := ⟨2, ![4, 1024]⟩
abbrev S1024 : Shape := ⟨1, ![1024]⟩
abbrev S16x64x64 : Shape := ⟨3, ![16, 64, 64]⟩
abbrev S16x64 : Shape := ⟨2, ![16, 64]⟩
abbrev S8x1x1024 : Shape := ⟨3, ![8, 1, 1024]⟩
abbrev S8x3x1024 : Shape := ⟨3, ![8, 3, 1024]⟩
abbrev S16 : Shape := ⟨1, ![16]⟩
abbrev S_ : Shape := ⟨0, ![]⟩
abbrev S8x19x1024 : Shape := ⟨3, ![8, 19, 1024]⟩
abbrev S1x1024 : Shape := ⟨2, ![1, 1024]⟩
abbrev S1x1x1024 : Shape := ⟨3, ![1, 1, 1024]⟩
abbrev S8x16x16x64 : Shape := ⟨4, ![8, 16, 16, 64]⟩
abbrev S16x64x8x16 : Shape := ⟨4, ![16, 64, 8, 16]⟩
abbrev S1x1x16x64 : Shape := ⟨4, ![1, 1, 16, 64]⟩
abbrev S1x16x1 : Shape := ⟨3, ![1, 16, 1]⟩

abbrev nBuf : Space → Nat
  | .hbm => 188
  | .vmem => 0
  | .smem => 0
  | _ => 0

abbrev hbmTy0_0 (i : Nat) : BufTy := match i % 128 with
  | 0 => ⟨S8x16x1024, .f32⟩
  | 1 => ⟨S8x16x1024, .bf16⟩
  | 2 => ⟨S4x1024, .f32⟩
  | 3 => ⟨S1024, .f32⟩
  | 4 => ⟨S16x64x64, .f32⟩
  | 5 => ⟨S16x64, .f32⟩
  | 6 => ⟨S16x64x64, .f32⟩
  | 7 => ⟨S16x64, .f32⟩
  | 8 => ⟨S1024, .f32⟩
  | 9 => ⟨S8x1x1024, .f32⟩
  | 10 => ⟨S8x3x1024, .f32⟩
  | 11 => ⟨S16, .i32⟩
  | 12 => ⟨S_, .i32⟩
  | 13 => ⟨S16, .i32⟩
  | 14 => ⟨S16, .i32⟩
  | 15 => ⟨S8x19x1024, .f32⟩
  | 16 => ⟨S8x16x1024, .f32⟩
  | 17 => ⟨S1x1024, .f32⟩
  | 18 => ⟨S1024, .f32⟩
  | 19 => ⟨S1x1x1024, .f32⟩
  | 20 => ⟨S8x16x1024, .f32⟩
  | 21 => ⟨S8x16x1024, .f32⟩
  | 22 => ⟨S1x1x1024, .f32⟩
  | 23 => ⟨S8x16x1024, .f32⟩
  | 24 => ⟨S8x16x1024, .f32⟩
  | 25 => ⟨S8x16x1024, .f32⟩
  | 26 => ⟨S1x1024, .f32⟩
  | 27 => ⟨S1024, .f32⟩
  | 28 => ⟨S1x1x1024, .f32⟩
  | 29 => ⟨S8x16x1024, .f32⟩
  | 30 => ⟨S8x16x1024, .f32⟩
  | 31 => ⟨S8x16x1024, .f32⟩
  | 32 => ⟨S8x16x1024, .f32⟩
  | 33 => ⟨S1x1024, .f32⟩
  | 34 => ⟨S1024, .f32⟩
  | 35 => ⟨S1x1x1024, .f32⟩
  | 36 => ⟨S8x16x1024, .f32⟩
  | 37 => ⟨S8x16x1024, .f32⟩
  | 38 => ⟨S8x16x1024, .f32⟩
  | 39 => ⟨S8x16x1024, .f32⟩
  | 40 => ⟨S1x1024, .f32⟩
  | 41 => ⟨S1024, .f32⟩
  | 42 => ⟨S1x1x1024, .f32⟩
  | 43 => ⟨S8x16x1024, .f32⟩
  | 44 => ⟨S8x16x1024, .f32⟩
  | 45 => ⟨S8x16x1024, .f32⟩
  | 46 => ⟨S_, .i32⟩
  | 47 => ⟨S16, .i32⟩
  | 48 => ⟨S16, .i1⟩
  | 49 => ⟨S8x16x16x64, .f32⟩
  | 50 => ⟨S16x64x8x16, .f32⟩
  | 51 => ⟨S8x16x16x64, .f32⟩
  | 52 => ⟨S1x1x16x64, .f32⟩
  | 53 => ⟨S8x16x16x64, .f32⟩
  | 54 => ⟨S8x16x16x64, .f32⟩
  | 55 => ⟨S8x16x16x64, .f32⟩
  | 56 => ⟨S8x16x16x64, .f32⟩
  | 57 => ⟨S_, .f32⟩
  | 58 => ⟨S8x16x16x64, .f32⟩
  | 59 => ⟨S8x16x16x64, .f32⟩
  | 60 => ⟨S_, .f32⟩
  | 61 => ⟨S8x16x16x64, .f32⟩
  | 62 => ⟨S8x16x16x64, .f32⟩
  | 63 => ⟨S8x16x1024, .f32⟩
  | 64 => ⟨S16x64x8x16, .f32⟩
  | 65 => ⟨S8x16x16x64, .f32⟩
  | 66 => ⟨S1x1x16x64, .f32⟩
  | 67 => ⟨S8x16x16x64, .f32⟩
  | 68 => ⟨S8x16x16x64, .f32⟩
  | 69 => ⟨S8x16x16x64, .f32⟩
  | 70 => ⟨S8x16x16x64, .f32⟩
  | 71 => ⟨S_, .f32⟩
  | 72 => ⟨S8x16x16x64, .f32⟩
  | 73 => ⟨S8x16x16x64, .f32⟩
  | 74 => ⟨S_, .f32⟩
  | 75 => ⟨S8x16x16x64, .f32⟩
  | 76 => ⟨S8x16x16x64, .f32⟩
  | 77 => ⟨S8x16x1024, .f32⟩
  | 78 => ⟨S1024, .f32⟩
  | 79 => ⟨S_, .f32⟩
  | 80 => ⟨S1024, .f32⟩
  | 81 => ⟨S1024, .f32⟩
  | 82 => ⟨S1024, .f32⟩
  | 83 => ⟨S1024, .f32⟩
  | 84 => ⟨S1024, .i1⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S_, .f32⟩
  | 94 => ⟨S1024, .f32⟩
  | 95 => ⟨S1024, .f32⟩
  | 96 => ⟨S1x1x1024, .f32⟩
  | 97 => ⟨S8x16x1024, .f32⟩
  | 98 => ⟨S8x16x1024, .f32⟩
  | 99 => ⟨S1x16x1, .i1⟩
  | 100 => ⟨S8x16x1024, .f32⟩
  | 101 => ⟨S_, .f32⟩
  | 102 => ⟨S_, .f32⟩
  | 103 => ⟨S8x16x1024, .i1⟩
  | 104 => ⟨S8x16x1024, .f32⟩
  | 105 => ⟨S8x16x1024, .f32⟩
  | 106 => ⟨S_, .f32⟩
  | 107 => ⟨S8x16x1024, .f32⟩
  | 108 => ⟨S8x16x1024, .f32⟩
  | 109 => ⟨S8x16x1024, .f32⟩
  | 110 => ⟨S8x16x1024, .f32⟩
  | 111 => ⟨S8x16x1024, .f32⟩
  | 112 => ⟨S_, .f32⟩
  | 113 => ⟨S_, .f32⟩
  | 114 => ⟨S8x16x1024, .i1⟩
  | 115 => ⟨S8x16x1024, .f32⟩
  | 116 => ⟨S8x16x1024, .f32⟩
  | 117 => ⟨S8x16x1024, .f32⟩
  | 118 => ⟨S8x16x1024, .f32⟩
  | 119 => ⟨S8x1x1024, .f32⟩
  | 120 => ⟨S8x1x1024, .f32⟩
  | 121 => ⟨S8x1x1024, .f32⟩
  | 122 => ⟨S8x1x1024, .f32⟩
  | 123 => ⟨S8x1x1024, .f32⟩
  | 124 => ⟨S8x1x1024, .f32⟩
  | 125 => ⟨S8x1x1024, .f32⟩
  | 126 => ⟨S8x1x1024, .f32⟩
  | 127 => ⟨S8x1x1024, .f32⟩
  | _ => ⟨S8x16x1024, .f32⟩

abbrev hbmTy0_1 (i : Nat) : BufTy := match i % 128 with
  | 0 => ⟨S8x1x1024, .f32⟩
  | 1 => ⟨S8x1x1024, .f32⟩
  | 2 => ⟨S8x1x1024, .f32⟩
  | 3 => ⟨S8x1x1024, .f32⟩
  | 4 => ⟨S8x1x1024, .f32⟩
  | 5 => ⟨S8x1x1024, .f32⟩
  | 6 => ⟨S8x1x1024, .f32⟩
  | 7 => ⟨S8x1x1024, .f32⟩
  | 8 => ⟨S8x1x1024, .f32⟩
  | 9 => ⟨S8x1x1024, .f32⟩
  | 10 => ⟨S8x1x1024, .f32⟩
  | 11 => ⟨S8x1x1024, .f32⟩
  | 12 => ⟨S8x1x1024, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S8x1x1024, .f32⟩
  | 23 => ⟨S8x1x1024, .f32⟩
  | 24 => ⟨S8x1x1024, .f32⟩
  | 25 => ⟨S8x1x1024, .f32⟩
  | 26 => ⟨S8x1x1024, .f32⟩
  | 27 => ⟨S8x1x1024, .f32⟩
  | 28 => ⟨S8x1x1024, .f32⟩
  | 29 => ⟨S8x1x1024, .f32⟩
  | 30 => ⟨S8x1x1024, .f32⟩
  | 31 => ⟨S8x1x1024, .f32⟩
  | 32 => ⟨S8x1x1024, .f32⟩
  | 33 => ⟨S8x1x1024, .f32⟩
  | 34 => ⟨S8x1x1024, .f32⟩
  | 35 => ⟨S8x1x1024, .f32⟩
  | 36 => ⟨S8x1x1024, .f32⟩
  | 37 => ⟨S8x1x1024, .f32⟩
  | 38 => ⟨S8x1x1024, .f32⟩
  | 39 => ⟨S8x1x1024, .f32⟩
  | 40 => ⟨S8x1x1024, .f32⟩
  | 41 => ⟨S8x1x1024, .f32⟩
  | 42 => ⟨S8x1x1024, .f32⟩
  | 43 => ⟨S8x1x1024, .f32⟩
  | 44 => ⟨S8x1x1024, .f32⟩
  | 45 => ⟨S8x1x1024, .f32⟩
  | 46 => ⟨S8x1x1024, .f32⟩
  | 47 => ⟨S8x1x1024, .f32⟩
  | 48 => ⟨S8x1x1024, .f32⟩
  | 49 => ⟨S8x1x1024, .f32⟩
  | 50 => ⟨S8x1x1024, .f32⟩
  | 51 => ⟨S8x1x1024, .f32⟩
  | 52 => ⟨S8x1x1024, .f32⟩
  | 53 => ⟨S8x1x1024, .f32⟩
  | 54 => ⟨S8x1x1024, .f32⟩
  | 55 => ⟨S8x16x1024, .f32⟩
  | 56 => ⟨S8x16x1024, .f32⟩
  | 57 => ⟨S8x16x1024, .f32⟩
  | 58 => ⟨S8x16x1024, .bf16⟩
  | 59 => ⟨S8x3x1024, .f32⟩
  | _ => ⟨S8x16x1024, .f32⟩

abbrev hbmTy (i : Nat) : BufTy := match i / 128 with
  | 0 => hbmTy0_0 i
  | 1 => hbmTy0_1 i
  | _ => ⟨S8x16x1024, .f32⟩

abbrev bufTy : (tb : Table) → Fin (tcTables nBuf tb) → BufTy
  | .hbm, ⟨i, _⟩ => hbmTy i
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst : Ref sig .tc := ⟨.hbm, 57, rfl⟩
abbrev main_v44 : Ref sig .tc := ⟨.hbm, 58, rfl⟩
abbrev main_v45 : Ref sig .tc := ⟨.hbm, 59, rfl⟩
abbrev main_cst_1 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_2 : Ref sig .tc := ⟨.hbm, 71, rfl⟩
abbrev main_v56 : Ref sig .tc := ⟨.hbm, 72, rfl⟩
abbrev main_v57 : Ref sig .tc := ⟨.hbm, 73, rfl⟩
abbrev main_cst_3 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_v62 : Ref sig .tc := ⟨.hbm, 92, rfl⟩
abbrev main_cst_4 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_5 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_v70 : Ref sig .tc := ⟨.hbm, 105, rfl⟩
abbrev main_cst_6 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_7 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩

abbrev nD : Nat := 1
abbrev τ : Topo := Topo.v7x

variable {F : FTy → Type} [FloatOps F]
-- ==== Proof.Rows.lean ====
/- What the row-tiled calls compute in one row, written over extended reals. -/
module

public import Idealize.ShloMosaic.Lib.Pointwise
public import Idealize.ShloMosaic.Init

@[expose] public section

noncomputable section

namespace Cert.Rows

open Idealize.ShloMosaic

/-- The reciprocal root of a row's mean square, the small constant added. -/
def scale (x : Fin 1024 → EReal) : EReal :=
  Ideal.rsqrt (Ideal.div (∑ k, x k * x k) (Ideal.ofBits .f32 0x44800000#32) + Ideal.ofBits .f32 0x358637BD#32)

/-- A row divided by its root mean square and weighted, at one column. -/
def normed (x g : Fin 1024 → EReal) (k : Fin 1024) : EReal := x k * scale x * g k

/-- A row times one column of a matrix. -/
def dot {n : ℕ} (a b : Fin n → EReal) : EReal := ∑ k, a k * b k

/-- The gated linear unit on a normed row, added at half weight to the row: one element. `G`, `U` and `D` are the
    gate's, the up projection's and the down projection's matrices. -/
def ffn (x g : Fin 1024 → EReal) (G U : Fin 1024 → Fin 2816 → EReal) (D : Fin 2816 → Fin 1024 → EReal) (c : Fin 1024) : EReal :=
  x c + Ideal.ofBits .f32 0x3F000000#32 * dot
    (fun j => dot (normed x g) (fun k => G k j) * Ideal.logistic (dot (normed x g) fun k => G k j)
      * dot (normed x g) fun k => U k j) (fun j => D j c)

/-- The two branches, gated, projected and summed, then projected and added to the row: one element. `R`, `A` and `O`
    are the recurrence's, the attention's and the output projection's matrices. -/
def merge (x y o sr sa : Fin 1024 → EReal) (R A O : Fin 1024 → Fin 1024 → EReal) (c : Fin 1024) : EReal :=
  x c + dot (fun j => sr j * dot y (fun k => R k j) + sa j * dot o fun k => A k j) (fun j => O j c)

/-- A row with the projected embedding added through its gate: one element. `G` and `P` are the gate's and the
    embedding's matrices. -/
def embedded (x : Fin 1024 → EReal) (p : Fin 256 → EReal) (g : Fin 1024 → EReal) (G : Fin 1024 → Fin 1024 → EReal)
    (P : Fin 256 → Fin 1024 → EReal) (c : Fin 1024) : EReal :=
  x c + Ideal.logistic (dot (normed x g) fun k => G k c) * dot p fun k => P k c

/-- A normed row times column `c` of the `n`-th group of 1024 columns. -/
def proj (x g : Fin 1024 → EReal) (W : Fin 1024 → Fin 7168 → EReal) (n : Fin 7) (c : Fin 1024) : EReal :=
  dot (normed x g) fun k => W k ⟨n.val * 1024 + c.val, by omega⟩

/-- The smooth gate in its `tanh` form. -/
def gelu (y : EReal) : EReal :=
  y * (Ideal.ofBits .f32 0x3F000000#32 * (1 + Ideal.tanh
    (Ideal.ofBits .f32 0x3F4C422A#32 * (y + Ideal.ofBits .f32 0x3D372713#32 * (y * y * y)))))

/-- The queries' scale. -/
def eighth : EReal := Ideal.ofBits .f32 0x3E000000#32

end Cert.Rows

end
-- ==== Proof.FfnRow.lean ====
/- The gated linear unit: the kernel's block and the reference's result, each read at one element. -/
module

public import proofs.«01_k».proof.Proof.Rows
public import proofs.«01_k».proof.Proof.Gen.FfnIdeal.Value
public import proofs.«01_k».proof.Proof.Gen.FfnRefIdeal.Read
public import Idealize.ShloMosaic.Lib.Pointwise
public import Idealize.ShloMosaic.Init

@[expose] public section

set_option maxRecDepth 16384

noncomputable section

namespace Cert.FfnRow

open Idealize.ShloMosaic Cert.Rows

/-- The kernel's block at row `r` and column `c`. -/
theorem pay (x : Vec Ideal FfnIdeal.S256x1024 .f32) (g : Vec Ideal FfnIdeal.S1x1024 .f32) (G U : Vec Ideal FfnIdeal.S1024x2816 .bf16)
    (D : Vec Ideal FfnIdeal.S2816x1024 .bf16) (r : Fin 256) (c : Fin 1024) :
    FfnIdeal.Gen.k0_pay1 x g G U D (ix2 r c)
      = ffn (fun k => x (ix2 r k)) (fun k => g (ix2 0 k)) (fun k j => G (ix2 k j)) (fun k j => U (ix2 k j)) (fun k j => D (ix2 k j)) c := by
  pointwise [FfnIdeal.Gen.k0_pay1]
  rfl

/-- The reference's result at row `r` and column `c`. -/
theorem ref (x : Vec Ideal FfnRefIdeal.S32768x1024 .f32) (g : Vec Ideal FfnRefIdeal.S1024 .f32) (G U : Vec Ideal FfnRefIdeal.S1024x2816 .f32)
    (D : Vec Ideal FfnRefIdeal.S2816x1024 .f32) (r : Fin 32768) (c : Fin 1024) :
    FfnRefIdeal.Read.val_main_v20 x g G U D (ix2 r c)
      = ffn (fun k => x (ix2 r k)) (fun k => g (ix1 k)) (fun k j => G (ix2 k j)) (fun k j => U (ix2 k j)) (fun k j => D (ix2 k j)) c := by
  rw [← FfnRefIdeal.Read.val_main_v20_eq]
  pointwise
  rfl

end Cert.FfnRow

end
-- ==== Proof.FfnValue.lean ====
/- The gated linear unit: the kernel's result array, element by element, and the claim that it is the reference's. -/
module

public import proofs.«01_k».proof.Defs
public import proofs.«01_k».proof.Proof.FfnRow
public import Idealize.ShloMosaic.Lib.Pipeline.ValueKit
public import Idealize.ShloMosaic.Init

@[expose] public section

set_option maxRecDepth 16384

noncomputable section

namespace Cert.FfnValue

open Idealize.ShloMosaic Idealize.ShloMosaic.TcCoe Idealize.SL.Sem Cert.FfnIdeal Cert.FfnIdeal.Gen Cert.Rows

variable (m : (ℓ : Loc nD τ sig) → Buf (Elt Ideal) ℓ) (ρ : Dev nD → PrngReg)

/-- The weight row as the region reads it: the argument reshaped. -/
theorem V_norm (c : Dev nD) : V m c main_v0 = shapeCast S1x1024 (m ((c : Thread nD τ).loc main_arg1)) shapeCasts_S1024_S1x1024 := by
  unfold Gen.V; after_results; rfl

/-- The gate's matrix as the region reads it. -/
theorem V_gate (c : Dev nD) : V m c main_v1 = m ((c : Thread nD τ).loc main_arg2) := by
  unfold Gen.V; after_results; rfl

/-- The up projection's matrix as the region reads it. -/
theorem V_up (c : Dev nD) : V m c main_v2 = m ((c : Thread nD τ).loc main_arg3) := by
  unfold Gen.V; after_results; rfl

/-- The down projection's matrix as the region reads it. -/
theorem V_down (c : Dev nD) : V m c main_v3 = m ((c : Thread nD τ).loc main_arg4) := by
  unfold Gen.V; after_results; rfl

/-- Which blocks the grid's points name. -/
theorem idx_facts : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0) := by decide +kernel

/-- Row `r` of point `t`'s block, in the array. -/
def row (t : Fin grid0.N) (r : Fin 256) : Fin 32768 := ⟨t.val * 256 + r.val, by
  have := t.isLt; have : grid0.N = 128 := N_0; omega⟩

/-- The tokens' block, read in the argument. -/
theorem blk_x (c : Dev nD) (t : Fin cfg0.N) (r : Fin 256) (k : Fin 1024) :
    iblk m c 0 t (ix2 r k) = m ((c : Thread nD τ).loc main_arg0) (ix2 (row t r) k) := by
  obtain ⟨⟨e0, e1⟩, -⟩ := idx_facts t
  blk_simp [iblk]
  rw [V_main_arg0]
  refine congrArg _ (funext fun a => Fin.ext ?_)
  match a with
  | ⟨0, _⟩ => blk_simp [e0]; rfl
  | ⟨1, _⟩ => blk_simp [e1]

/-- The weight row's block, read in the argument. -/
theorem blk_norm (c : Dev nD) (t : Fin cfg0.N) (k : Fin 1024) :
    iblk m c 1 t (ix2 0 k) = m ((c : Thread nD τ).loc main_arg1) (ix1 k) := by
  obtain ⟨-, ⟨e0, e1⟩, -⟩ := idx_facts t
  blk_simp [iblk]
  rw [V_norm]
  have h : (win0_1.blk t).view.emb (ix2 0 k) = ix2 0 k := funext fun a => Fin.ext (by
    match a with
    | ⟨0, _⟩ => blk_simp [e0]
    | ⟨1, _⟩ => blk_simp [e1])
  rw [h]
  pointwise

/-- The gate's block, read in the argument. -/
theorem blk_gate (c : Dev nD) (t : Fin cfg0.N) (k : Fin 1024) (j : Fin 2816) :
    iblk m c 2 t (ix2 k j) = m ((c : Thread nD τ).loc main_arg2) (ix2 k j) := by
  obtain ⟨-, -, ⟨e0, e1⟩, -⟩ := idx_facts t
  blk_simp [iblk]
  rw [V_gate]
  refine congrArg _ (funext fun a => Fin.ext ?_)
  match a with
  | ⟨0, _⟩ => blk_simp [e0]
  | ⟨1, _⟩ => blk_simp [e1]

/-- The up projection's block, read in the argument. -/
theorem blk_up (c : Dev nD) (t : Fin cfg0.N) (k : Fin 1024) (j : Fin 2816) :
    iblk m c 3 t (ix2 k j) = m ((c : Thread nD τ).loc main_arg3) (ix2 k j) := by
  obtain ⟨-, -, -, ⟨e0, e1⟩, -⟩ := idx_facts t
  blk_simp [iblk]
  rw [V_up]
  refine congrArg _ (funext fun a => Fin.ext ?_)
  match a with
  | ⟨0, _⟩ => blk_simp [e0]
  | ⟨1, _⟩ => blk_simp [e1]

/-- The down projection's block, read in the argument. -/
theorem blk_down (c : Dev nD) (t : Fin cfg0.N) (k : Fin 2816) (j : Fin 1024) :
    iblk m c 4 t (ix2 k j) = m ((c : Thread nD τ).loc main_arg4) (ix2 k j) := by
  obtain ⟨-, -, -, -, ⟨e0, e1⟩, -⟩ := idx_facts t
  blk_simp [iblk]
  rw [V_down]
  refine congrArg _ (funext fun a => Fin.ext ?_)
  match a with
  | ⟨0, _⟩ => blk_simp [e0]
  | ⟨1, _⟩ => blk_simp [e1]

/-- The result array of the kernel is the reference's term over the kernel's arguments. -/
theorem final (c : Dev nD) : (dats m 0 c).arrAt 5 cfg0.N
    = FfnRefIdeal.Read.val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨-, -, -, -, -, e50, e51⟩ := idx_facts t
  blk_simp
  rw [after0_5]
  frame_out
  idx_vars y
  have h : ((View.whole main_v4).slice (win0_5.rect t)).emb (ix2 y0 y1) = ix2 (row t y0) y1 := funext fun a => Fin.ext (by
    match a with
    | ⟨0, _⟩ => blk_simp [e50]; rfl
    | ⟨1, _⟩ => blk_simp [e51])
  rw [h, FfnRow.pay, FfnRow.ref]
  simp only [blk_x, blk_norm, blk_gate, blk_up, blk_down]

end Cert.FfnValue

namespace Cert.FfnValue

open Idealize.ShloMosaic Idealize.ShloMosaic.TcCoe Idealize.SL.Sem

/-- The reference keeps its arguments and leaves every counter at zero. -/
theorem frame_ref : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- The kernel's result is the reference's. -/
theorem algebraic : Cert.algebraic_FfnIdeal_FfnRefIdeal := by
  intro m ρ m' ρ' _ hagree
  refine ⟨fun c => (FfnIdeal.Gen.dats m 0 c).arrAt 5 FfnIdeal.cfg0.N, FfnIdeal.Value.run_blocks m ρ, ?_⟩
  refine (θ_run Cert.FfnRefIdeal.defs _ _).mono (fun _ h c => ⟨(h c).1.trans ?_, (h c).2⟩)
    (Cert.FfnRefIdeal.Value.run (F := Ideal) m' ρ')
  obtain ⟨h0, h1, h2, h3, h4⟩ := hagree c
  refine (FfnRefIdeal.Read.val_main_v20_eq _ _ _ _ _).trans ?_
  show _ = (FfnIdeal.Gen.dats m 0 c).arrAt 5 FfnIdeal.cfg0.N
  rw [final, h0, h1, h2, h3, h4]

end Cert.FfnValue

end
-- ==== Proof.InprojRow.lean ====
/- The input projections: the kernel's blocks and the reference's results, each read at one element. -/
module

public import proofs.«01_k».proof.Proof.Rows
public import proofs.«01_k».proof.Proof.Gen.InprojIdeal.Value
public import proofs.«01_k».proof.Proof.Gen.InprojRefIdeal.Read
public import Idealize.ShloMosaic.Lib.Pointwise
public import Idealize.ShloMosaic.Init

@[expose] public section

set_option maxRecDepth 16384

noncomputable section

namespace Cert.InprojRow

open Idealize.ShloMosaic Cert.Rows

/-- The kernel's normed block at row `r` and column `k`. -/
theorem hidden (x : Vec Ideal InprojIdeal.S256x1024 .f32) (g : Vec Ideal InprojIdeal.S1x1024 .f32) (r : Fin 256) (k : Fin 1024) :
    InprojIdeal.Gen.k0_pay2 x g (ix2 r k) = normed (fun k => x (ix2 r k)) (fun k => g (ix2 0 k)) k := by
  pointwise [InprojIdeal.Gen.k0_pay2]
  rfl

/-- A product of the normed block with a group of the matrix's columns. -/
theorem group (x : Vec Ideal InprojIdeal.S256x1024 .f32) (g : Vec Ideal InprojIdeal.S1x1024 .f32)
    (W : Vec Ideal InprojIdeal.S1024x7168 .bf16) (n : Fin 7) (M : Vec Ideal InprojIdeal.S1024x1024 .bf16)
    (hM : ∀ k c : Fin 1024, M (ix2 k c) = W (ix2 k ⟨n.val * 1024 + c.val, by omega⟩)) (r : Fin 256) (c : Fin 1024) :
    ∑ k : Fin 1024, InprojIdeal.Gen.k0_pay2 x g (ix2 r k) * M (ix2 k c)
      = proj (fun k => x (ix2 r k)) (fun k => g (ix2 0 k)) (fun k j => W (ix2 k j)) n c := by
  simp only [hidden, hM]
  rfl

/-- The kernel's nine blocks at row `r` and column `c`, each by the group of columns it multiplies. -/
theorem pays (x : Vec Ideal InprojIdeal.S256x1024 .f32) (g : Vec Ideal InprojIdeal.S1x1024 .f32)
    (W : Vec Ideal InprojIdeal.S1024x7168 .bf16) (n : Fin 7) (M : Vec Ideal InprojIdeal.S1024x1024 .bf16)
    (hM : ∀ k c : Fin 1024, M (ix2 k c) = W (ix2 k ⟨n.val * 1024 + c.val, by omega⟩)) (r : Fin 256) (c : Fin 1024) :
    InprojIdeal.Gen.k0_pay3 x g M (ix2 r c) = proj (fun k => x (ix2 r k)) (fun k => g (ix2 0 k)) (fun k j => W (ix2 k j)) n c
    ∧ InprojIdeal.Gen.k0_pay4 x g M (ix2 r c) = gelu (proj (fun k => x (ix2 r k)) (fun k => g (ix2 0 k)) (fun k j => W (ix2 k j)) n c)
    ∧ InprojIdeal.Gen.k0_pay5 (InprojIdeal.Gen.k0_pay2 x g) M (ix2 r c) = (proj (fun k => x (ix2 r k)) (fun k => g (ix2 0 k)) (fun k j => W (ix2 k j)) n c) * eighth
    ∧ InprojIdeal.Gen.k0_pay6 (InprojIdeal.Gen.k0_pay2 x g) M (ix2 r c) = (proj (fun k => x (ix2 r k)) (fun k => g (ix2 0 k)) (fun k j => W (ix2 k j)) n c)
    ∧ InprojIdeal.Gen.k0_pay7 (InprojIdeal.Gen.k0_pay2 x g) M (ix2 r c) = (proj (fun k => x (ix2 r k)) (fun k => g (ix2 0 k)) (fun k j => W (ix2 k j)) n c)
    ∧ InprojIdeal.Gen.k0_pay8 (InprojIdeal.Gen.k0_pay2 x g) M (ix2 r c) = (proj (fun k => x (ix2 r k)) (fun k => g (ix2 0 k)) (fun k j => W (ix2 k j)) n c)
    ∧ InprojIdeal.Gen.k0_pay9 (InprojIdeal.Gen.k0_pay2 x g) M (ix2 r c) = (proj (fun k => x (ix2 r k)) (fun k => g (ix2 0 k)) (fun k j => W (ix2 k j)) n c)
    ∧ InprojIdeal.Gen.k0_pay10 (InprojIdeal.Gen.k0_pay2 x g) M (ix2 r c) = Ideal.logistic (proj (fun k => x (ix2 r k)) (fun k => g (ix2 0 k)) (fun k j => W (ix2 k j)) n c)
    ∧ InprojIdeal.Gen.k0_pay1 (InprojIdeal.Gen.k0_pay2 x g) M (ix2 r c) = Ideal.logistic (proj (fun k => x (ix2 r k)) (fun k => g (ix2 0 k)) (fun k j => W (ix2 k j)) n c) := by
  rw [← group x g W n M hM]
  open InprojIdeal.Gen in
  refine ⟨?_, ?_, ?_, ?_, ?_, ?_, ?_, ?_, ?_⟩ <;>
    pointwise [k0_pay1, k0_pay3, k0_pay4, k0_pay5, k0_pay6, k0_pay7, k0_pay8, k0_pay9, k0_pay10, gelu, eighth]
  rw [mul_comm (∑ k, _ * _) ((∑ k, _ * _) * _)]

/-- The reference's product before it is cut into groups. -/
theorem ref_all (x : Vec Ideal InprojRefIdeal.S32768x1024 .f32) (g : Vec Ideal InprojRefIdeal.S1024 .f32)
    (W : Vec Ideal InprojRefIdeal.S1024x7168 .f32) (r : Fin 32768) (j : Fin 7168) :
    InprojRefIdeal.Read.val_main_v13 x g W (ix2 r j)
      = dot (normed (fun k => x (ix2 r k)) (fun k => g (ix1 k))) (fun k => W (ix2 k j)) := by
  open InprojRefIdeal.Read in
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The reference's nine results at row `r` and column `c`. -/
theorem refs (x : Vec Ideal InprojRefIdeal.S32768x1024 .f32) (g : Vec Ideal InprojRefIdeal.S1024 .f32)
    (W : Vec Ideal InprojRefIdeal.S1024x7168 .f32) (r : Fin 32768) (c : Fin 1024) :
    InprojRefIdeal.Read.val_main_v14 x g W (ix2 r c) = (proj (fun k => x (ix2 r k)) (fun k => g (ix1 k)) (fun k j => W (ix2 k j)) 0 c)
    ∧ InprojRefIdeal.Read.val_main_v34 x g W (ix2 r c) = gelu (proj (fun k => x (ix2 r k)) (fun k => g (ix1 k)) (fun k j => W (ix2 k j)) 1 c)
    ∧ InprojRefIdeal.Read.val_main_v37 x g W (ix2 r c) = (proj (fun k => x (ix2 r k)) (fun k => g (ix1 k)) (fun k j => W (ix2 k j)) 2 c) * eighth
    ∧ InprojRefIdeal.Read.val_main_v17 x g W (ix2 r c) = (proj (fun k => x (ix2 r k)) (fun k => g (ix1 k)) (fun k j => W (ix2 k j)) 3 c)
    ∧ InprojRefIdeal.Read.val_main_v18 x g W (ix2 r c) = (proj (fun k => x (ix2 r k)) (fun k => g (ix1 k)) (fun k j => W (ix2 k j)) 4 c)
    ∧ InprojRefIdeal.Read.val_main_v38 x g W (ix2 r c) = (proj (fun k => x (ix2 r k)) (fun k => g (ix1 k)) (fun k j => W (ix2 k j)) 3 c)
    ∧ InprojRefIdeal.Read.val_main_v39 x g W (ix2 r c) = (proj (fun k => x (ix2 r k)) (fun k => g (ix1 k)) (fun k j => W (ix2 k j)) 4 c)
    ∧ InprojRefIdeal.Read.val_main_v46 x g W (ix2 r c) = Ideal.logistic (proj (fun k => x (ix2 r k)) (fun k => g (ix1 k)) (fun k j => W (ix2 k j)) 5 c)
    ∧ InprojRefIdeal.Read.val_main_v53 x g W (ix2 r c) = Ideal.logistic (proj (fun k => x (ix2 r k)) (fun k => g (ix1 k)) (fun k j => W (ix2 k j)) 6 c) := by
  open InprojRefIdeal.Read in
  refine ⟨?_, ?_, ?_, ?_, ?_, ?_, ?_, ?_, ?_⟩ <;>
    (pointwise [val_main_v53, val_main_v52, val_main_v51, val_main_cst_10, val_main_v50, val_main_v49, val_main_cst_9, val_main_v48, val_main_v47, val_main_v46, val_main_v45, val_main_v44, val_main_cst_8, val_main_v43, val_main_v42, val_main_cst_7, val_main_v41, val_main_v40, val_main_v39, val_main_v38, val_main_v37, val_main_v36, val_main_v35, val_main_cst_6, val_main_v34, val_main_v33, val_main_v32, val_main_v31, val_main_cst_5, val_main_v30, val_main_v29, val_main_cst_4, val_main_v28, val_main_v27, val_main_v26, val_main_cst_3, val_main_v25, val_main_v24, val_main_v23, val_main_cst_2, val_main_v22, val_main_v21, val_main_v20, val_main_v19, val_main_v18, val_main_v17, val_main_v16, val_main_v15, val_main_v14, ref_all, gelu, eighth, proj]
     try rfl)

end Cert.InprojRow

end
-- ==== Proof.InprojValue.lean ====
/- The input projections: the kernel's result arrays, element by element, and the claim that they are the reference's. -/
module

public import proofs.«01_k».proof.Defs
public import proofs.«01_k».proof.Proof.InprojRow
public import Idealize.ShloMosaic.Lib.Pipeline.ValueKit
public import Idealize.ShloMosaic.Init

@[expose] public section

set_option maxRecDepth 16384

noncomputable section

namespace Cert.InprojValue

open Idealize.ShloMosaic Idealize.ShloMosaic.TcCoe Idealize.SL.Sem Cert.InprojIdeal Cert.InprojIdeal.Gen Cert.Rows

variable (m : (ℓ : Loc nD τ sig) → Buf (Elt Ideal) ℓ) (ρ : Dev nD → PrngReg)

/-- The weight row as the region reads it: the argument reshaped. -/
theorem V_norm (c : Dev nD) : V m c main_v0 = shapeCast S1x1024 (m ((c : Thread nD τ).loc main_arg1)) shapeCasts_S1024_S1x1024 := by
  unfold Gen.V; after_results; rfl

/-- The matrix as the region reads it. -/
theorem V_mat (c : Dev nD) : V m c main_v1 = m ((c : Thread nD τ).loc main_arg2) := by
  unfold Gen.V; after_results; rfl

/-- Which blocks the grid's points name, over the operands … -/
theorem idx_in : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) := by decide +kernel

/-- … and over the results. -/
theorem idx_out : ∀ t : Fin grid0.N, (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0) := by decide +kernel

/-- Row `r` of point `t`'s block, in the array. -/
def row (t : Fin grid0.N) (r : Fin 256) : Fin 32768 := ⟨t.val * 256 + r.val, by
  have := t.isLt; have : grid0.N = 128 := N_0; omega⟩

/-- The tokens' block, read in the argument. -/
theorem blk_x (c : Dev nD) (t : Fin cfg0.N) (r : Fin 256) (k : Fin 1024) :
    iblk m c 0 t (ix2 r k) = m ((c : Thread nD τ).loc main_arg0) (ix2 (row t r) k) := by
  obtain ⟨⟨e0, e1⟩, -⟩ := idx_in t
  blk_simp [iblk]
  rw [V_main_arg0]
  refine congrArg _ (funext fun a => Fin.ext ?_)
  match a with
  | ⟨0, _⟩ => blk_simp [e0]; rfl
  | ⟨1, _⟩ => blk_simp [e1]

/-- The weight row's block, read in the argument. -/
theorem blk_norm (c : Dev nD) (t : Fin cfg0.N) (k : Fin 1024) :
    iblk m c 1 t (ix2 0 k) = m ((c : Thread nD τ).loc main_arg1) (ix1 k) := by
  obtain ⟨-, ⟨e0, e1⟩, -⟩ := idx_in t
  blk_simp [iblk]
  rw [V_norm]
  have h : (win0_1.blk t).view.emb (ix2 0 k) = ix2 0 k := funext fun a => Fin.ext (by
    match a with
    | ⟨0, _⟩ => blk_simp [e0]
    | ⟨1, _⟩ => blk_simp [e1])
  rw [h]
  pointwise

/-- The matrix's block, read in the argument. -/
theorem blk_mat (c : Dev nD) (t : Fin cfg0.N) (k : Fin 1024) (j : Fin 7168) :
    iblk m c 2 t (ix2 k j) = m ((c : Thread nD τ).loc main_arg2) (ix2 k j) := by
  obtain ⟨-, -, e0, e1⟩ := idx_in t
  blk_simp [iblk]
  rw [V_mat]
  refine congrArg _ (funext fun a => Fin.ext ?_)
  match a with
  | ⟨0, _⟩ => blk_simp [e0]
  | ⟨1, _⟩ => blk_simp [e1]

/-- The groups of columns of the matrix's block. -/
theorem cols (W : Vec Ideal S1024x7168 .bf16) (k j : Fin 1024) :
    View.ld W r0_2 (ix2 k j) = W (ix2 k ⟨((0 : Fin 7)).val * 1024 + j.val, by omega⟩)
    ∧ View.ld W r0_3 (ix2 k j) = W (ix2 k ⟨((1 : Fin 7)).val * 1024 + j.val, by omega⟩)
    ∧ View.ld W r0_4 (ix2 k j) = W (ix2 k ⟨((2 : Fin 7)).val * 1024 + j.val, by omega⟩)
    ∧ View.ld W r0_5 (ix2 k j) = W (ix2 k ⟨((3 : Fin 7)).val * 1024 + j.val, by omega⟩)
    ∧ View.ld W r0_6 (ix2 k j) = W (ix2 k ⟨((4 : Fin 7)).val * 1024 + j.val, by omega⟩)
    ∧ View.ld W r0_7 (ix2 k j) = W (ix2 k ⟨((5 : Fin 7)).val * 1024 + j.val, by omega⟩)
    ∧ View.ld W r0_8 (ix2 k j) = W (ix2 k ⟨((6 : Fin 7)).val * 1024 + j.val, by omega⟩) := by
  refine ⟨?_, ?_, ?_, ?_, ?_, ?_, ?_⟩ <;>
    (refine congrArg W (funext fun a => Fin.ext ?_)
     match a with
     | ⟨0, _⟩ => exact (Rect.idx_unit_val _ _ _ _ _).trans (by simp)
     | ⟨1, _⟩ => exact (Rect.idx_unit_val _ _ _ _ _).trans (by simp))

/-- The normed block, computed once for all groups but the first two. -/
theorem normed_block (x : Vec Ideal S256x1024 .f32) (g : Vec Ideal S1x1024 .f32) (W : Vec Ideal S1024x7168 .bf16) :
    k0_pay11 x g W = k0_pay2 x g := by
  unfold k0_pay11
  rw [show View.ld x r0_0 = x from View.ld_unit_lit _ x (by decide), show View.ld g r0_1 = g from View.ld_unit_lit _ g (by decide)]

/-- The result array of window 3, filled block by block. -/
theorem final_3 (c : Dev nD) : (dats m 0 c).arrAt 3 cfg0.N = InprojRefIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  have h : ((View.whole main_v2_0).slice (win0_3.rect t)).emb (ix2 y0 y1) = ix2 (row t y0) y1 := funext fun a => Fin.ext (by
    match a with
    | ⟨0, _⟩ => blk_simp [idx_out]; rfl
    | ⟨1, _⟩ => blk_simp [idx_out])
  rw [h, (InprojRow.refs _ _ _ _ _).1]
  refine ((InprojRow.pays _ _ (iblk m c 2 t) 0 _ (fun k j => (cols _ k j).1) _ _).1).trans ?_
  simp only [blk_x, blk_norm, blk_mat]

/-- The result array of window 4, filled block by block. -/
theorem final_4 (c : Dev nD) : (dats m 0 c).arrAt 4 cfg0.N = InprojRefIdeal.Read.val_main_v34 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  idx_vars y
  have h : ((View.whole main_v2_1).slice (win0_4.rect t)).emb (ix2 y0 y1) = ix2 (row t y0) y1 := funext fun a => Fin.ext (by
    match a with
    | ⟨0, _⟩ => blk_simp [idx_out]; rfl
    | ⟨1, _⟩ => blk_simp [idx_out])
  rw [h, (InprojRow.refs _ _ _ _ _).2.1]
  refine ((InprojRow.pays _ _ (iblk m c 2 t) 1 _ (fun k j => (cols _ k j).2.1) _ _).2.1).trans ?_
  simp only [blk_x, blk_norm, blk_mat]

/-- The result array of window 5, filled block by block. -/
theorem final_5 (c : Dev nD) : (dats m 0 c).arrAt 5 cfg0.N = InprojRefIdeal.Read.val_main_v37 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  have h : ((View.whole main_v2_2).slice (win0_5.rect t)).emb (ix2 y0 y1) = ix2 (row t y0) y1 := funext fun a => Fin.ext (by
    match a with
    | ⟨0, _⟩ => blk_simp [idx_out]; rfl
    | ⟨1, _⟩ => blk_simp [idx_out])
  rw [h, (InprojRow.refs _ _ _ _ _).2.2.1]
  rw [normed_block]
  refine ((InprojRow.pays _ _ (iblk m c 2 t) 2 _ (fun k j => (cols _ k j).2.2.1) _ _).2.2.1).trans ?_
  simp only [blk_x, blk_norm, blk_mat]

/-- The result array of window 6, filled block by block. -/
theorem final_6 (c : Dev nD) : (dats m 0 c).arrAt 6 cfg0.N = InprojRefIdeal.Read.val_main_v17 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  idx_vars y
  have h : ((View.whole main_v2_3).slice (win0_6.rect t)).emb (ix2 y0 y1) = ix2 (row t y0) y1 := funext fun a => Fin.ext (by
    match a with
    | ⟨0, _⟩ => blk_simp [idx_out]; rfl
    | ⟨1, _⟩ => blk_simp [idx_out])
  rw [h, (InprojRow.refs _ _ _ _ _).2.2.2.1]
  rw [normed_block]
  refine ((InprojRow.pays _ _ (iblk m c 2 t) 3 _ (fun k j => (cols _ k j).2.2.2.1) _ _).2.2.2.1).trans ?_
  simp only [blk_x, blk_norm, blk_mat]

/-- The result array of window 7, filled block by block. -/
theorem final_7 (c : Dev nD) : (dats m 0 c).arrAt 7 cfg0.N = InprojRefIdeal.Read.val_main_v18 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  frame_out
  idx_vars y
  have h : ((View.whole main_v2_4).slice (win0_7.rect t)).emb (ix2 y0 y1) = ix2 (row t y0) y1 := funext fun a => Fin.ext (by
    match a with
    | ⟨0, _⟩ => blk_simp [idx_out]; rfl
    | ⟨1, _⟩ => blk_simp [idx_out])
  rw [h, (InprojRow.refs _ _ _ _ _).2.2.2.2.1]
  rw [normed_block]
  refine ((InprojRow.pays _ _ (iblk m c 2 t) 4 _ (fun k j => (cols _ k j).2.2.2.2.1) _ _).2.2.2.2.2.1).trans ?_
  simp only [blk_x, blk_norm, blk_mat]

/-- The result array of window 8, filled block by block. -/
theorem final_8 (c : Dev nD) : (dats m 0 c).arrAt 8 cfg0.N = InprojRefIdeal.Read.val_main_v38 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  frame_out
  idx_vars y
  have h : ((View.whole main_v2_5).slice (win0_8.rect t)).emb (ix2 y0 y1) = ix2 (row t y0) y1 := funext fun a => Fin.ext (by
    match a with
    | ⟨0, _⟩ => blk_simp [idx_out]; rfl
    | ⟨1, _⟩ => blk_simp [idx_out])
  rw [h, (InprojRow.refs _ _ _ _ _).2.2.2.2.2.1]
  rw [normed_block]
  refine ((InprojRow.pays _ _ (iblk m c 2 t) 3 _ (fun k j => (cols _ k j).2.2.2.1) _ _).2.2.2.2.1).trans ?_
  simp only [blk_x, blk_norm, blk_mat]

/-- The result array of window 9, filled block by block. -/
theorem final_9 (c : Dev nD) : (dats m 0 c).arrAt 9 cfg0.N = InprojRefIdeal.Read.val_main_v39 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  frame_out
  idx_vars y
  have h : ((View.whole main_v2_6).slice (win0_9.rect t)).emb (ix2 y0 y1) = ix2 (row t y0) y1 := funext fun a => Fin.ext (by
    match a with
    | ⟨0, _⟩ => blk_simp [idx_out]; rfl
    | ⟨1, _⟩ => blk_simp [idx_out])
  rw [h, (InprojRow.refs _ _ _ _ _).2.2.2.2.2.2.1]
  rw [normed_block]
  refine ((InprojRow.pays _ _ (iblk m c 2 t) 4 _ (fun k j => (cols _ k j).2.2.2.2.1) _ _).2.2.2.2.2.2.1).trans ?_
  simp only [blk_x, blk_norm, blk_mat]

/-- The result array of window 10, filled block by block. -/
theorem final_10 (c : Dev nD) : (dats m 0 c).arrAt 10 cfg0.N = InprojRefIdeal.Read.val_main_v46 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  frame_out
  idx_vars y
  have h : ((View.whole main_v2_7).slice (win0_10.rect t)).emb (ix2 y0 y1) = ix2 (row t y0) y1 := funext fun a => Fin.ext (by
    match a with
    | ⟨0, _⟩ => blk_simp [idx_out]; rfl
    | ⟨1, _⟩ => blk_simp [idx_out])
  rw [h, (InprojRow.refs _ _ _ _ _).2.2.2.2.2.2.2.1]
  rw [normed_block]
  refine ((InprojRow.pays _ _ (iblk m c 2 t) 5 _ (fun k j => (cols _ k j).2.2.2.2.2.1) _ _).2.2.2.2.2.2.2.1).trans ?_
  simp only [blk_x, blk_norm, blk_mat]

/-- The result array of window 11, filled block by block. -/
theorem final_11 (c : Dev nD) : (dats m 0 c).arrAt 11 cfg0.N = InprojRefIdeal.Read.val_main_v53 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  frame_out
  idx_vars y
  have h : ((View.whole main_v2_8).slice (win0_11.rect t)).emb (ix2 y0 y1) = ix2 (row t y0) y1 := funext fun a => Fin.ext (by
    match a with
    | ⟨0, _⟩ => blk_simp [idx_out]; rfl
    | ⟨1, _⟩ => blk_simp [idx_out])
  rw [h, (InprojRow.refs _ _ _ _ _).2.2.2.2.2.2.2.2]
  rw [normed_block]
  refine ((InprojRow.pays _ _ (iblk m c 2 t) 6 _ (fun k j => (cols _ k j).2.2.2.2.2.2) _ _).2.2.2.2.2.2.2.2).trans ?_
  simp only [blk_x, blk_norm, blk_mat]

/-- The reference runs to its end from any memory. -/
theorem frame_ref : Cert.quiescent_InprojRefIdeal := fun m ρ _ =>
  (θ_run Cert.InprojRefIdeal.defs _ _).mono
    (fun r h => ⟨fun c => by obtain ⟨-, -, -, -, -, -, -, -, -, h⟩ := h c; exact h,
      Idealize.ShloMosaic.sem_eq_zero_of_no_sems (by decide) r.2⟩)
    (Cert.InprojRefIdeal.Value.run (F := Ideal) m ρ)

/-- The kernel's nine results are the reference's. -/
theorem algebraic : Cert.algebraic_InprojIdeal_InprojRefIdeal := by
  intro m ρ m' ρ' _ hagree
  refine ⟨fun c => (InprojIdeal.Gen.dats m 0 c).arrAt 3 InprojIdeal.cfg0.N, fun c => (InprojIdeal.Gen.dats m 0 c).arrAt 4 InprojIdeal.cfg0.N, fun c => (InprojIdeal.Gen.dats m 0 c).arrAt 5 InprojIdeal.cfg0.N, fun c => (InprojIdeal.Gen.dats m 0 c).arrAt 6 InprojIdeal.cfg0.N, fun c => (InprojIdeal.Gen.dats m 0 c).arrAt 7 InprojIdeal.cfg0.N, fun c => (InprojIdeal.Gen.dats m 0 c).arrAt 8 InprojIdeal.cfg0.N, fun c => (InprojIdeal.Gen.dats m 0 c).arrAt 9 InprojIdeal.cfg0.N, fun c => (InprojIdeal.Gen.dats m 0 c).arrAt 10 InprojIdeal.cfg0.N, fun c => (InprojIdeal.Gen.dats m 0 c).arrAt 11 InprojIdeal.cfg0.N,
    InprojIdeal.Value.run_blocks m ρ, ?_⟩
  refine (θ_run Cert.InprojRefIdeal.defs _ _).mono (fun _ h c => ?_) (Cert.InprojRefIdeal.Value.run (F := Ideal) m' ρ')
  obtain ⟨r3, r4, r5, r6, r7, r8, r9, r10, r11, ra⟩ := h c
  obtain ⟨h0, h1, h2⟩ := hagree c
  open InprojRefIdeal.Read in
  refine ⟨r3.trans ((val_main_v14_eq _ _ _).trans (by rw [h0, h1, h2]; exact (final_3 m c).symm)),
    r4.trans ((val_main_v34_eq _ _).trans (by rw [h0, h1, h2]; exact (final_4 m c).symm)),
    r5.trans ((val_main_v37_eq _ _ _).trans (by rw [h0, h1, h2]; exact (final_5 m c).symm)),
    r6.trans ((val_main_v17_eq _ _ _).trans (by rw [h0, h1, h2]; exact (final_6 m c).symm)),
    r7.trans ((val_main_v18_eq _ _ _).trans (by rw [h0, h1, h2]; exact (final_7 m c).symm)),
    r8.trans ((val_main_v38_eq _ _ _).trans (by rw [h0, h1, h2]; exact (final_8 m c).symm)),
    r9.trans ((val_main_v39_eq _ _ _).trans (by rw [h0, h1, h2]; exact (final_9 m c).symm)),
    r10.trans ((val_main_v46_eq _ _ _).trans (by rw [h0, h1, h2]; exact (final_10 m c).symm)),
    r11.trans ((val_main_v53_eq _ _ _).trans (by rw [h0, h1, h2]; exact (final_11 m c).symm)), ra⟩

end Cert.InprojValue

end
-- ==== Proof.MergeRow.lean ====
/- The merge of the two branches: the kernel's block and the reference's result, each read at one element. -/
module

public import proofs.«01_k».proof.Proof.Rows
public import proofs.«01_k».proof.Proof.Gen.MergeIdeal.Value
public import proofs.«01_k».proof.Proof.Gen.MergeRefIdeal.Read
public import Idealize.ShloMosaic.Lib.Pointwise
public import Idealize.ShloMosaic.Init

@[expose] public section

set_option maxRecDepth 16384

noncomputable section

namespace Cert.MergeRow

open Idealize.ShloMosaic Cert.Rows

/-- The kernel's block at row `r` and column `c`. -/
theorem pay (x : Vec Ideal MergeIdeal.S256x1024 .f32) (y o sr sa : Vec Ideal MergeIdeal.S256x1024 .bf16)
    (R A O : Vec Ideal MergeIdeal.S1024x1024 .bf16) (r : Fin 256) (c : Fin 1024) :
    MergeIdeal.Gen.k0_pay1 sr y R sa o A x O (ix2 r c)
      = merge (fun k => x (ix2 r k)) (fun k => y (ix2 r k)) (fun k => o (ix2 r k)) (fun k => sr (ix2 r k)) (fun k => sa (ix2 r k))
          (fun k j => R (ix2 k j)) (fun k j => A (ix2 k j)) (fun k j => O (ix2 k j)) c := by
  pointwise [MergeIdeal.Gen.k0_pay1]
  rfl

/-- The reference's result at row `r` and column `c`. -/
theorem ref (x : Vec Ideal MergeRefIdeal.S32768x1024 .f32) (y o sr sa : Vec Ideal MergeRefIdeal.S32768x1024 .bf16)
    (R A O : Vec Ideal MergeRefIdeal.S1024x1024 .f32) (r : Fin 32768) (c : Fin 1024) :
    MergeRefIdeal.Read.val_main_v10 x y o sr sa R A O (ix2 r c)
      = merge (fun k => x (ix2 r k)) (fun k => y (ix2 r k)) (fun k => o (ix2 r k)) (fun k => sr (ix2 r k)) (fun k => sa (ix2 r k))
          (fun k j => R (ix2 k j)) (fun k j => A (ix2 k j)) (fun k j => O (ix2 k j)) c := by
  rw [← MergeRefIdeal.Read.val_main_v10_eq]
  pointwise
  rfl

end Cert.MergeRow

end
-- ==== Proof.MergeValue.lean ====
/- The merge of the two branches: the kernel's result array, element by element, and the claim that it is the
   reference's. -/
module

public import proofs.«01_k».proof.Defs
public import proofs.«01_k».proof.Proof.MergeRow
public import Idealize.ShloMosaic.Lib.Pipeline.ValueKit
public import Idealize.ShloMosaic.Init

@[expose] public section

set_option maxRecDepth 16384

noncomputable section

namespace Cert.MergeValue

open Idealize.ShloMosaic Idealize.ShloMosaic.TcCoe Idealize.SL.Sem Cert.MergeIdeal Cert.MergeIdeal.Gen Cert.Rows

variable (m : (ℓ : Loc nD τ sig) → Buf (Elt Ideal) ℓ) (ρ : Dev nD → PrngReg)

/-- The three matrices as the region reads them. -/
theorem V_mats (c : Dev nD) : V m c main_v0 = m ((c : Thread nD τ).loc main_arg5) ∧ V m c main_v1 = m ((c : Thread nD τ).loc main_arg6)
    ∧ V m c main_v2 = m ((c : Thread nD τ).loc main_arg7) := by
  refine ⟨?_, ?_, ?_⟩ <;> (unfold Gen.V; after_results; rfl)

/-- Which blocks the grid's points name, over the operands tiled by rows and the result … -/
theorem idx_rows : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_8.index t 0 = t.val ∧ win0_8.index t 1 = 0) := by decide +kernel

/-- … and over the matrices. -/
theorem idx_mats : ∀ t : Fin grid0.N, (win0_5.index t 0 = 0 ∧ win0_5.index t 1 = 0) ∧ (win0_6.index t 0 = 0 ∧ win0_6.index t 1 = 0)
    ∧ (win0_7.index t 0 = 0 ∧ win0_7.index t 1 = 0) := by decide +kernel

/-- Row `r` of point `t`'s block, in the array. -/
def row (t : Fin grid0.N) (r : Fin 256) : Fin 32768 := ⟨t.val * 256 + r.val, by
  have := t.isLt; have : grid0.N = 128 := N_0; omega⟩

/-- The blocks of the operands tiled by rows, read in the arguments. -/
theorem blk_rows (c : Dev nD) (t : Fin cfg0.N) (r : Fin 256) (k : Fin 1024) :
    iblk m c 0 t (ix2 r k) = m ((c : Thread nD τ).loc main_arg0) (ix2 (row t r) k)
    ∧ iblk m c 1 t (ix2 r k) = m ((c : Thread nD τ).loc main_arg1) (ix2 (row t r) k)
    ∧ iblk m c 2 t (ix2 r k) = m ((c : Thread nD τ).loc main_arg2) (ix2 (row t r) k)
    ∧ iblk m c 3 t (ix2 r k) = m ((c : Thread nD τ).loc main_arg3) (ix2 (row t r) k)
    ∧ iblk m c 4 t (ix2 r k) = m ((c : Thread nD τ).loc main_arg4) (ix2 (row t r) k) := by
  obtain ⟨⟨e00, e01⟩, ⟨e10, e11⟩, ⟨e20, e21⟩, ⟨e30, e31⟩, ⟨e40, e41⟩, -⟩ := idx_rows t
  refine ⟨?_, ?_, ?_, ?_, ?_⟩ <;>
    (blk_simp [iblk]
     simp only [V_main_arg0, V_main_arg1, V_main_arg2, V_main_arg3, V_main_arg4]
     refine congrArg _ (funext fun a => Fin.ext ?_)
     match a with
     | ⟨0, _⟩ => blk_simp [e00, e01, e10, e11, e20, e21, e30, e31, e40, e41]; try rfl
     | ⟨1, _⟩ => blk_simp [e00, e01, e10, e11, e20, e21, e30, e31, e40, e41])

/-- The matrices' blocks, read in the arguments. -/
theorem blk_mats (c : Dev nD) (t : Fin cfg0.N) (k j : Fin 1024) :
    iblk m c 5 t (ix2 k j) = m ((c : Thread nD τ).loc main_arg5) (ix2 k j)
    ∧ iblk m c 6 t (ix2 k j) = m ((c : Thread nD τ).loc main_arg6) (ix2 k j)
    ∧ iblk m c 7 t (ix2 k j) = m ((c : Thread nD τ).loc main_arg7) (ix2 k j) := by
  obtain ⟨⟨e50, e51⟩, ⟨e60, e61⟩, e70, e71⟩ := idx_mats t
  refine ⟨?_, ?_, ?_⟩ <;>
    (blk_simp [iblk]
     simp only [V_mats]
     refine congrArg _ (funext fun a => Fin.ext ?_)
     match a with
     | ⟨0, _⟩ => blk_simp [e50, e51, e60, e61, e70, e71]; try rfl
     | ⟨1, _⟩ => blk_simp [e50, e51, e60, e61, e70, e71])

/-- The result array of the kernel is the reference's term over the kernel's arguments. -/
theorem final (c : Dev nD) : (dats m 0 c).arrAt 8 cfg0.N
    = MergeRefIdeal.Read.val_main_v10 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t hf y => ?_
  obtain ⟨-, -, -, -, -, e80, e81⟩ := idx_rows t
  blk_simp
  rw [after0_8]
  frame_out
  idx_vars y
  have h : ((View.whole main_v3).slice (win0_8.rect t)).emb (ix2 y0 y1) = ix2 (row t y0) y1 := funext fun a => Fin.ext (by
    match a with
    | ⟨0, _⟩ => blk_simp [e80]; rfl
    | ⟨1, _⟩ => blk_simp [e81])
  rw [h, MergeRow.pay, MergeRow.ref]
  simp only [blk_rows, blk_mats]

end Cert.MergeValue

namespace Cert.MergeValue

open Idealize.ShloMosaic Idealize.ShloMosaic.TcCoe Idealize.SL.Sem

/-- The reference keeps its arguments and leaves every counter at zero. -/
theorem frame_ref : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- The kernel's result is the reference's. -/
theorem algebraic : Cert.algebraic_MergeIdeal_MergeRefIdeal := by
  intro m ρ m' ρ' _ hagree
  refine ⟨fun c => (MergeIdeal.Gen.dats m 0 c).arrAt 8 MergeIdeal.cfg0.N, MergeIdeal.Value.run_blocks m ρ, ?_⟩
  refine (θ_run Cert.MergeRefIdeal.defs _ _).mono (fun _ h c => ⟨(h c).1.trans ?_, (h c).2⟩)
    (Cert.MergeRefIdeal.Value.run (F := Ideal) m' ρ')
  obtain ⟨h0, h1, h2, h3, h4, h5, h6, h7⟩ := hagree c
  refine (MergeRefIdeal.Read.val_main_v10_eq _ _ _ _ _ _ _ _).trans ?_
  show _ = (MergeIdeal.Gen.dats m 0 c).arrAt 8 MergeIdeal.cfg0.N
  rw [final, h0, h1, h2, h3, h4, h5, h6, h7]

end Cert.MergeValue

end
-- ==== Proof.PleRow.lean ====
/- The per-layer embedding: the kernel's block and the reference's result, each read at one element. -/
module

public import proofs.«01_k».proof.Proof.Rows
public import proofs.«01_k».proof.Proof.Gen.PleIdeal.Value
public import proofs.«01_k».proof.Proof.Gen.PleRefIdeal.Read
public import Idealize.ShloMosaic.Lib.Pointwise
public import Idealize.ShloMosaic.Init

@[expose] public section

set_option maxRecDepth 16384

noncomputable section

namespace Cert.PleRow

open Idealize.ShloMosaic Cert.Rows

/-- The kernel's block at row `r` and column `c`. -/
theorem pay (x : Vec Ideal PleIdeal.S256x1024 .f32) (p : Vec Ideal PleIdeal.S256x256 .f32) (g f : Vec Ideal PleIdeal.S1x1024 .f32)
    (G : Vec Ideal PleIdeal.S1024x1024 .bf16) (P : Vec Ideal PleIdeal.S256x1024 .bf16) (r : Fin 256) (c : Fin 1024) :
    PleIdeal.Gen.k0_pay1 (PleIdeal.Gen.k0_pay2 f) (PleIdeal.Gen.k0_pay3 x g G p P) (ix2 r c)
      = normed (embedded (fun k => x (ix2 r k)) (fun k => p (ix2 r k)) (fun k => g (ix2 0 k)) (fun k j => G (ix2 k j))
          (fun k j => P (ix2 k j))) (fun k => f (ix2 0 k)) c := by
  pointwise [PleIdeal.Gen.k0_pay1, PleIdeal.Gen.k0_pay2, PleIdeal.Gen.k0_pay3]
  rfl

/-- The reference's result at row `r` and column `c`. -/
theorem ref (x : Vec Ideal PleRefIdeal.S32768x1024 .f32) (p : Vec Ideal PleRefIdeal.S32768x256 .f32) (g : Vec Ideal PleRefIdeal.S1024 .f32)
    (G : Vec Ideal PleRefIdeal.S1024x1024 .f32) (P : Vec Ideal PleRefIdeal.S256x1024 .f32) (f : Vec Ideal PleRefIdeal.S1024 .f32)
    (r : Fin 32768) (c : Fin 1024) :
    PleRefIdeal.Read.val_main_v35 x p g G P f (ix2 r c)
      = normed (embedded (fun k => x (ix2 r k)) (fun k => p (ix2 r k)) (fun k => g (ix1 k)) (fun k j => G (ix2 k j))
          (fun k j => P (ix2 k j))) (fun k => f (ix1 k)) c := by
  open PleRefIdeal.Read in
  pointwise [val_main_v35, val_main_v34, val_main_v33, val_main_v32, val_main_v31, val_main_v30, val_main_v29, val_main_v28, val_main_cst_6, val_main_v27, val_main_v26, val_main_cst_5, val_main_v25, val_main_v24, val_main_cst_4, val_main_v23, val_main_v22, val_main_v21, val_main_v20, val_main_v19, val_main_v18, val_main_cst_3, val_main_v17, val_main_v16, val_main_cst_2, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

end Cert.PleRow

end
-- ==== Proof.PleValue.lean ====
/- The per-layer embedding: the kernel's result array, element by element, and the claim that it is the reference's. -/
module

public import proofs.«01_k».proof.Defs
public import proofs.«01_k».proof.Proof.PleRow
public import Idealize.ShloMosaic.Lib.Pipeline.ValueKit
public import Idealize.ShloMosaic.Init

@[expose] public section

set_option maxRecDepth 16384

noncomputable section

namespace Cert.PleValue

open Idealize.ShloMosaic Idealize.ShloMosaic.TcCoe Idealize.SL.Sem Cert.PleIdeal Cert.PleIdeal.Gen Cert.Rows

variable (m : (ℓ : Loc nD τ sig) → Buf (Elt Ideal) ℓ) (ρ : Dev nD → PrngReg)

/-- The two weight rows as the region reads them: the arguments reshaped. -/
theorem V_norms (c : Dev nD) : V m c main_v0 = shapeCast S1x1024 (m ((c : Thread nD τ).loc main_arg2)) shapeCasts_S1024_S1x1024
    ∧ V m c main_v3 = shapeCast S1x1024 (m ((c : Thread nD τ).loc main_arg5)) shapeCasts_S1024_S1x1024 := by
  refine ⟨?_, ?_⟩ <;> (unfold Gen.V; after_results; rfl)

/-- The two matrices as the region reads them. -/
theorem V_mats (c : Dev nD) : V m c main_v1 = m ((c : Thread nD τ).loc main_arg3) ∧ V m c main_v2 = m ((c : Thread nD τ).loc main_arg4) := by
  refine ⟨?_, ?_⟩ <;> (unfold Gen.V; after_results; rfl)

/-- Which blocks the grid's points name. -/
theorem idx_facts : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) := by decide +kernel

/-- Row `r` of point `t`'s block, in the array. -/
def row (t : Fin grid0.N) (r : Fin 256) : Fin 32768 := ⟨t.val * 256 + r.val, by
  have := t.isLt; have : grid0.N = 128 := N_0; omega⟩

/-- The tokens' block, read in the argument. -/
theorem blk_x (c : Dev nD) (t : Fin cfg0.N) (r : Fin 256) (k : Fin 1024) :
    iblk m c 0 t (ix2 r k) = m ((c : Thread nD τ).loc main_arg0) (ix2 (row t r) k) := by
  obtain ⟨⟨e0, e1⟩, -⟩ := idx_facts t
  blk_simp [iblk]
  rw [V_main_arg0]
  refine congrArg _ (funext fun a => Fin.ext ?_)
  match a with
  | ⟨0, _⟩ => blk_simp [e0, e1]; try rfl
  | ⟨1, _⟩ => blk_simp [e0, e1]

/-- The embeddings' block, read in the argument. -/
theorem blk_p (c : Dev nD) (t : Fin cfg0.N) (r : Fin 256) (k : Fin 256) :
    iblk m c 1 t (ix2 r k) = m ((c : Thread nD τ).loc main_arg1) (ix2 (row t r) k) := by
  obtain ⟨-, ⟨e0, e1⟩, -⟩ := idx_facts t
  blk_simp [iblk]
  rw [V_main_arg1]
  refine congrArg _ (funext fun a => Fin.ext ?_)
  match a with
  | ⟨0, _⟩ => blk_simp [e0, e1]; try rfl
  | ⟨1, _⟩ => blk_simp [e0, e1]

/-- The weight rows' blocks, read in the arguments. -/
theorem blk_norms (c : Dev nD) (t : Fin cfg0.N) (k : Fin 1024) :
    iblk m c 2 t (ix2 0 k) = m ((c : Thread nD τ).loc main_arg2) (ix1 k)
    ∧ iblk m c 5 t (ix2 0 k) = m ((c : Thread nD τ).loc main_arg5) (ix1 k) := by
  obtain ⟨-, -, ⟨e20, e21⟩, -, -, ⟨e50, e51⟩, -⟩ := idx_facts t
  have h2 : (win0_2.blk t).view.emb (ix2 0 k) = ix2 0 k := funext fun a => Fin.ext (by
    match a with
    | ⟨0, _⟩ => blk_simp [e20]
    | ⟨1, _⟩ => blk_simp [e21])
  have h5 : (win0_5.blk t).view.emb (ix2 0 k) = ix2 0 k := funext fun a => Fin.ext (by
    match a with
    | ⟨0, _⟩ => blk_simp [e50]
    | ⟨1, _⟩ => blk_simp [e51])
  refine ⟨?_, ?_⟩ <;>
    (blk_simp [iblk]
     first | rw [(V_norms m c).1, h2] | rw [(V_norms m c).2, h5]
     pointwise)

/-- The gate's block, read in the argument. -/
theorem blk_gate (c : Dev nD) (t : Fin cfg0.N) (k : Fin 1024) (j : Fin 1024) :
    iblk m c 3 t (ix2 k j) = m ((c : Thread nD τ).loc main_arg3) (ix2 k j) := by
  obtain ⟨-, -, -, ⟨e0, e1⟩, -⟩ := idx_facts t
  blk_simp [iblk]
  rw [(V_mats m c).1]
  refine congrArg _ (funext fun a => Fin.ext ?_)
  match a with
  | ⟨0, _⟩ => blk_simp [e0, e1]; try rfl
  | ⟨1, _⟩ => blk_simp [e0, e1]

/-- The embedding matrix's block, read in the argument. -/
theorem blk_proj (c : Dev nD) (t : Fin cfg0.N) (k : Fin 256) (j : Fin 1024) :
    iblk m c 4 t (ix2 k j) = m ((c : Thread nD τ).loc main_arg4) (ix2 k j) := by
  obtain ⟨-, -, -, -, ⟨e0, e1⟩, -⟩ := idx_facts t
  blk_simp [iblk]
  rw [(V_mats m c).2]
  refine congrArg _ (funext fun a => Fin.ext ?_)
  match a with
  | ⟨0, _⟩ => blk_simp [e0, e1]; try rfl
  | ⟨1, _⟩ => blk_simp [e0, e1]

/-- The result array of the kernel is the reference's term over the kernel's arguments. -/
theorem final (c : Dev nD) : (dats m 0 c).arrAt 6 cfg0.N
    = PleRefIdeal.Read.val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hf y => ?_
  obtain ⟨-, -, -, -, -, -, e60, e61⟩ := idx_facts t
  blk_simp
  rw [after0_6]
  frame_out
  idx_vars y
  have h : ((View.whole main_v4).slice (win0_6.rect t)).emb (ix2 y0 y1) = ix2 (row t y0) y1 := funext fun a => Fin.ext (by
    match a with
    | ⟨0, _⟩ => blk_simp [e60]; rfl
    | ⟨1, _⟩ => blk_simp [e61])
  rw [h, PleRow.pay, PleRow.ref]
  simp only [blk_x, blk_p, blk_norms, blk_gate, blk_proj]

end Cert.PleValue

namespace Cert.PleValue

open Idealize.ShloMosaic Idealize.ShloMosaic.TcCoe Idealize.SL.Sem

/-- The reference keeps its arguments and leaves every counter at zero. -/
theorem frame_ref : Cert.quiescent_PleRefIdeal := fun m ρ _ =>
  (θ_run Cert.PleRefIdeal.defs _ _).mono (fun r h => ⟨fun c => (h c).2, Idealize.ShloMosaic.sem_eq_zero_of_no_sems (by decide) r.2⟩)
    (Cert.PleRefIdeal.Value.run (F := Ideal) m ρ)

/-- The kernel's result is the reference's. -/
theorem algebraic : Cert.algebraic_PleIdeal_PleRefIdeal := by
  intro m ρ m' ρ' _ hagree
  refine ⟨fun c => (PleIdeal.Gen.dats m 0 c).arrAt 6 PleIdeal.cfg0.N, PleIdeal.Value.run_blocks m ρ, ?_⟩
  refine (θ_run Cert.PleRefIdeal.defs _ _).mono (fun _ h c => ⟨(h c).1.trans ?_, (h c).2⟩)
    (Cert.PleRefIdeal.Value.run (F := Ideal) m' ρ')
  obtain ⟨h0, h1, h2, h3, h4, h5⟩ := hagree c
  refine (PleRefIdeal.Read.val_main_v35_eq _ _).trans ?_
  show _ = (PleIdeal.Gen.dats m 0 c).arrAt 6 PleIdeal.cfg0.N
  rw [final, h0, h1, h2, h3, h4, h5]

end Cert.PleValue

end
-- ==== Proof.Stick.lean ====
module

public import Idealize.ShloMosaic.PureOps.Ideal
public import Idealize.ShloMosaic.PureOps.Ideal.Laws
public import Idealize.ShloMosaic.Lib.Pointwise
public import Idealize.ShloMosaic.Init

@[expose] public section

/-! # Stick breaking over one query's scores

Query `p` of a head has a real score `ζ s` at every key `s`. It breaks a stick from the key just
before it backwards: key `s < p` gets the share `exp (ζ s - Σ_{s ≤ t < p} softplus (ζ t))`.
This module states that share over the reals and proves the sums that a walk over key blocks of
256 and a sum over all keys at once both come to. -/

noncomputable section
namespace Cert.Stick
open Idealize.ShloMosaic

/-- Softplus of a real score. -/
def plusR (r : ℝ) : ℝ := max r 0 + Real.log (1 + Real.exp (-|r|))

/-- Softplus as the kernel computes it, on the extended reals. -/
def plus (z : EReal) : EReal := max z 0 + Ideal.log (1 + Ideal.exp (0 - max z (-z)))

/-- What the queries between `s` and `p` take off the logarithm of the stick. -/
def tail (ζ : ℕ → ℝ) (s p : ℕ) : ℝ := ∑ t ∈ Finset.Ico s p, plusR (ζ t)

/-- The share of key `s` in query `p`. -/
def share (ζ : ℕ → ℝ) (p s : ℕ) : EReal := ((Real.exp (ζ s - tail ζ s p) : ℝ) : EReal)

/-- The values of the keys `s` up to `p`, weighted by their shares. -/
def mix (ζ : ℕ → ℝ) (v : ℕ → EReal) (s p : ℕ) : EReal :=
  ∑ t ∈ Finset.Ico s p, share ζ p t * v t

theorem coe_max (a b : ℝ) : max (a : EReal) (b : EReal) = ((max a b : ℝ) : EReal) :=
  (EReal.coe_strictMono.monotone.map_max).symm

theorem abs_coe (r : ℝ) : max (r : EReal) (-(r : EReal)) = ((|r| : ℝ) : EReal) := by
  rw [← EReal.coe_neg, coe_max]; rfl

theorem log_one_add_exp (r : ℝ) :
    Ideal.log (1 + Ideal.exp (r : EReal)) = ((Real.log (1 + Real.exp r) : ℝ) : EReal) := by
  have h : (1 : EReal) + Ideal.exp (r : EReal) = ((1 + Real.exp r : ℝ) : EReal) := by
    rw [Ideal.exp_coe]; norm_cast
  rw [h]
  show (if _ ≤ (0 : ℝ) then _ else _) = _
  rw [if_neg (by have := Real.exp_pos r; linarith)]

/-- Softplus of a real score is real. -/
theorem plus_coe (r : ℝ) : plus (r : EReal) = ((plusR r : ℝ) : EReal) := by
  unfold plus plusR
  rw [abs_coe, show (0 : EReal) - ((|r| : ℝ) : EReal) = ((-|r| : ℝ) : EReal) by
    rw [zero_sub, EReal.coe_neg], log_one_add_exp]
  rw [← EReal.coe_zero, coe_max]
  norm_cast

/-- Softplus of the opposite score. -/
theorem plusR_neg (r : ℝ) : plusR (-r) = plusR r - r := by
  unfold plusR
  rw [abs_neg]
  rcases le_total 0 r with h | h
  · rw [max_eq_right (by linarith), max_eq_left h]; ring
  · rw [max_eq_left (by linarith), max_eq_right h]; ring

theorem coe_sum {ι : Type} (S : Finset ι) (f : ι → ℝ) :
    ∑ i ∈ S, ((f i : ℝ) : EReal) = ((∑ i ∈ S, f i : ℝ) : EReal) := by
  classical
  induction S using Finset.induction_on with
  | empty => simp
  | insert a S h ih => rw [Finset.sum_insert h, Finset.sum_insert h, ih, EReal.coe_add]

/-- A block's columns from `u` on and before `r`, as an interval of keys. -/
theorem sum_block {M : Type} [AddCommMonoid M] (f : ℕ → M) (b u r : ℕ) (hr : r ≤ 256) :
    (∑ x : Fin 256, if u ≤ x.val ∧ x.val < r then f (b + x.val) else 0)
      = ∑ t ∈ Finset.Ico (b + u) (b + r), f t := by
  rw [Fin.sum_univ_eq_sum_range (fun x => if u ≤ x ∧ x < r then f (b + x) else 0) 256,
    ← Finset.sum_filter]
  refine Finset.sum_nbij (fun x => b + x) (fun x hx => ?_) (fun x _ y _ h => ?_) (fun y hy => ?_)
    fun _ _ => rfl
  · simp only [Finset.mem_Ico, Finset.mem_filter, Finset.mem_range] at hx ⊢; omega
  · exact Nat.add_left_cancel h
  · simp only [Finset.coe_Ico, Set.mem_Ico] at hy
    refine ⟨y - b, ?_, by show b + (y - b) = y; omega⟩
    simp only [Finset.coe_filter, Finset.mem_range, Set.mem_setOf_eq]; omega

theorem tail_add (ζ : ℕ → ℝ) {s m p : ℕ} (h : s ≤ m) (h' : m ≤ p) :
    tail ζ s p = tail ζ s m + tail ζ m p :=
  (Finset.sum_Ico_consecutive _ h h').symm

theorem mix_add (ζ : ℕ → ℝ) (v : ℕ → EReal) {s m p : ℕ} (h : s ≤ m) (h' : m ≤ p) :
    mix ζ v s p = mix ζ v m p + ∑ t ∈ Finset.Ico s m, share ζ p t * v t := by
  rw [add_comm]; exact (Finset.sum_Ico_consecutive _ h h').symm

/-- Splitting the softplus terms into a high and a low part and summing each against the
lower triangle gives the block's tail, when the terms are real. -/
theorem split_sum (a : Fin 256 → EReal) (α : ℕ → ℝ) (T : Fin 256 → EReal) (b u r : ℕ) (hr : r ≤ 256)
    (hT : ∀ x : Fin 256, T x = if u ≤ x.val then 1 else 0)
    (ha : ∀ x : Fin 256, a x = if x.val < r then ((α (b + x.val) : ℝ) : EReal) else 0) :
    ∑ x, a x * T x + ∑ x, (a x - a x) * T x
      = ((∑ t ∈ Finset.Ico (b + u) (b + r), α t : ℝ) : EReal) := by
  have h0 : ∀ x, (a x - a x) * T x = 0 := fun x => by
    have : a x - a x = 0 := by
      rw [ha]; split
      · rw [← EReal.coe_sub, sub_self, EReal.coe_zero]
      · simp
    rw [this, zero_mul]
  rw [Finset.sum_congr rfl fun x _ => h0 x, Finset.sum_const_zero, add_zero, ← coe_sum,
    ← sum_block (fun t => ((α t : ℝ) : EReal)) b u r hr]
  refine Finset.sum_congr rfl fun x _ => ?_
  rw [ha, hT]
  by_cases h : u ≤ x.val <;> by_cases h' : x.val < r <;> simp [h, h']

/-- The mix from the first key on, as one sum over all the keys. -/
theorem mix_eq_sum (ζ : ℕ → ℝ) (v : ℕ → EReal) {p : ℕ} (hp : p ≤ 8192) :
    mix ζ v 0 p = ∑ s : Fin 8192, if s.val < p then share ζ p s.val * v s.val else 0 := by
  rw [Fin.sum_univ_eq_sum_range (fun s => if s < p then share ζ p s * v s else 0) 8192,
    ← Finset.sum_filter]
  refine Finset.sum_congr (Finset.ext fun x => ?_) fun _ _ => rfl
  simp only [Finset.mem_Ico, Finset.mem_filter, Finset.mem_range]
  omega

end Cert.Stick
end
-- ==== Proof.Words.lean ====
module

public import Idealize.ShloMosaic.Lib.WordCmp
public import Idealize.ShloMosaic.Lib.Pointwise
public import Idealize.ShloMosaic.Init

@[expose] public section

/-! # Choosing by a comparison of two small numbers written as 32-bit words -/

namespace Cert.Words
open Idealize.ShloMosaic

theorem select_slt {α : Type} {a b : ℕ} (ha : a < 2 ^ 31) (hb : b < 2 ^ 31) (x y : α) :
    Scalar.select (IntOp.cmpi .slt (BitVec.ofNat 32 a) (BitVec.ofNat 32 b)) x y = if a < b then x else y := by
  have h := Idealize.ShloMosaic.WordCmp.cmpi_slt_ofNat_eq_one_iff (w := 32) ha hb
  show (if _ = 1#1 then x else y) = _
  by_cases hab : a < b
  · rw [if_pos hab, if_pos (h.2 hab)]
  · rw [if_neg hab, if_neg fun e => hab (h.1 e)]

theorem select_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  have h := Idealize.ShloMosaic.WordCmp.cmpi_sge_ofNat_eq_one_iff (w := 32) ha hb
  show (if _ = 1#1 then x else y) = _
  by_cases hab : b ≤ a
  · rw [if_pos hab, if_pos (h.2 hab)]
  · rw [if_neg hab, if_neg fun e => hab (h.1 e)]

end Cert.Words
-- ==== Proof.AttnRow.lean ====
module

public import proofs.«01_k».proof.Proof.Stick
public import proofs.«01_k».proof.Proof.Words
public import proofs.«01_k».proof.Proof.Gen.AttnIdeal.Value
public import Idealize.ShloMosaic.Lib.Pointwise
public import Idealize.ShloMosaic.Init

@[expose] public section

/-! # One key block of the attention kernel, for one query row

`B` is the block's first key and `p` the query. The kernel carries the row's tail and its mix of
the values from the block's end on; the lemmas say what they are from the block's start on, for
a block wholly before the query and for the block the query itself stands in. -/

set_option maxRecDepth 16384

noncomputable section
namespace Cert.AttnRow
open Idealize.ShloMosaic Cert.AttnIdeal Cert.AttnIdeal.Gen Cert.Stick

/-- The triangle of ones the block sums are taken against. -/
theorem tri_at (x u : Fin 256) :
    (k0_pay25 (F := Ideal)) (ix2 x u) = if u.val ≤ x.val then 1 else 0 := by
  pointwise [k0_pay25]
  exact Words.select_sge (by omega) (by omega) _ _

/-- The kernel's softplus is `plus`. -/
theorem plus_fold (z : EReal) :
    max z 0 + Ideal.log (1 + Ideal.exp (0 - FloatOps.absf (F := Ideal) (φ := .f32) z)) = plus z := rfl

/-- The block's column sums from column `u` on, high and low parts together. -/
theorem sums (ζ : ℕ → ℝ) (B : ℕ) (u : Fin 256) :
    ∑ x : Fin 256, ((plusR (ζ (B + x.val)) : ℝ) : EReal) * k0_pay25 (F := Ideal) (ix2 x u)
      + ∑ x : Fin 256, (((plusR (ζ (B + x.val)) : ℝ) : EReal) - ((plusR (ζ (B + x.val)) : ℝ) : EReal))
          * k0_pay25 (F := Ideal) (ix2 x u)
      = ((tail ζ (B + u.val) (B + 256) : ℝ) : EReal) :=
  split_sum (fun x => ((plusR (ζ (B + x.val)) : ℝ) : EReal)) (fun t => plusR (ζ t))
    (fun x => k0_pay25 (F := Ideal) (ix2 x u)) B u.val 256 (le_refl _) (fun x => tri_at x u)
    (fun x => (if_pos x.isLt).symm)

section Earlier
/-! ## A block wholly before the query -/

variable {ζ : ℕ → ℝ} {vv : ℕ → EReal} {B p : ℕ} (hB : B + 256 ≤ p) (r : Fin 256)
include hB

/-- The tail, stepped over a block. -/
theorem tail_step (ζ : ℕ → ℝ) :
    ((tail ζ (B + 256) p : ℝ) : EReal) + ((tail ζ B (B + 256) : ℝ) : EReal) = ((tail ζ B p : ℝ) : EReal) := by
  rw [← EReal.coe_add, add_comm, ← tail_add ζ (by omega) hB]

/-- The share, from the score, the block's sum and the carried tail. -/
theorem share_step (ζ : ℕ → ℝ) (x : Fin 256) :
    Ideal.exp (((ζ (B + x.val) : ℝ) : EReal) - ((tail ζ (B + x.val) (B + 256) : ℝ) : EReal) - ((tail ζ (B + 256) p : ℝ) : EReal))
      = share ζ p (B + x.val) := by
  rw [← EReal.coe_sub, ← EReal.coe_sub, Ideal.exp_coe, share, tail_add ζ (show B + x.val ≤ B + 256 by omega) hB, sub_sub]

/-- The mix, stepped over a block. -/
theorem mix_step (ζ : ℕ → ℝ) (vv : ℕ → EReal) :
    mix ζ vv (B + 256) p + ∑ x : Fin 256, share ζ p (B + x.val) * vv (B + x.val) = mix ζ vv B p := by
  rw [mix_add ζ vv (show B ≤ B + 256 by omega) hB]
  congr 1
  have := sum_block (fun t => share ζ p t * vv t) B 0 256 (le_refl _)
  rw [Nat.add_zero] at this
  exact (Finset.sum_congr rfl fun x _ => (if_pos ⟨Nat.zero_le _, x.isLt⟩).symm).trans this

/-- The first head's tail after the block. -/
theorem carry0 (q : FVec Ideal S256x64 .bf16) (c : FVec Ideal S256x1 .f32) (K : Vec Ideal S1x256x128 .bf16)
    (hz : ∀ x : Fin 256, ∑ y : Fin 64, q (ix2 r y) * K (ix3 0 x ⟨y.val, by omega⟩) = ((ζ (B + x.val) : ℝ) : EReal))
    (hc : c (ix2 r 0) = ((tail ζ (B + 256) p : ℝ) : EReal)) :
    k0_pay16 (F := Ideal) k0_pay25 q c K (ix2 r 0) = ((tail ζ B p : ℝ) : EReal) := by
  pointwise [k0_pay16, k0_pay14, k0_pay13, k0_pay11]
  simp only [hz, plus_fold, plus_coe, hc]
  exact (congrArg _ (sums ζ B 0)).trans (tail_step hB ζ)

/-- The first head's mix after the block. -/
theorem acc0 (q : FVec Ideal S256x64 .bf16) (c : FVec Ideal S256x1 .f32) (a : FVec Ideal S256x64 .f32)
    (K V : Vec Ideal S1x256x128 .bf16) (d : Fin 64)
    (hz : ∀ x : Fin 256, ∑ y : Fin 64, q (ix2 r y) * K (ix3 0 x ⟨y.val, by omega⟩) = ((ζ (B + x.val) : ℝ) : EReal))
    (hc : c (ix2 r 0) = ((tail ζ (B + 256) p : ℝ) : EReal))
    (hv : ∀ x : Fin 256, V (ix3 0 x ⟨d.val, by omega⟩) = vv (B + x.val))
    (ha : a (ix2 r d) = mix ζ vv (B + 256) p) :
    k0_pay15 (F := Ideal) k0_pay25 q c a K V (ix2 r d) = mix ζ vv B p := by
  pointwise [k0_pay15, k0_pay12, k0_pay14, k0_pay13, k0_pay11]
  simp only [hz, plus_fold, plus_coe, hc, hv, ha, sums, share_step hB]
  exact mix_step hB ζ vv

/-- The second head's tail after the block. -/
theorem carry1 (q : FVec Ideal S256x64 .bf16) (c : FVec Ideal S256x1 .f32) (K : Vec Ideal S1x256x128 .bf16)
    (hz : ∀ x : Fin 256, ∑ y : Fin 64, q (ix2 r y) * K (ix3 0 x ⟨64 + y.val, by omega⟩) = ((ζ (B + x.val) : ℝ) : EReal))
    (hc : c (ix2 r 0) = ((tail ζ (B + 256) p : ℝ) : EReal)) :
    k0_pay6 (F := Ideal) k0_pay25 c (k0_pay17 q K) (Scalar.ofBits .f32 0x00000000#32) (ix2 r 0) = ((tail ζ B p : ℝ) : EReal) := by
  pointwise [k0_pay6, k0_pay4, k0_pay17, k0_pay11]
  simp only [hz, plus_fold, plus_coe, hc]
  exact (congrArg _ (sums ζ B 0)).trans (tail_step hB ζ)

/-- The second head's mix after the block. -/
theorem acc1 (q : FVec Ideal S256x64 .bf16) (c : FVec Ideal S256x1 .f32) (a : FVec Ideal S256x64 .f32)
    (K V : Vec Ideal S1x256x128 .bf16) (d : Fin 64)
    (hz : ∀ x : Fin 256, ∑ y : Fin 64, q (ix2 r y) * K (ix3 0 x ⟨64 + y.val, by omega⟩) = ((ζ (B + x.val) : ℝ) : EReal))
    (hc : c (ix2 r 0) = ((tail ζ (B + 256) p : ℝ) : EReal))
    (hv : ∀ x : Fin 256, V (ix3 0 x ⟨64 + d.val, by omega⟩) = vv (B + x.val))
    (ha : a (ix2 r d) = mix ζ vv (B + 256) p) :
    k0_pay5 (F := Ideal) k0_pay25 c a (k0_pay12 V) (k0_pay17 q K) (Scalar.ofBits .f32 0x00000000#32) (ix2 r d)
      = mix ζ vv B p := by
  pointwise [k0_pay5, k0_pay4, k0_pay17, k0_pay12, k0_pay11]
  simp only [hz, plus_fold, plus_coe, hc, hv, ha, sums, share_step hB]
  exact mix_step hB ζ vv

end Earlier

section Diagonal
/-! ## The block the query stands in -/

/-- The block's number, as the kernel divides it out of its first row. -/
theorem block_word : ∀ j : Fin 32,
    Scalar.select
      (Scalar.andi
        (Scalar.cmpi CmpIPredicate.ne
          (Scalar.subi
            (Scalar.extui (Scalar.cmpi CmpIPredicate.sgt (Scalar.addi (0#32) (Scalar.muli (BitVec.ofNat 32 j.val) 256#32)) 0#32))
            (Scalar.extui (Scalar.cmpi CmpIPredicate.slt (Scalar.addi (0#32) (Scalar.muli (BitVec.ofNat 32 j.val) 256#32)) 0#32)))
          (Scalar.subi (Scalar.extui (Scalar.cmpi CmpIPredicate.sgt 256#32 0#32) : BitVec 32)
            (Scalar.extui (Scalar.cmpi CmpIPredicate.slt 256#32 0#32))))
        (Scalar.cmpi CmpIPredicate.ne
          (Scalar.remsi (Scalar.addi (0#32) (Scalar.muli (BitVec.ofNat 32 j.val) 256#32)) 256#32) 0#32))
      (Scalar.subi (Scalar.divsi (Scalar.addi (0#32) (Scalar.muli (BitVec.ofNat 32 j.val) 256#32)) 256#32) 1#32)
      (Scalar.divsi (Scalar.addi (0#32) (Scalar.muli (BitVec.ofNat 32 j.val) 256#32)) 256#32)
    = BitVec.ofNat 32 j.val := by
  decide +kernel

/-- The mask keeps the keys before the query. -/
theorem mask_at (i : grid0.Coords) (r u : Fin 256) (α : Type) (x y : α) :
    Scalar.select ((k0_pay26 i) (ix2 r u)) x y = if u.val < r.val then x else y := by
  pointwise [k0_pay26]
  obtain ⟨j, hj⟩ : ∃ j : Fin 32, j = i 2 := ⟨_, rfl⟩
  rw [← hj]
  rw [block_word j]
  have e (n : ℕ) : IntOp.addi (IntOp.muli (BitVec.ofNat 32 j.val) 256#32) (BitVec.ofNat 32 n)
      = BitVec.ofNat 32 (j.val * 256 + n) := by
    rw [BitVec.ofNat_add, BitVec.ofNat_mul]; rfl
  have e0 : Scalar.addi (0#32) (Scalar.muli (BitVec.ofNat 32 j.val) 256#32)
      = IntOp.muli (BitVec.ofNat 32 j.val) 256#32 := BitVec.zero_add _
  rw [e0]
  refine (congrArg₂ (fun a b => Scalar.select (IntOp.cmpi .slt a b) x y) (e u.val) (e r.val)).trans ?_
  rw [Words.select_slt (by omega) (by omega)]
  exact if_congr (by omega) rfl rfl

variable {ζ : ℕ → ℝ} {vv : ℕ → EReal} {B : ℕ} (i : grid0.Coords) (r : Fin 256)

/-- The block's column sums before the query, high and low parts together. -/
theorem sums_diag (u : Fin 256) :
    ∑ x : Fin 256, Scalar.select (k0_pay26 i (ix2 r x)) (((plusR (ζ (B + x.val)) : ℝ) : EReal) * k0_pay25 (F := Ideal) (ix2 x u)) 0
      + ∑ x : Fin 256, (Scalar.select (k0_pay26 i (ix2 r x)) ((plusR (ζ (B + x.val)) : ℝ) : EReal) 0
          - Scalar.select (k0_pay26 i (ix2 r x)) ((plusR (ζ (B + x.val)) : ℝ) : EReal) 0) * k0_pay25 (F := Ideal) (ix2 x u)
      = ((tail ζ (B + u.val) (B + r.val) : ℝ) : EReal) := by
  simp only [mask_at]
  rw [tail, ← split_sum (fun x => if x.val < r.val then ((plusR (ζ (B + x.val)) : ℝ) : EReal) else 0) (fun t => plusR (ζ t))
    (fun x => k0_pay25 (F := Ideal) (ix2 x u)) B u.val r.val (by omega) (fun x => tri_at x u) (fun x => rfl)]
  refine congrArg (· + _) (Finset.sum_congr rfl fun x _ => ?_)
  split
  · rfl
  · rw [zero_mul]

/-- The block's shares of the keys before the query, times their values. -/
theorem mix_diag (z : Fin 256 → EReal)
    (hz : ∀ x : Fin 256, x.val < r.val → z x = share ζ (B + r.val) (B + x.val) * vv (B + x.val)) :
    ∑ x : Fin 256, Scalar.select (k0_pay26 i (ix2 r x)) (z x) 0 = mix ζ vv B (B + r.val) := by
  simp only [mask_at]
  have := sum_block (fun t => share ζ (B + r.val) t * vv t) B 0 r.val (by omega)
  rw [Nat.add_zero] at this
  refine (Finset.sum_congr rfl fun x _ => ?_).trans this
  by_cases h : x.val < r.val
  · rw [if_pos h, if_pos ⟨Nat.zero_le _, h⟩, hz x h]
  · rw [if_neg h, if_neg fun h' => h h'.2]

/-- The first head's tail at the block's start. -/
theorem carry0_diag (q : FVec Ideal S256x64 .bf16) (K : Vec Ideal S1x256x128 .bf16)
    (hz : ∀ x : Fin 256, ∑ y : Fin 64, q (ix2 r y) * K (ix3 0 x ⟨y.val, by omega⟩) = ((ζ (B + x.val) : ℝ) : EReal)) :
    k0_pay35 (F := Ideal) k0_pay25 (k0_pay26 i) q K (ix2 r 0) = ((tail ζ B (B + r.val) : ℝ) : EReal) := by
  pointwise [k0_pay35, k0_pay33, k0_pay32, k0_pay30]
  simp only [hz, plus_fold, plus_coe]
  exact sums_diag i r 0

/-- The first head's mix at the block's start. -/
theorem acc0_diag (q : FVec Ideal S256x64 .bf16) (K V : Vec Ideal S1x256x128 .bf16) (d : Fin 64)
    (hz : ∀ x : Fin 256, ∑ y : Fin 64, q (ix2 r y) * K (ix3 0 x ⟨y.val, by omega⟩) = ((ζ (B + x.val) : ℝ) : EReal))
    (hv : ∀ x : Fin 256, V (ix3 0 x ⟨d.val, by omega⟩) = vv (B + x.val)) :
    k0_pay34 (F := Ideal) k0_pay25 (k0_pay26 i) q K V (ix2 r d) = mix ζ vv B (B + r.val) := by
  pointwise [k0_pay34, k0_pay31, k0_pay33, k0_pay32, k0_pay30]
  simp only [hz, plus_fold, plus_coe, hv, sums_diag]
  exact mix_diag i r _ fun x _ => by
    rw [← EReal.coe_sub, Ideal.exp_coe, share]

/-- The second head's tail at the block's start. -/
theorem carry1_diag (q : FVec Ideal S256x64 .bf16) (K : Vec Ideal S1x256x128 .bf16)
    (hz : ∀ x : Fin 256, ∑ y : Fin 64, q (ix2 r y) * K (ix3 0 x ⟨64 + y.val, by omega⟩) = ((ζ (B + x.val) : ℝ) : EReal)) :
    k0_pay3 (F := Ideal) k0_pay25 (k0_pay26 i) (k0_pay37 q K) (k0_pay38 q K) (ix2 r 0)
      = ((tail ζ B (B + r.val) : ℝ) : EReal) := by
  pointwise [k0_pay3, k0_pay1, k0_pay38, k0_pay37, k0_pay36, k0_pay30]
  simp only [hz, plus_fold, plus_coe]
  exact sums_diag i r 0

/-- The second head's mix at the block's start. -/
theorem acc1_diag (q : FVec Ideal S256x64 .bf16) (K V : Vec Ideal S1x256x128 .bf16) (d : Fin 64)
    (hz : ∀ x : Fin 256, ∑ y : Fin 64, q (ix2 r y) * K (ix3 0 x ⟨64 + y.val, by omega⟩) = ((ζ (B + x.val) : ℝ) : EReal))
    (hv : ∀ x : Fin 256, V (ix3 0 x ⟨64 + d.val, by omega⟩) = vv (B + x.val)) :
    k0_pay2 (F := Ideal) k0_pay25 (k0_pay26 i) (k0_pay31 V) (k0_pay36 q K) (k0_pay37 q K) (k0_pay38 q K) (ix2 r d)
      = mix ζ vv B (B + r.val) := by
  pointwise [k0_pay2, k0_pay1, k0_pay38, k0_pay37, k0_pay36, k0_pay31, k0_pay30]
  simp only [hz, plus_fold, plus_coe, hv, sums_diag]
  exact mix_diag i r _ fun x _ => by
    rw [← EReal.coe_sub, Ideal.exp_coe, share]

end Diagonal

end Cert.AttnRow
end
-- ==== Proof.AttnLoop.lean ====
module

public import proofs.«01_k».proof.Proof.AttnRow
public import Idealize.ShloMosaic.Lib.Pipeline.ValueKit

@[expose] public section

/-! # The attention kernel's walk over the key blocks

A grid point holds one block of 256 queries of two heads. It starts at the key block the queries
stand in and walks backwards to the first. The module opens a trip of that walk, states what the
carried tails and mixes are before each trip, and reads the point's output block. -/

set_option maxRecDepth 16384

noncomputable section
namespace Cert.AttnLoop
open Idealize.ShloMosaic Cert.AttnIdeal Cert.AttnIdeal.Gen Cert.Stick

/-! ## Trip counts and block offsets -/

/-- The walk makes one trip per key block before the queries' own. -/
theorem trips1 (i : grid0.Coords) : (k0_t1_loop i).trips = (i 2).val := by
  obtain ⟨j, hj⟩ : ∃ j : Fin 32, j = i 2 := ⟨_, rfl⟩
  show Scf.trips _ _ _ = _
  dsimp only
  rw [← hj]
  clear hj
  revert j
  decide +kernel

/-- Nothing is left over after it. -/
theorem trips2 (i : grid0.Coords) : (k0_t2_loop i).trips = 0 := by
  obtain ⟨j, hj⟩ : ∃ j : Fin 32, j = i 2 := ⟨_, rfl⟩
  show Scf.trips _ _ _ = _
  dsimp only
  rw [← hj]
  clear hj
  revert j
  decide +kernel

/-- The queries' own key block. -/
theorem off1 (i : grid0.Coords) : k0_off1 i = ![0, (i 2).val * 256, 0] := by
  obtain ⟨j, hj⟩ : ∃ j : Fin 32, j = i 2 := ⟨_, rfl⟩
  unfold k0_off1
  dsimp only
  rw [← hj]
  clear hj
  revert j
  decide +kernel

/-- The key block of trip `k`. -/
theorem off2 (i : grid0.Coords) (k : Fin (k0_t1_loop i).trips) :
    k0_off2 i k = ![0, ((i 2).val - 1 - k.val) * 256, 0] := by
  have hk : k.val < (i 2).val := trips1 i ▸ k.isLt
  obtain ⟨j, hj⟩ : ∃ j : Fin 32, j = i 2 := ⟨_, rfl⟩
  obtain ⟨l, hl⟩ : ∃ l : Fin 32, l.val = k.val := ⟨⟨k.val, by omega⟩, rfl⟩
  unfold k0_off2
  dsimp only
  rw [← hl, ← hj] at hk ⊢
  clear hj hl k
  revert l j
  decide +kernel

/-- A block of 256 keys, read at a key and a column. -/
theorem block_at (X : Vec Ideal S1x8192x128 .bf16) (off : Fin 3 → ℕ)
    (inb : ∀ a, off a + S1x256x128.size a ≤ S1x8192x128.size a) (B : ℕ) (hoff : off = ![0, B, 0])
    (x : Fin 256) (e : Fin 128) (hx : B + x.val < 8192) :
    View.ld X (Rect.unit off S1x256x128.size inb) (ix3 0 x e) = X (ix3 0 ⟨B + x.val, hx⟩ e) := by
  subst hoff
  refine congrArg X (funext fun a => Fin.ext ?_)
  match a with
  | ⟨0, _⟩ => exact (Rect.idx_unit_val _ _ _ _ _).trans (by simp)
  | ⟨1, _⟩ => exact (Rect.idx_unit_val _ _ _ _ _).trans (by simp)
  | ⟨2, _⟩ => exact (Rect.idx_unit_val _ _ _ _ _).trans (by simp)

/-! ## One trip -/

/-- A trip's result: both heads' tails and mixes, stepped over the trip's block. -/
theorem trip_eq (𝒱 : Variants) (c : Dev nD) (bd : Option 𝒱.V) (i : grid0.Coords)
  (arg3 : Memref sig .tc .vmem S1x256x128 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x256x128 .bf16) (harg6 : arg6.IsWhole)
    (v18 : BitVec 32) (v25 : FVec Ideal S256x256 .bf16) (v36 v37 : FVec Ideal S256x64 .bf16)
    (x1 x2 : Vec Ideal S1x8192x128 .bf16) (k : Fin (k0_t1_loop i).trips)
    (acc : FVec Ideal S256x1 .f32 × FVec Ideal S256x1 .f32 × FVec Ideal S256x64 .f32 × FVec Ideal S256x64 .f32) :
    tripR_k0_t1 (F := Ideal) 𝒱 c bd i arg3 harg3 arg4 harg4 arg5 harg5 arg6 harg6 v18 v25 v36 v37
      (harg4.unread x1) (harg5.unread x2) k acc = (
    let K : Vec Ideal S1x256x128 .bf16 := View.ld x1 (Rect.unit (k0_off2 i k) S1x256x128.size (k0_off2_inb i k))
    let V : Vec Ideal S1x256x128 .bf16 := View.ld x2 (Rect.unit (k0_off2 i k) S1x256x128.size (k0_off2_inb i k))
    (k0_pay16 v25 v36 acc.1 K,
      k0_pay6 v25 acc.2.1 (k0_pay17 v37 K) (Scalar.ofBits .f32 0x00000000#32),
      k0_pay15 v25 v36 acc.1 acc.2.2.1 K V,
      k0_pay5 v25 acc.2.1 acc.2.2.2 (k0_pay12 V) (k0_pay17 v37 K) (Scalar.ofBits .f32 0x00000000#32))) := by
  unfold tripR_k0_t1 trip_k0_t1
  dsimp only
  sl_unfold_words
  simp only [View.readAt_eq_ld, Memref.IsWhole.read_unread]

/-! ## The walk -/

/-- The values of a column by key. -/
def value (x2 : Vec Ideal S1x8192x128 .bf16) (e : Fin 128) (s : ℕ) : EReal :=
  if h : s < 8192 then x2 (ix3 0 ⟨s, h⟩ e) else 0

theorem value_block (x2 : Vec Ideal S1x8192x128 .bf16) (e : Fin 128) (s : ℕ) (h : s < 8192) :
    x2 (ix3 0 ⟨s, h⟩ e) = value x2 e s := by
  rw [value, dif_pos h]

/-- A row's scores are real: `ζ h s` is head `h`'s score at key `s`. -/
def Real2 (x0 : Vec Ideal S1x256x128 .bf16) (x1 : Vec Ideal S1x8192x128 .bf16) (r : Fin 256) (ζ : Fin 2 → ℕ → ℝ) : Prop :=
  ∀ (h : Fin 2) (s : Fin 8192), ∑ y : Fin 64, x0 (ix3 0 r ⟨h.val * 64 + y.val, by omega⟩)
    * x1 (ix3 0 s ⟨h.val * 64 + y.val, by omega⟩) = ((ζ h s.val : ℝ) : EReal)

section Row
variable {x0 : Vec Ideal S1x256x128 .bf16} {x1 x2 : Vec Ideal S1x8192x128 .bf16} {r : Fin 256} {ζ : Fin 2 → ℕ → ℝ}
  (hz : Real2 x0 x1 r ζ)
include hz

/-- The first head's scores against a block of keys. -/
theorem scores0 (off : Fin 3 → ℕ) (inb : ∀ a, off a + S1x256x128.size a ≤ S1x8192x128.size a) (B : ℕ)
    (hoff : off = ![0, B, 0]) (hB : B + 256 ≤ 8192) (x : Fin 256) :
    ∑ y : Fin 64, (k0_pay28 (F := Ideal) x0) (ix2 r y)
      * View.ld x1 (Rect.unit off S1x256x128.size inb) (ix3 0 x ⟨y.val, by omega⟩) = ((ζ 0 (B + x.val) : ℝ) : EReal) := by
  rw [← hz 0 ⟨B + x.val, by omega⟩]
  refine Finset.sum_congr rfl fun y _ => ?_
  rw [block_at x1 off inb B hoff x _ (by omega)]
  pointwise [k0_pay28, k0_pay27]

/-- The second head's scores against a block of keys. -/
theorem scores1 (off : Fin 3 → ℕ) (inb : ∀ a, off a + S1x256x128.size a ≤ S1x8192x128.size a) (B : ℕ)
    (hoff : off = ![0, B, 0]) (hB : B + 256 ≤ 8192) (x : Fin 256) :
    ∑ y : Fin 64, (k0_pay29 (F := Ideal) x0) (ix2 r y)
      * View.ld x1 (Rect.unit off S1x256x128.size inb) (ix3 0 x ⟨64 + y.val, by omega⟩) = ((ζ 1 (B + x.val) : ℝ) : EReal) := by
  rw [← hz 1 ⟨B + x.val, by omega⟩]
  refine Finset.sum_congr rfl fun y _ => ?_
  rw [block_at x1 off inb B hoff x _ (by omega)]
  pointwise [k0_pay29, k0_pay27]
end Row

/-- What is carried once the walk has come to key `s`, for the row of query `p`. -/
structure Carried (x2 : Vec Ideal S1x8192x128 .bf16) (r : Fin 256) (ζ : Fin 2 → ℕ → ℝ) (s p : ℕ)
    (acc : FVec Ideal S256x1 .f32 × FVec Ideal S256x1 .f32 × FVec Ideal S256x64 .f32 × FVec Ideal S256x64 .f32) : Prop where
  tail0 : acc.1 (ix2 r 0) = ((tail (ζ 0) s p : ℝ) : EReal)
  tail1 : acc.2.1 (ix2 r 0) = ((tail (ζ 1) s p : ℝ) : EReal)
  mix0 : ∀ d : Fin 64, acc.2.2.1 (ix2 r d) = mix (ζ 0) (value x2 ⟨d.val, by omega⟩) s p
  mix1 : ∀ d : Fin 64, acc.2.2.2 (ix2 r d) = mix (ζ 1) (value x2 ⟨64 + d.val, by omega⟩) s p

/-- The walk's invariant. -/
theorem walk (𝒱 : Variants) (c : Dev nD) (bd : Option 𝒱.V) (i : grid0.Coords)
  (arg3 : Memref sig .tc .vmem S1x256x128 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x256x128 .bf16) (harg6 : arg6.IsWhole)
    (v18 : BitVec 32) {x0 : Vec Ideal S1x256x128 .bf16} {x1 x2 : Vec Ideal S1x8192x128 .bf16} {r : Fin 256}
    {ζ : Fin 2 → ℕ → ℝ} (hz : Real2 x0 x1 r ζ)
    (init : FVec Ideal S256x1 .f32 × FVec Ideal S256x1 .f32 × FVec Ideal S256x64 .f32 × FVec Ideal S256x64 .f32)
    (h0 : Carried x2 r ζ ((i 2).val * 256) ((i 2).val * 256 + r.val) init) :
    ∀ n, n ≤ (i 2).val → Carried x2 r ζ (((i 2).val - n) * 256) ((i 2).val * 256 + r.val)
      (st_k0_t1 (F := Ideal) 𝒱 c bd i arg3 harg3 arg4 harg4 arg5 harg5 arg6 harg6 v18 k0_pay25 (k0_pay28 x0) (k0_pay29 x0)
        (harg4.unread x1) (harg5.unread x2) init n)
  | 0, _ => h0
  | n + 1, hn => by
    have ih := walk 𝒱 c bd i arg3 harg3 arg4 harg4 arg5 harg5 arg6 harg6 v18 hz init h0 n (by omega)
    have hj : (i 2).val < 32 := (i 2).isLt
    have hk : n < (k0_t1_loop i).trips := by rw [trips1]; omega
    have e := st_k0_t1_succ (F := Ideal) 𝒱 c bd i arg3 harg3 arg4 harg4 arg5 harg5 arg6 harg6 v18 k0_pay25 (k0_pay28 x0)
      (k0_pay29 x0) (harg4.unread x1) (harg5.unread x2) init ⟨n, hk⟩
    rw [trip_eq] at e
    refine (congrArg (Carried x2 r ζ _ _) e).mpr ?_
    clear e
    have hs : ((i 2).val - n) * 256 = ((i 2).val - (n + 1)) * 256 + 256 := by omega
    rw [hs] at ih
    have hoff : k0_off2 i ⟨n, hk⟩ = ![0, ((i 2).val - (n + 1)) * 256, 0] := by
      rw [off2]; congr 3; show (i 2).val - 1 - n = _; omega
    generalize st_k0_t1 (F := Ideal) 𝒱 c bd i arg3 harg3 arg4 harg4 arg5 harg5 arg6 harg6 v18 k0_pay25 (k0_pay28 x0)
      (k0_pay29 x0) (harg4.unread x1) (harg5.unread x2) init n = acc at ih ⊢
    have hB : ((i 2).val - (n + 1)) * 256 + 256 ≤ (i 2).val * 256 + r.val := by omega
    have hB' : ((i 2).val - (n + 1)) * 256 + 256 ≤ 8192 := by omega
    exact {
      tail0 := AttnRow.carry0 hB r _ _ _ (scores0 hz _ _ _ hoff hB') ih.tail0
      tail1 := AttnRow.carry1 hB r _ _ _ (scores1 hz _ _ _ hoff hB') ih.tail1
      mix0 := fun d => AttnRow.acc0 hB r _ _ _ _ _ d (scores0 hz _ _ _ hoff hB') ih.tail0
        (fun x => (block_at x2 _ _ _ hoff x _ (by omega)).trans (value_block x2 _ _ _)) (ih.mix0 d)
      mix1 := fun d => AttnRow.acc1 hB r _ _ _ _ _ d (scores1 hz _ _ _ hoff hB') ih.tail1
        (fun x => (block_at x2 _ _ _ hoff x _ (by omega)).trans (value_block x2 _ _ _)) (ih.mix1 d) }

/-- What the walk starts from: the queries' own block. -/
theorem start (i : grid0.Coords) {x0 : Vec Ideal S1x256x128 .bf16} {x1 x2 : Vec Ideal S1x8192x128 .bf16} {r : Fin 256}
    {ζ : Fin 2 → ℕ → ℝ} (hz : Real2 x0 x1 r ζ) :
    let K : Vec Ideal S1x256x128 .bf16 := View.ld x1 (Rect.unit (k0_off1 i) S1x256x128.size (k0_off1_inb i))
    let V : Vec Ideal S1x256x128 .bf16 := View.ld x2 (Rect.unit (k0_off1 i) S1x256x128.size (k0_off1_inb i))
    Carried x2 r ζ ((i 2).val * 256) ((i 2).val * 256 + r.val)
      (k0_pay35 k0_pay25 (k0_pay26 i) (k0_pay28 x0) K,
        k0_pay3 k0_pay25 (k0_pay26 i) (k0_pay37 (k0_pay29 x0) K) (k0_pay38 (k0_pay29 x0) K),
        k0_pay34 k0_pay25 (k0_pay26 i) (k0_pay28 x0) K V,
        k0_pay2 k0_pay25 (k0_pay26 i) (k0_pay31 V) (k0_pay36 (k0_pay29 x0) K) (k0_pay37 (k0_pay29 x0) K)
          (k0_pay38 (k0_pay29 x0) K)) := by
  have hj : (i 2).val < 32 := (i 2).isLt
  have hB : (i 2).val * 256 + 256 ≤ 8192 := by omega
  exact {
    tail0 := AttnRow.carry0_diag i r _ _ (scores0 hz _ _ _ (off1 i) hB)
    tail1 := AttnRow.carry1_diag i r _ _ (scores1 hz _ _ _ (off1 i) hB)
    mix0 := fun d => AttnRow.acc0_diag i r _ _ _ d (scores0 hz _ _ _ (off1 i) hB)
      (fun x => (block_at x2 _ _ _ (off1 i) x _ (by omega)).trans (value_block x2 _ _ _))
    mix1 := fun d => AttnRow.acc1_diag i r _ _ _ d (scores1 hz _ _ _ (off1 i) hB)
      (fun x => (block_at x2 _ _ _ (off1 i) x _ (by omega)).trans (value_block x2 _ _ _)) }

/-! ## The output block -/

/-- The two heads' mixes, side by side in the block's columns. -/
theorem join_at (x2 : Vec Ideal S1x8192x128 .bf16) (r : Fin 256) (ζ : Fin 2 → ℕ → ℝ) (p : ℕ) (a b : FVec Ideal S256x64 .f32)
    (ha : ∀ d : Fin 64, a (ix2 r d) = mix (ζ 0) (value x2 ⟨d.val, by omega⟩) 0 p)
    (hb : ∀ d : Fin 64, b (ix2 r d) = mix (ζ 1) (value x2 ⟨64 + d.val, by omega⟩) 0 p) (e : Fin 128) :
    k0_pay10 (F := Ideal) a b (ix3 0 r e) = mix (ζ ⟨e.val / 64, by omega⟩) (value x2 e) 0 p := by
  pointwise [k0_pay10]
  by_cases h : e.val < 64
  · rw [dif_pos h, ha, show (⟨e.val / 64, by omega⟩ : Fin 2) = 0 from Fin.ext (by show e.val / 64 = 0; omega)]
  · rw [dif_neg h, hb, show (⟨e.val / 64, by omega⟩ : Fin 2) = 1 from Fin.ext (by show e.val / 64 = 1; omega)]
    congr 2
    exact Fin.ext (by show 64 + (e.val - 64) = e.val; omega)

/-- The grid point's output block: each row's mix over all the keys before its query. -/
theorem out_at (c : Dev nD) (i : grid0.Coords)
  (arg3 : Memref sig .tc .vmem S1x256x128 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x256x128 .bf16) (harg6 : arg6.IsWhole)
    {x0 : Vec Ideal S1x256x128 .bf16} {x1 x2 : Vec Ideal S1x8192x128 .bf16} {r : Fin 256}
    {ζ : Fin 2 → ℕ → ℝ} (hz : Real2 x0 x1 r ζ) (e : Fin 128) :
    out0_A_3 (F := Ideal) c i arg3 harg3 arg4 harg4 arg5 harg5 arg6 harg6 x0 x1 x2 (ix3 0 r e)
      = mix (ζ ⟨e.val / 64, by omega⟩) (value x2 e) 0 ((i 2).val * 256 + r.val) := by
  frame_out
  have h1 := trips1 i
  have h2 := trips2 i
  dsimp only [k0_t1_loop, k0_t2_loop, Scf.Loop.trips] at h1 h2
  rw [h2, st_k0_t2_zero, h1]
  have C := fun v18 => walk Variants.none c none i arg3 harg3 arg4 harg4 arg5 harg5 arg6 harg6 v18 hz _ (start (x2 := x2) i hz) _ (le_refl _)
  rw [Nat.sub_self, Nat.zero_mul] at C
  exact join_at x2 r ζ _ _ _ (C _).mix0 (C _).mix1 e

end Cert.AttnLoop
end
-- ==== Proof.WindowSum.lean ====
module

public import Idealize.ShloMosaic.PureOps.Ideal
public import Idealize.ShloMosaic.PureOps.Ideal.Laws
public import Idealize.ShloMosaic.Lib.Pointwise
public import Idealize.ShloMosaic.Init

@[expose] public section

/-! # A window sum that is a running sum from the right

The window starts at the element and reaches over the whole last axis; what it reaches past the
end counts as the initial value. -/

noncomputable section
namespace Cert.WindowSum
open Idealize.ShloMosaic

theorem foldl_add_eq {α : Type} (l : List α) (g : α → EReal) (v : EReal) :
    l.foldl (fun r n => r + g n) v = v + (l.map g).sum := by
  induction l generalizing v with
  | nil => simp
  | cons a l ih => rw [List.foldl_cons, ih, List.map_cons, List.sum_cons, add_assoc]

/-- The window's offsets: the last one alone moves. -/
abbrev W (n : ℕ) : Shape := ⟨4, ![1, 1, 1, n]⟩

/-- The window's indices are its offsets along the last axis. -/
def wEquiv (n : ℕ) : (W n).Idx ≃ Fin n where
  toFun y := y 3
  invFun m := fun a => match a with
    | ⟨0, _⟩ => (0 : Fin 1)
    | ⟨1, _⟩ => (0 : Fin 1)
    | ⟨2, _⟩ => (0 : Fin 1)
    | ⟨3, _⟩ => m
  left_inv y := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv m := rfl

/-- The running sum from the right, read at an index. -/
theorem apply {A B P S : ℕ} (x : (⟨4, ![A, B, P, S]⟩ : Shape).Idx → EReal) (u : (⟨0, ![]⟩ : Shape).Idx → EReal)
    (hi : Fin 4 → ℕ) (h : (⟨4, ![A, B, P, S]⟩ : Shape).ReduceWindows ![1, 1, 1, S] ![1, 1, 1, 1] ![0, 0, 0, 0] hi ⟨4, ![A, B, P, S]⟩)
    (hu : 0 < (⟨0, ![]⟩ : Shape).numel) (hz : ∀ i, u i = 0) (a : Fin A) (b : Fin B) (p : Fin P) (s : Fin S) :
    Host.reduceWindowAdd (F := Ideal) (φ := .f32) ![1, 1, 1, S] ![1, 1, 1, 1] ![0, 0, 0, 0] hi x u h hu (ix4 a b p s)
      = ∑ n : Fin S, if hn : s.val + n.val < S then x (ix4 a b p ⟨s.val + n.val, hn⟩) else 0 := by
  unfold Host.reduceWindowAdd
  rw [Ideal.hostReduceWindowAdd_def]
  unfold Ideal.hostReduceWindowAdd Host.reduceWindow
  dsimp only
  rw [foldl_add_eq, hz, zero_add, ← Fin.sum_univ_def]
  refine Fintype.sum_equiv ((W S).rowMajor.symm.trans (wEquiv S)) _ _ fun m => ?_
  obtain ⟨n, hy⟩ : ∃ n : Fin S, (W S).rowMajor.symm m = (wEquiv S).symm n :=
    ⟨wEquiv S ((W S).rowMajor.symm m), ((wEquiv S).symm_apply_apply _).symm⟩
  have hn' : ((W S).rowMajor.symm.trans (wEquiv S)) m = n := by
    rw [Equiv.trans_apply, hy, Equiv.apply_symm_apply]
  rw [hn']
  have y0 : ((W S).rowMajor.symm m 0).val = 0 := by rw [hy]; rfl
  have y1 : ((W S).rowMajor.symm m 1).val = 0 := by rw [hy]; rfl
  have y2 : ((W S).rowMajor.symm m 2).val = 0 := by rw [hy]; rfl
  have y3 : ((W S).rowMajor.symm m 3).val = n.val := by rw [hy]; rfl
  by_cases hn : s.val + n.val < S
  · rw [dif_pos hn, dif_pos]
    · refine congrArg x (funext fun c => Fin.ext ?_)
      match c with
      | ⟨0, _⟩ => show a.val * 1 + ((W S).rowMajor.symm m 0).val - 0 = a.val; omega
      | ⟨1, _⟩ => show b.val * 1 + ((W S).rowMajor.symm m 1).val - 0 = b.val; omega
      | ⟨2, _⟩ => show p.val * 1 + ((W S).rowMajor.symm m 2).val - 0 = p.val; omega
      | ⟨3, _⟩ => show s.val * 1 + ((W S).rowMajor.symm m 3).val - 0 = s.val + n.val; omega
    · intro c
      match c with
      | ⟨0, _⟩ => exact ⟨Nat.zero_le _, by show a.val * 1 + ((W S).rowMajor.symm m 0).val - 0 < A; omega⟩
      | ⟨1, _⟩ => exact ⟨Nat.zero_le _, by show b.val * 1 + ((W S).rowMajor.symm m 1).val - 0 < B; omega⟩
      | ⟨2, _⟩ => exact ⟨Nat.zero_le _, by show p.val * 1 + ((W S).rowMajor.symm m 2).val - 0 < P; omega⟩
      | ⟨3, _⟩ => exact ⟨Nat.zero_le _, by show s.val * 1 + ((W S).rowMajor.symm m 3).val - 0 < S; omega⟩
  · rw [dif_neg hn, dif_neg]
    intro hin
    have := (hin 3).2
    have h3 : s.val * 1 + ((W S).rowMajor.symm m 3).val - 0 < S := this
    omega

end Cert.WindowSum
end
-- ==== Proof.AttnRef.lean ====
module

public import proofs.«01_k».proof.Proof.Stick
public import proofs.«01_k».proof.Proof.WindowSum
public import proofs.«01_k».proof.Proof.Words
public import proofs.«01_k».proof.Proof.Gen.AttnRefIdeal.Read
public import Idealize.ShloMosaic.Lib.Pointwise
public import Idealize.ShloMosaic.Init

@[expose] public section

/-! # The attention as the reference writes it

Where a query's scores are real, the reference's logarithms of sigmoids and its running sum from
the right come to the stick's shares, and its result is their mix of the values. -/

set_option maxRecDepth 16384

noncomputable section
namespace Cert.AttnRef
open Idealize.ShloMosaic Cert.AttnRefIdeal Cert.AttnRefIdeal.Gen Cert.AttnRefIdeal.Read Cert.Stick

variable (q k v : Vec Ideal S4x8192x1024 .bf16) (b : Fin 4) (h : Fin 16) (p : Fin 8192)

/-- A score is the product of the head's columns of the query and of the key. -/
theorem score_at (s : Fin 8192) : val_main_v7 (F := Ideal) q k (ix4 b h p s)
    = ∑ x : Fin 64, q (ix3 b p ⟨h.val * 64 + x.val, by omega⟩) * k (ix3 b s ⟨h.val * 64 + x.val, by omega⟩) := by
  pointwise [val_main_v7, val_main_v3, val_main_v2, val_main_v1, val_main_v0]
  try rfl

theorem log1p_exp (r : ℝ) : Ideal.log1p (Ideal.exp (r : EReal)) = ((Real.log (1 + Real.exp r) : ℝ) : EReal) :=
  log_one_add_exp r

/-- The logarithm of the sigmoid of the opposite score, before its sign. -/
theorem minus_at (s : Fin 8192) (z : ℝ) (hz : val_main_v7 (F := Ideal) q k (ix4 b h p s) = (z : EReal)) :
    val_main_call0_v1 (F := Ideal) q k (ix4 b h p s) = ((plusR z : ℝ) : EReal) := by
  pointwise [val_main_call0_v1, val_main_call0_call0_v11, val_main_call0_call0_v10,
    val_main_call0_call0_v9, val_main_call0_call0_v8, val_main_call0_call0_v7,
    val_main_call0_call0_v6, val_main_call0_call0_v5, val_main_call0_call0_v4,
    val_main_call0_call0_v3, val_main_call0_call0_v2, val_main_call0_call0_v1,
    val_main_call0_call0_v0, val_main_call0_call0_cst, val_main_call0_v0, val_main_v13]
  rw [hz, neg_neg, if_neg (by simp), ← EReal.coe_zero, coe_max, Ideal.absf_def, abs_coe, ← EReal.coe_neg, log1p_exp]
  norm_cast

/-- The logarithm of the sigmoid of the score, before its sign. -/
theorem plus_at (s : Fin 8192) (z : ℝ) (hz : val_main_v7 (F := Ideal) q k (ix4 b h p s) = (z : EReal)) :
    val_main_call3_v1 (F := Ideal) q k (ix4 b h p s) = ((plusR z - z : ℝ) : EReal) := by
  rw [← plusR_neg]
  pointwise [val_main_call3_v1, val_main_call3_call0_v11, val_main_call3_call0_v10,
    val_main_call3_call0_v9, val_main_call3_call0_v8, val_main_call3_call0_v7,
    val_main_call3_call0_v6, val_main_call3_call0_v5, val_main_call3_call0_v4,
    val_main_call3_call0_v3, val_main_call3_call0_v2, val_main_call3_call0_v1,
    val_main_call3_call0_v0, val_main_call3_call0_cst, val_main_call3_v0]
  rw [hz, ← EReal.coe_neg, if_neg (by simp), ← EReal.coe_zero, coe_max, Ideal.absf_def, abs_coe, ← EReal.coe_neg, log1p_exp]
  norm_cast

/-- What one key takes off, in the reference's sign: nothing from the query on. -/
theorem taken_at (s : Fin 8192) (z : ℝ) (hz : val_main_v7 (F := Ideal) q k (ix4 b h p s) = (z : EReal)) :
    val_main_v15 (F := Ideal) q k (ix4 b h p s) = ((if s.val < p.val then -plusR z else 0 : ℝ) : EReal) := by
  pointwise [val_main_v15, val_main_call1_v2, val_main_call1_v1, val_main_call1_v0, val_main_v14,
    val_main_v12, val_main_v11, val_main_v10, val_main_v9, val_main_v8, val_main_v6, val_main_cst]
  rw [Words.select_slt (by omega) (by omega), minus_at q k b h p s z hz]
  split
  · rw [EReal.coe_neg]
  · rw [EReal.coe_zero]; exact Ideal.ofBits_zero_f32

/-- The running sum from the right: all that is taken between the key and the query. -/
theorem running_at (s : Fin 8192) (ζ : ℕ → ℝ)
    (hz : ∀ s : Fin 8192, val_main_v7 (F := Ideal) q k (ix4 b h p s) = ((ζ s.val : ℝ) : EReal)) :
    val_main_v16 (F := Ideal) q k (ix4 b h p s) = ((-tail ζ s.val p.val : ℝ) : EReal) := by
  have e : val_main_v16 (F := Ideal) q k (ix4 b h p s)
      = ∑ n : Fin 8192, if hn : s.val + n.val < 8192 then
          val_main_v15 (F := Ideal) q k (ix4 b h p ⟨s.val + n.val, hn⟩) else 0 :=
    WindowSum.apply (A := 4) (B := 16) (P := 8192) (S := 8192) (val_main_v15 (F := Ideal) q k) (val_main_call2_v0 (F := Ideal))
      _ _ _ (fun i => Ideal.ofBits_zero_f32) b h p s
  rw [e]
  have e' : ∀ n : Fin 8192, (if hn : s.val + n.val < 8192 then
      val_main_v15 (F := Ideal) q k (ix4 b h p ⟨s.val + n.val, hn⟩) else 0)
      = ((if s.val + n.val < p.val then -plusR (ζ (s.val + n.val)) else 0 : ℝ) : EReal) := fun n => by
    by_cases hn : s.val + n.val < 8192
    · rw [dif_pos hn, taken_at q k b h p _ _ (hz _)]
    · rw [dif_neg hn, if_neg (by have := p.isLt; omega), EReal.coe_zero]
  rw [Finset.sum_congr rfl fun n _ => e' n, coe_sum, tail, ← Finset.sum_neg_distrib]
  refine congrArg Real.toEReal ?_
  rw [Fin.sum_univ_eq_sum_range (fun n => if s.val + n < p.val then -plusR (ζ (s.val + n)) else 0) 8192,
    ← Finset.sum_filter]
  refine Finset.sum_nbij (fun x => s.val + x) (fun x hx => ?_) (fun x _ y _ h => ?_) (fun y hy => ?_)
    fun _ _ => rfl
  · simp only [Finset.mem_Ico, Finset.mem_filter, Finset.mem_range] at hx ⊢; omega
  · exact Nat.add_left_cancel h
  · simp only [Finset.coe_Ico, Set.mem_Ico] at hy
    refine ⟨y - s.val, ?_, by show s.val + (y - s.val) = y; omega⟩
    have := p.isLt
    simp only [Finset.coe_filter, Finset.mem_range, Set.mem_setOf_eq]; omega

/-- The reference's weight of a key is its share of the stick. -/
theorem weight_at (s : Fin 8192) (ζ : ℕ → ℝ)
    (hz : ∀ s : Fin 8192, val_main_v7 (F := Ideal) q k (ix4 b h p s) = ((ζ s.val : ℝ) : EReal)) :
    val_main_v21 (F := Ideal) q k (ix4 b h p s) = if s.val < p.val then share ζ p.val s.val else 0 := by
  pointwise [val_main_v21, val_main_call4_v2, val_main_call4_v1, val_main_call4_v0, val_main_v20,
    val_main_v19, val_main_v18, val_main_v17, val_main_v12, val_main_v11, val_main_v10, val_main_v9,
    val_main_v8, val_main_v6, val_main_cst_0]
  rw [Words.select_slt (by omega) (by omega)]
  split
  · rename_i hs
    rw [plus_at q k b h p s _ (hz s), running_at q k b h p s ζ hz, taken_at q k b h p s _ (hz s), if_pos hs,
      ← EReal.coe_neg, ← EReal.coe_sub, ← EReal.coe_add, Ideal.exp_coe, share]
    congr 2
    ring
  · exact Ideal.ofBits_zero_f32

/-- The values of a head's column, by key. -/
def value (v : Vec Ideal S4x8192x1024 .bf16) (b : Fin 4) (e : Fin 1024) (s : ℕ) : EReal :=
  if h : s < 8192 then v (ix3 b ⟨s, h⟩ e) else 0

/-- The reference's result at a query and a column. -/
theorem result_at (e : Fin 1024) (ζ : ℕ → ℝ)
    (hz : ∀ s : Fin 8192, ∑ x : Fin 64, q (ix3 b p ⟨e.val / 64 * 64 + x.val, by omega⟩)
      * k (ix3 b s ⟨e.val / 64 * 64 + x.val, by omega⟩) = ((ζ s.val : ℝ) : EReal)) :
    val_main_v25 (F := Ideal) q k v (ix3 b p e) = mix ζ (value v b e) 0 p.val := by
  pointwise [val_main_v25, val_main_v24, val_main_v23, val_main_v22, val_main_v5, val_main_v4]
  rw [mix_eq_sum ζ _ (by omega)]
  refine Finset.sum_congr rfl fun s _ => ?_
  rw [weight_at q k b ⟨e.val / 64, by omega⟩ p s ζ fun s => (score_at q k b ⟨e.val / 64, by omega⟩ p s).trans (hz s)]
  have hv : value v b e s.val = v (ix3 b s e) := dif_pos s.isLt
  rw [hv]
  split
  · exact mul_comm _ _
  · exact mul_zero _

end Cert.AttnRef
end
-- ==== Proof.AttnFinite.lean ====
module

public import proofs.«01_k».proof.Defs
public import proofs.«01_k».proof.Proof.Stick
public import proofs.«01_k».proof.Proof.Gen.Pre_finite_scores
public import Idealize.ShloMosaic.Lib.ReduceAll
public import Idealize.ShloMosaic.Lib.Pointwise
public import Idealize.ShloMosaic.Init

@[expose] public section

/-! # Finite queries and keys have real scores -/

noncomputable section
namespace Cert.AttnFinite
open Idealize.ShloMosaic Cert.Pre_finite_scores

/-- An extended real whose magnitude compares below `+∞` is a real number. -/
theorem real_of (x : EReal) (h : FloatOps.cmpf (F := Ideal) (φ := .f32) .olt (max x (-x)) (Ideal.ofBits .f32 0x7F800000#32) = 1#1) :
    x = ((x.toReal : ℝ) : EReal) := by
  have ht : Ideal.ofBits .f32 0x7F800000#32 = ⊤ := by simp [Ideal.ofBits, Ideal.ieee]
  rw [ht] at h
  induction x with
  | bot => exact absurd h (by simp [Ideal.cmpf_def, Ideal.cmp])
  | top => exact absurd h (by simp [Ideal.cmpf_def, Ideal.cmp])
  | coe r => rfl

/-- The precondition says that every entry of the queries and of the keys is a real number. -/
theorem finite (q k v : Vec Ideal S4x8192x1024 .bf16) (h : fn (F := Ideal) q k v = fun _ => 1#1) (i : S4x8192x1024.Idx) :
    q i = (((q i).toReal : ℝ) : EReal) ∧ k i = (((k i).toReal : ℝ) : EReal) := by
  have h0 := congrFun h ix0
  dsimp only [fn] at h0
  have h1 := IntOp.andi_eq_one.1 h0
  haveI : Subsingleton S_.Idx := ⟨fun a b => funext fun c => c.elim0⟩
  exact ⟨real_of _ (Host.reduce_andi_all _ _ _ _ _ h1.1 i), real_of _ (Host.reduce_andi_all _ _ _ _ _ h1.2 i)⟩

end Cert.AttnFinite
end
-- ==== Proof.AttnValue.lean ====
/- The attention: the kernel's result array, element by element, and the claim that it is the reference's. -/
module

public import proofs.«01_k».proof.Defs
public import proofs.«01_k».proof.Proof.AttnLoop
public import proofs.«01_k».proof.Proof.AttnRef
public import proofs.«01_k».proof.Proof.AttnFinite
public import proofs.«01_k».proof.Proof.Gen.AttnRefIdeal.Run
public import Idealize.ShloMosaic.Lib.Pipeline.ValueKit
public import Idealize.ShloMosaic.Init

@[expose] public section

set_option maxRecDepth 16384

noncomputable section

namespace Cert.AttnValue

open Idealize.ShloMosaic Idealize.ShloMosaic.TcCoe Idealize.SL.Sem Cert.AttnIdeal Cert.AttnIdeal.Gen Cert.Stick

variable (m : (ℓ : Loc nD τ sig) → Buf (Elt Ideal) ℓ) (ρ : Dev nD → PrngReg)

/-- A point's batch, pair of heads and block of queries. -/
theorem coord_facts : ∀ t : Fin grid0.N, (grid0.coords t 0).val = t.val / 256 ∧ (grid0.coords t 1).val = t.val / 32 % 8
    ∧ (grid0.coords t 2).val = t.val % 32 := by decide +kernel

/-- Which blocks the grid's points name. -/
theorem idx_facts : ∀ t : Fin grid0.N,
    (win0_0.index t 0 = t.val / 256 ∧ win0_0.index t 1 = t.val % 32 ∧ win0_0.index t 2 = t.val / 32 % 8)
    ∧ (win0_1.index t 0 = t.val / 256 ∧ win0_1.index t 1 = 0 ∧ win0_1.index t 2 = t.val / 32 % 8)
    ∧ (win0_2.index t 0 = t.val / 256 ∧ win0_2.index t 1 = 0 ∧ win0_2.index t 2 = t.val / 32 % 8)
    ∧ (win0_3.index t 0 = t.val / 256 ∧ win0_3.index t 1 = t.val % 32 ∧ win0_3.index t 2 = t.val / 32 % 8) := by
  decide +kernel

/-- The batch of point `t`. -/
def batch (t : Fin grid0.N) : Fin 4 := ⟨t.val / 256, by have := t.isLt; have : grid0.N = 1024 := N_0; omega⟩

/-- The query of row `r` at point `t`. -/
def query (t : Fin grid0.N) (r : Fin 256) : Fin 8192 := ⟨t.val % 32 * 256 + r.val, by omega⟩

/-- Column `e` of point `t`'s pair of heads. -/
def col (t : Fin grid0.N) (e : Fin 128) : Fin 1024 := ⟨t.val / 32 % 8 * 128 + e.val, by omega⟩

/-- The queries' block, read in the argument. -/
theorem blk_q (c : Dev nD) (t : Fin cfg0.N) (r : Fin 256) (e : Fin 128) :
    iblk m c 0 t (ix3 0 r e) = m ((c : Thread nD τ).loc main_arg0) (ix3 (batch t) (query t r) (col t e)) := by
  obtain ⟨⟨e0, e1, e2⟩, -⟩ := idx_facts t
  blk_simp [iblk]
  rw [V_main_arg0]
  refine congrArg _ (funext fun a => Fin.ext ?_)
  match a with
  | ⟨0, _⟩ => blk_simp [e0]; try rfl
  | ⟨1, _⟩ => blk_simp [e1]; try rfl
  | ⟨2, _⟩ => blk_simp [e2]; try rfl

/-- The keys' block, read in the argument. -/
theorem blk_k (c : Dev nD) (t : Fin cfg0.N) (s : Fin 8192) (e : Fin 128) :
    iblk m c 1 t (ix3 0 s e) = m ((c : Thread nD τ).loc main_arg1) (ix3 (batch t) s (col t e)) := by
  obtain ⟨-, ⟨e0, e1, e2⟩, -⟩ := idx_facts t
  blk_simp [iblk]
  rw [V_main_arg1]
  refine congrArg _ (funext fun a => Fin.ext ?_)
  match a with
  | ⟨0, _⟩ => blk_simp [e0]; try rfl
  | ⟨1, _⟩ => blk_simp [e1]; try rfl
  | ⟨2, _⟩ => blk_simp [e2]; try rfl

/-- The values' block, read in the argument. -/
theorem blk_v (c : Dev nD) (t : Fin cfg0.N) (s : Fin 8192) (e : Fin 128) :
    iblk m c 2 t (ix3 0 s e) = m ((c : Thread nD τ).loc main_arg2) (ix3 (batch t) s (col t e)) := by
  obtain ⟨-, -, ⟨e0, e1, e2⟩, -⟩ := idx_facts t
  blk_simp [iblk]
  rw [V_main_arg2]
  refine congrArg _ (funext fun a => Fin.ext ?_)
  match a with
  | ⟨0, _⟩ => blk_simp [e0]; try rfl
  | ⟨1, _⟩ => blk_simp [e1]; try rfl
  | ⟨2, _⟩ => blk_simp [e2]; try rfl

/-- The score of query `p` at key `s`, over the 64 columns from `e` on, as a real number. -/
def score (q k : Vec Ideal S4x8192x1024 .bf16) (b : Fin 4) (p : Fin 8192) (e : ℕ) (he : e + 64 ≤ 1024) (s : ℕ) : ℝ :=
  if hs : s < 8192 then ∑ x : Fin 64, (q (ix3 b p ⟨e + x.val, by omega⟩)).toReal * (k (ix3 b ⟨s, hs⟩ ⟨e + x.val, by omega⟩)).toReal
  else 0

/-- Of real queries and keys the score is that real number. -/
theorem score_real (q k : Vec Ideal S4x8192x1024 .bf16)
    (hf : ∀ i, q i = (((q i).toReal : ℝ) : EReal) ∧ k i = (((k i).toReal : ℝ) : EReal))
    (b : Fin 4) (p : Fin 8192) (e : ℕ) (he : e + 64 ≤ 1024) (s : Fin 8192) :
    ∑ x : Fin 64, q (ix3 b p ⟨e + x.val, by omega⟩) * k (ix3 b s ⟨e + x.val, by omega⟩)
      = ((score q k b p e he s.val : ℝ) : EReal) := by
  rw [score, dif_pos s.isLt, ← coe_sum]
  refine Finset.sum_congr rfl fun x _ => ?_
  rw [EReal.coe_mul, ← (hf _).1, ← (hf _).2]

/-- A score's term depends on the column's number alone. -/
theorem term_at (q k : Vec Ideal S4x8192x1024 .bf16) (b : Fin 4) (p s : Fin 8192) {e e' : Fin 1024} (h : e.val = e'.val) :
    q (ix3 b p e) * k (ix3 b s e) = q (ix3 b p e') * k (ix3 b s e') := by
  rw [Fin.ext h]

/-- The result array of the kernel is the reference's term over the kernel's arguments. -/
theorem final (c : Dev nD)
    (hf : ∀ i : S4x8192x1024.Idx, (m ((c : Thread nD τ).loc main_arg0) i : EReal) = (((m ((c : Thread nD τ).loc main_arg0) i : EReal).toReal : ℝ) : EReal)
      ∧ (m ((c : Thread nD τ).loc main_arg1) i : EReal) = (((m ((c : Thread nD τ).loc main_arg1) i : EReal).toReal : ℝ) : EReal)) :
    (dats m 0 c).arrAt 3 cfg0.N
    = AttnRefIdeal.Read.val_main_v25 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf' y => ?_
  obtain ⟨-, -, -, e30, e31, e32⟩ := idx_facts t
  obtain ⟨-, -, e2⟩ := coord_facts t
  blk_simp
  rw [after0_3]
  idx_vars y
  obtain rfl : y0 = 0 := Subsingleton.elim _ _
  have h : ((View.whole main_v0).slice (win0_3.rect t)).emb (ix3 0 y1 y2) = ix3 (batch t) (query t y1) (col t y2) :=
    funext fun a => Fin.ext (by
      match a with
      | ⟨0, _⟩ => blk_simp [e30]; try rfl
      | ⟨1, _⟩ => blk_simp [e31]; try rfl
      | ⟨2, _⟩ => blk_simp [e32]; try rfl)
  rw [h]
  have hz : AttnLoop.Real2 (iblk m c 0 t) (iblk m c 1 t) y1 (fun g => score (m ((c : Thread nD τ).loc main_arg0))
      (m ((c : Thread nD τ).loc main_arg1)) (batch t) (query t y1) (t.val / 32 % 8 * 128 + g.val * 64) (by omega)) := by
    intro g s
    rw [← score_real _ _ hf]
    refine Finset.sum_congr rfl fun x _ => ?_
    rw [blk_q, blk_k]
    exact term_at _ _ _ _ _ (by show t.val / 32 % 8 * 128 + (g.val * 64 + x.val) = _; dsimp only; omega)
  refine (AttnLoop.out_at c _ _ _ _ _ _ _ _ _ hz y2).trans ?_
  rw [AttnRef.result_at _ _ _ (batch t) (query t y1) (col t y2) (score (m ((c : Thread nD τ).loc main_arg0))
      (m ((c : Thread nD τ).loc main_arg1)) (batch t) (query t y1) (t.val / 32 % 8 * 128 + y2.val / 64 * 64) (by omega))
    (fun s => by
      rw [← score_real _ _ hf]
      refine Finset.sum_congr rfl fun x _ => ?_
      exact term_at _ _ _ _ _ (by show (t.val / 32 % 8 * 128 + y2.val) / 64 * 64 + x.val = _; dsimp only; omega)), e2]
  have hv : AttnLoop.value (iblk m c 2 t) y2 = AttnRef.value (m ((c : Thread nD τ).loc main_arg2)) (batch t) (col t y2) :=
    funext fun s => by
      unfold AttnLoop.value AttnRef.value
      split
      · exact blk_v m c t _ _
      · rfl
  rw [hv]
  rfl

end Cert.AttnValue

namespace Cert.AttnValue

open Idealize.ShloMosaic Idealize.ShloMosaic.TcCoe Idealize.SL.Sem

/-- The reference keeps its arguments and leaves every counter at zero. -/
theorem frame_ref : Cert.quiescent_AttnRefIdeal := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

/-- So it does of finite queries and keys. -/
theorem frame_ref_finite : Cert.quiescent_AttnRefIdeal_pre_finite_scores := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

/-- Of finite queries and keys, the kernel's result is the reference's. -/
theorem algebraic : Cert.algebraic_AttnIdeal_AttnRefIdeal_pre_finite_scores := by
  intro m ρ m' ρ' hpre hagree
  refine ⟨fun c => (AttnIdeal.Gen.dats m 0 c).arrAt 3 AttnIdeal.cfg0.N, AttnIdeal.Value.run_blocks m ρ, ?_⟩
  refine (θ_run Cert.AttnRefIdeal.defs _ _).mono (fun _ h c => ⟨(h c).1.trans ?_, (h c).2⟩)
    (Cert.AttnRefIdeal.Value.run (F := Ideal) m' ρ')
  obtain ⟨h0, h1, h2⟩ := hagree c
  refine (AttnRefIdeal.Read.val_main_v25_eq _ _).trans ?_
  show _ = (AttnIdeal.Gen.dats m 0 c).arrAt 3 AttnIdeal.cfg0.N
  rw [final m c (AttnFinite.finite _ _ _ (hpre c)), h0, h1, h2]

end Cert.AttnValue

end
-- ==== Proof.InprojSRow.lean ====
/- The sample's input projections: the kernel's blocks and the reference's results, each read at one element. -/
module

public import proofs.«01_k».proof.Proof.Rows
public import proofs.«01_k».proof.Proof.Gen.InprojSIdeal.Value
public import proofs.«01_k».proof.Proof.Gen.InprojSRefIdeal.Read
public import Idealize.ShloMosaic.Lib.Pointwise
public import Idealize.ShloMosaic.Init

@[expose] public section

set_option maxRecDepth 16384

noncomputable section

namespace Cert.InprojSRow

open Idealize.ShloMosaic Cert.Rows

/-- The kernel's normed block at row `r` and column `k`. -/
theorem hidden (x : Vec Ideal InprojSIdeal.S128x1024 .f32) (g : Vec Ideal InprojSIdeal.S1x1024 .f32) (r : Fin 128) (k : Fin 1024) :
    InprojSIdeal.Gen.k0_pay2 x g (ix2 r k) = normed (fun k => x (ix2 r k)) (fun k => g (ix2 0 k)) k := by
  pointwise [InprojSIdeal.Gen.k0_pay2]
  rfl

/-- A product of the normed block with a group of the matrix's columns. -/
theorem group (x : Vec Ideal InprojSIdeal.S128x1024 .f32) (g : Vec Ideal InprojSIdeal.S1x1024 .f32)
    (W : Vec Ideal InprojSIdeal.S1024x7168 .bf16) (n : Fin 7) (M : Vec Ideal InprojSIdeal.S1024x1024 .bf16)
    (hM : ∀ k c : Fin 1024, M (ix2 k c) = W (ix2 k ⟨n.val * 1024 + c.val, by omega⟩)) (r : Fin 128) (c : Fin 1024) :
    ∑ k : Fin 1024, InprojSIdeal.Gen.k0_pay2 x g (ix2 r k) * M (ix2 k c)
      = proj (fun k => x (ix2 r k)) (fun k => g (ix2 0 k)) (fun k j => W (ix2 k j)) n c := by
  simp only [hidden, hM]
  rfl

/-- The kernel's nine blocks at row `r` and column `c`, each by the group of columns it multiplies. -/
theorem pays (x : Vec Ideal InprojSIdeal.S128x1024 .f32) (g : Vec Ideal InprojSIdeal.S1x1024 .f32)
    (W : Vec Ideal InprojSIdeal.S1024x7168 .bf16) (n : Fin 7) (M : Vec Ideal InprojSIdeal.S1024x1024 .bf16)
    (hM : ∀ k c : Fin 1024, M (ix2 k c) = W (ix2 k ⟨n.val * 1024 + c.val, by omega⟩)) (r : Fin 128) (c : Fin 1024) :
    InprojSIdeal.Gen.k0_pay3 x g M (ix2 r c) = proj (fun k => x (ix2 r k)) (fun k => g (ix2 0 k)) (fun k j => W (ix2 k j)) n c
    ∧ InprojSIdeal.Gen.k0_pay4 x g M (ix2 r c) = gelu (proj (fun k => x (ix2 r k)) (fun k => g (ix2 0 k)) (fun k j => W (ix2 k j)) n c)
    ∧ InprojSIdeal.Gen.k0_pay5 (InprojSIdeal.Gen.k0_pay2 x g) M (ix2 r c) = (proj (fun k => x (ix2 r k)) (fun k => g (ix2 0 k)) (fun k j => W (ix2 k j)) n c) * eighth
    ∧ InprojSIdeal.Gen.k0_pay6 (InprojSIdeal.Gen.k0_pay2 x g) M (ix2 r c) = (proj (fun k => x (ix2 r k)) (fun k => g (ix2 0 k)) (fun k j => W (ix2 k j)) n c)
    ∧ InprojSIdeal.Gen.k0_pay7 (InprojSIdeal.Gen.k0_pay2 x g) M (ix2 r c) = (proj (fun k => x (ix2 r k)) (fun k => g (ix2 0 k)) (fun k j => W (ix2 k j)) n c)
    ∧ InprojSIdeal.Gen.k0_pay8 (InprojSIdeal.Gen.k0_pay2 x g) M (ix2 r c) = (proj (fun k => x (ix2 r k)) (fun k => g (ix2 0 k)) (fun k j => W (ix2 k j)) n c)
    ∧ InprojSIdeal.Gen.k0_pay9 (InprojSIdeal.Gen.k0_pay2 x g) M (ix2 r c) = (proj (fun k => x (ix2 r k)) (fun k => g (ix2 0 k)) (fun k j => W (ix2 k j)) n c)
    ∧ InprojSIdeal.Gen.k0_pay10 (InprojSIdeal.Gen.k0_pay2 x g) M (ix2 r c) = Ideal.logistic (proj (fun k => x (ix2 r k)) (fun k => g (ix2 0 k)) (fun k j => W (ix2 k j)) n c)
    ∧ InprojSIdeal.Gen.k0_pay1 (InprojSIdeal.Gen.k0_pay2 x g) M (ix2 r c) = Ideal.logistic (proj (fun k => x (ix2 r k)) (fun k => g (ix2 0 k)) (fun k j => W (ix2 k j)) n c) := by
  rw [← group x g W n M hM]
  open InprojSIdeal.Gen in
  refine ⟨?_, ?_, ?_, ?_, ?_, ?_, ?_, ?_, ?_⟩ <;>
    pointwise [k0_pay1, k0_pay3, k0_pay4, k0_pay5, k0_pay6, k0_pay7, k0_pay8, k0_pay9, k0_pay10, gelu, eighth]
  rw [mul_comm (∑ k, _ * _) ((∑ k, _ * _) * _)]

/-- The reference's product before it is cut into groups. -/
theorem ref_all (x : Vec Ideal InprojSRefIdeal.S128x1024 .f32) (g : Vec Ideal InprojSRefIdeal.S1024 .f32)
    (W : Vec Ideal InprojSRefIdeal.S1024x7168 .f32) (r : Fin 128) (j : Fin 7168) :
    InprojSRefIdeal.Read.val_main_v13 x g W (ix2 r j)
      = dot (normed (fun k => x (ix2 r k)) (fun k => g (ix1 k))) (fun k => W (ix2 k j)) := by
  open InprojSRefIdeal.Read in
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The reference's nine results at row `r` and column `c`. -/
theorem refs (x : Vec Ideal InprojSRefIdeal.S128x1024 .f32) (g : Vec Ideal InprojSRefIdeal.S1024 .f32)
    (W : Vec Ideal InprojSRefIdeal.S1024x7168 .f32) (r : Fin 128) (c : Fin 1024) :
    InprojSRefIdeal.Read.val_main_v14 x g W (ix2 r c) = (proj (fun k => x (ix2 r k)) (fun k => g (ix1 k)) (fun k j => W (ix2 k j)) 0 c)
    ∧ InprojSRefIdeal.Read.val_main_v34 x g W (ix2 r c) = gelu (proj (fun k => x (ix2 r k)) (fun k => g (ix1 k)) (fun k j => W (ix2 k j)) 1 c)
    ∧ InprojSRefIdeal.Read.val_main_v37 x g W (ix2 r c) = (proj (fun k => x (ix2 r k)) (fun k => g (ix1 k)) (fun k j => W (ix2 k j)) 2 c) * eighth
    ∧ InprojSRefIdeal.Read.val_main_v17 x g W (ix2 r c) = (proj (fun k => x (ix2 r k)) (fun k => g (ix1 k)) (fun k j => W (ix2 k j)) 3 c)
    ∧ InprojSRefIdeal.Read.val_main_v18 x g W (ix2 r c) = (proj (fun k => x (ix2 r k)) (fun k => g (ix1 k)) (fun k j => W (ix2 k j)) 4 c)
    ∧ InprojSRefIdeal.Read.val_main_v38 x g W (ix2 r c) = (proj (fun k => x (ix2 r k)) (fun k => g (ix1 k)) (fun k j => W (ix2 k j)) 3 c)
    ∧ InprojSRefIdeal.Read.val_main_v39 x g W (ix2 r c) = (proj (fun k => x (ix2 r k)) (fun k => g (ix1 k)) (fun k j => W (ix2 k j)) 4 c)
    ∧ InprojSRefIdeal.Read.val_main_v46 x g W (ix2 r c) = Ideal.logistic (proj (fun k => x (ix2 r k)) (fun k => g (ix1 k)) (fun k j => W (ix2 k j)) 5 c)
    ∧ InprojSRefIdeal.Read.val_main_v53 x g W (ix2 r c) = Ideal.logistic (proj (fun k => x (ix2 r k)) (fun k => g (ix1 k)) (fun k j => W (ix2 k j)) 6 c) := by
  open InprojSRefIdeal.Read in
  refine ⟨?_, ?_, ?_, ?_, ?_, ?_, ?_, ?_, ?_⟩ <;>
    (pointwise [val_main_v53, val_main_v52, val_main_v51, val_main_cst_10, val_main_v50, val_main_v49, val_main_cst_9, val_main_v48, val_main_v47, val_main_v46, val_main_v45, val_main_v44, val_main_cst_8, val_main_v43, val_main_v42, val_main_cst_7, val_main_v41, val_main_v40, val_main_v39, val_main_v38, val_main_v37, val_main_v36, val_main_v35, val_main_cst_6, val_main_v34, val_main_v33, val_main_v32, val_main_v31, val_main_cst_5, val_main_v30, val_main_v29, val_main_cst_4, val_main_v28, val_main_v27, val_main_v26, val_main_cst_3, val_main_v25, val_main_v24, val_main_v23, val_main_cst_2, val_main_v22, val_main_v21, val_main_v20, val_main_v19, val_main_v18, val_main_v17, val_main_v16, val_main_v15, val_main_v14, ref_all, gelu, eighth, proj]
     try rfl)

end Cert.InprojSRow

end
-- ==== Proof.InprojSValue.lean ====
/- The sample's input projections: the kernel's result arrays, element by element, and the claim that they are the reference's. -/
module

public import proofs.«01_k».proof.Defs
public import proofs.«01_k».proof.Proof.InprojSRow
public import Idealize.ShloMosaic.Lib.Pipeline.ValueKit
public import Idealize.ShloMosaic.Init

@[expose] public section

set_option maxRecDepth 16384

noncomputable section

namespace Cert.InprojSValue

open Idealize.ShloMosaic Idealize.ShloMosaic.TcCoe Idealize.SL.Sem Cert.InprojSIdeal Cert.InprojSIdeal.Gen Cert.Rows

variable (m : (ℓ : Loc nD τ sig) → Buf (Elt Ideal) ℓ) (ρ : Dev nD → PrngReg)

/-- The weight row as the region reads it: the argument reshaped. -/
theorem V_norm (c : Dev nD) : V m c main_v0 = shapeCast S1x1024 (m ((c : Thread nD τ).loc main_arg1)) shapeCasts_S1024_S1x1024 := by
  unfold Gen.V; after_results; rfl

/-- The matrix as the region reads it. -/
theorem V_mat (c : Dev nD) : V m c main_v1 = m ((c : Thread nD τ).loc main_arg2) := by
  unfold Gen.V; after_results; rfl

/-- Which blocks the grid's points name, over the operands … -/
theorem idx_in : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) := by decide +kernel

/-- … and over the results. -/
theorem idx_out : ∀ t : Fin grid0.N, (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0) := by decide +kernel

/-- The tokens' block, read in the argument. -/
theorem blk_x (c : Dev nD) (t : Fin cfg0.N) (r : Fin 128) (k : Fin 1024) :
    iblk m c 0 t (ix2 r k) = m ((c : Thread nD τ).loc main_arg0) (ix2 r k) := by
  obtain ⟨⟨e0, e1⟩, -⟩ := idx_in t
  blk_simp [iblk]
  rw [V_main_arg0]
  refine congrArg _ (funext fun a => Fin.ext ?_)
  match a with
  | ⟨0, _⟩ => blk_simp [e0]
  | ⟨1, _⟩ => blk_simp [e1]

/-- The weight row's block, read in the argument. -/
theorem blk_norm (c : Dev nD) (t : Fin cfg0.N) (k : Fin 1024) :
    iblk m c 1 t (ix2 0 k) = m ((c : Thread nD τ).loc main_arg1) (ix1 k) := by
  obtain ⟨-, ⟨e0, e1⟩, -⟩ := idx_in t
  blk_simp [iblk]
  rw [V_norm]
  have h : (win0_1.blk t).view.emb (ix2 0 k) = ix2 0 k := funext fun a => Fin.ext (by
    match a with
    | ⟨0, _⟩ => blk_simp [e0]
    | ⟨1, _⟩ => blk_simp [e1])
  rw [h]
  pointwise

/-- The matrix's block, read in the argument. -/
theorem blk_mat (c : Dev nD) (t : Fin cfg0.N) (k : Fin 1024) (j : Fin 7168) :
    iblk m c 2 t (ix2 k j) = m ((c : Thread nD τ).loc main_arg2) (ix2 k j) := by
  obtain ⟨-, -, e0, e1⟩ := idx_in t
  blk_simp [iblk]
  rw [V_mat]
  refine congrArg _ (funext fun a => Fin.ext ?_)
  match a with
  | ⟨0, _⟩ => blk_simp [e0]
  | ⟨1, _⟩ => blk_simp [e1]

/-- The groups of columns of the matrix's block. -/
theorem cols (W : Vec Ideal S1024x7168 .bf16) (k j : Fin 1024) :
    View.ld W r0_2 (ix2 k j) = W (ix2 k ⟨((0 : Fin 7)).val * 1024 + j.val, by omega⟩)
    ∧ View.ld W r0_3 (ix2 k j) = W (ix2 k ⟨((1 : Fin 7)).val * 1024 + j.val, by omega⟩)
    ∧ View.ld W r0_4 (ix2 k j) = W (ix2 k ⟨((2 : Fin 7)).val * 1024 + j.val, by omega⟩)
    ∧ View.ld W r0_5 (ix2 k j) = W (ix2 k ⟨((3 : Fin 7)).val * 1024 + j.val, by omega⟩)
    ∧ View.ld W r0_6 (ix2 k j) = W (ix2 k ⟨((4 : Fin 7)).val * 1024 + j.val, by omega⟩)
    ∧ View.ld W r0_7 (ix2 k j) = W (ix2 k ⟨((5 : Fin 7)).val * 1024 + j.val, by omega⟩)
    ∧ View.ld W r0_8 (ix2 k j) = W (ix2 k ⟨((6 : Fin 7)).val * 1024 + j.val, by omega⟩) := by
  refine ⟨?_, ?_, ?_, ?_, ?_, ?_, ?_⟩ <;>
    (refine congrArg W (funext fun a => Fin.ext ?_)
     match a with
     | ⟨0, _⟩ => exact (Rect.idx_unit_val _ _ _ _ _).trans (by simp)
     | ⟨1, _⟩ => exact (Rect.idx_unit_val _ _ _ _ _).trans (by simp))

/-- The normed block, computed once for all groups but the first two. -/
theorem normed_block (x : Vec Ideal S128x1024 .f32) (g : Vec Ideal S1x1024 .f32) (W : Vec Ideal S1024x7168 .bf16) :
    k0_pay11 x g W = k0_pay2 x g := by
  unfold k0_pay11
  rw [show View.ld x r0_0 = x from View.ld_unit_lit _ x (by decide), show View.ld g r0_1 = g from View.ld_unit_lit _ g (by decide)]

/-- The result array of window 3, filled block by block. -/
theorem final_3 (c : Dev nD) : (dats m 0 c).arrAt 3 cfg0.N = InprojSRefIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  have h : ((View.whole main_v2_0).slice (win0_3.rect t)).emb (ix2 y0 y1) = ix2 y0 y1 := funext fun a => Fin.ext (by
    match a with
    | ⟨0, _⟩ => blk_simp [idx_out]
    | ⟨1, _⟩ => blk_simp [idx_out])
  rw [h, (InprojSRow.refs _ _ _ _ _).1]
  refine ((InprojSRow.pays _ _ (iblk m c 2 t) 0 _ (fun k j => (cols _ k j).1) _ _).1).trans ?_
  simp only [blk_x, blk_norm, blk_mat]

/-- The result array of window 4, filled block by block. -/
theorem final_4 (c : Dev nD) : (dats m 0 c).arrAt 4 cfg0.N = InprojSRefIdeal.Read.val_main_v34 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  idx_vars y
  have h : ((View.whole main_v2_1).slice (win0_4.rect t)).emb (ix2 y0 y1) = ix2 y0 y1 := funext fun a => Fin.ext (by
    match a with
    | ⟨0, _⟩ => blk_simp [idx_out]
    | ⟨1, _⟩ => blk_simp [idx_out])
  rw [h, (InprojSRow.refs _ _ _ _ _).2.1]
  refine ((InprojSRow.pays _ _ (iblk m c 2 t) 1 _ (fun k j => (cols _ k j).2.1) _ _).2.1).trans ?_
  simp only [blk_x, blk_norm, blk_mat]

/-- The result array of window 5, filled block by block. -/
theorem final_5 (c : Dev nD) : (dats m 0 c).arrAt 5 cfg0.N = InprojSRefIdeal.Read.val_main_v37 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  have h : ((View.whole main_v2_2).slice (win0_5.rect t)).emb (ix2 y0 y1) = ix2 y0 y1 := funext fun a => Fin.ext (by
    match a with
    | ⟨0, _⟩ => blk_simp [idx_out]
    | ⟨1, _⟩ => blk_simp [idx_out])
  rw [h, (InprojSRow.refs _ _ _ _ _).2.2.1]
  rw [normed_block]
  refine ((InprojSRow.pays _ _ (iblk m c 2 t) 2 _ (fun k j => (cols _ k j).2.2.1) _ _).2.2.1).trans ?_
  simp only [blk_x, blk_norm, blk_mat]

/-- The result array of window 6, filled block by block. -/
theorem final_6 (c : Dev nD) : (dats m 0 c).arrAt 6 cfg0.N = InprojSRefIdeal.Read.val_main_v17 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  idx_vars y
  have h : ((View.whole main_v2_3).slice (win0_6.rect t)).emb (ix2 y0 y1) = ix2 y0 y1 := funext fun a => Fin.ext (by
    match a with
    | ⟨0, _⟩ => blk_simp [idx_out]
    | ⟨1, _⟩ => blk_simp [idx_out])
  rw [h, (InprojSRow.refs _ _ _ _ _).2.2.2.1]
  rw [normed_block]
  refine ((InprojSRow.pays _ _ (iblk m c 2 t) 3 _ (fun k j => (cols _ k j).2.2.2.1) _ _).2.2.2.1).trans ?_
  simp only [blk_x, blk_norm, blk_mat]

/-- The result array of window 7, filled block by block. -/
theorem final_7 (c : Dev nD) : (dats m 0 c).arrAt 7 cfg0.N = InprojSRefIdeal.Read.val_main_v18 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  frame_out
  idx_vars y
  have h : ((View.whole main_v2_4).slice (win0_7.rect t)).emb (ix2 y0 y1) = ix2 y0 y1 := funext fun a => Fin.ext (by
    match a with
    | ⟨0, _⟩ => blk_simp [idx_out]
    | ⟨1, _⟩ => blk_simp [idx_out])
  rw [h, (InprojSRow.refs _ _ _ _ _).2.2.2.2.1]
  rw [normed_block]
  refine ((InprojSRow.pays _ _ (iblk m c 2 t) 4 _ (fun k j => (cols _ k j).2.2.2.2.1) _ _).2.2.2.2.2.1).trans ?_
  simp only [blk_x, blk_norm, blk_mat]

/-- The result array of window 8, filled block by block. -/
theorem final_8 (c : Dev nD) : (dats m 0 c).arrAt 8 cfg0.N = InprojSRefIdeal.Read.val_main_v38 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  frame_out
  idx_vars y
  have h : ((View.whole main_v2_5).slice (win0_8.rect t)).emb (ix2 y0 y1) = ix2 y0 y1 := funext fun a => Fin.ext (by
    match a with
    | ⟨0, _⟩ => blk_simp [idx_out]
    | ⟨1, _⟩ => blk_simp [idx_out])
  rw [h, (InprojSRow.refs _ _ _ _ _).2.2.2.2.2.1]
  rw [normed_block]
  refine ((InprojSRow.pays _ _ (iblk m c 2 t) 3 _ (fun k j => (cols _ k j).2.2.2.1) _ _).2.2.2.2.1).trans ?_
  simp only [blk_x, blk_norm, blk_mat]

/-- The result array of window 9, filled block by block. -/
theorem final_9 (c : Dev nD) : (dats m 0 c).arrAt 9 cfg0.N = InprojSRefIdeal.Read.val_main_v39 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  frame_out
  idx_vars y
  have h : ((View.whole main_v2_6).slice (win0_9.rect t)).emb (ix2 y0 y1) = ix2 y0 y1 := funext fun a => Fin.ext (by
    match a with
    | ⟨0, _⟩ => blk_simp [idx_out]
    | ⟨1, _⟩ => blk_simp [idx_out])
  rw [h, (InprojSRow.refs _ _ _ _ _).2.2.2.2.2.2.1]
  rw [normed_block]
  refine ((InprojSRow.pays _ _ (iblk m c 2 t) 4 _ (fun k j => (cols _ k j).2.2.2.2.1) _ _).2.2.2.2.2.2.1).trans ?_
  simp only [blk_x, blk_norm, blk_mat]

/-- The result array of window 10, filled block by block. -/
theorem final_10 (c : Dev nD) : (dats m 0 c).arrAt 10 cfg0.N = InprojSRefIdeal.Read.val_main_v46 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  frame_out
  idx_vars y
  have h : ((View.whole main_v2_7).slice (win0_10.rect t)).emb (ix2 y0 y1) = ix2 y0 y1 := funext fun a => Fin.ext (by
    match a with
    | ⟨0, _⟩ => blk_simp [idx_out]
    | ⟨1, _⟩ => blk_simp [idx_out])
  rw [h, (InprojSRow.refs _ _ _ _ _).2.2.2.2.2.2.2.1]
  rw [normed_block]
  refine ((InprojSRow.pays _ _ (iblk m c 2 t) 5 _ (fun k j => (cols _ k j).2.2.2.2.2.1) _ _).2.2.2.2.2.2.2.1).trans ?_
  simp only [blk_x, blk_norm, blk_mat]

/-- The result array of window 11, filled block by block. -/
theorem final_11 (c : Dev nD) : (dats m 0 c).arrAt 11 cfg0.N = InprojSRefIdeal.Read.val_main_v53 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  frame_out
  idx_vars y
  have h : ((View.whole main_v2_8).slice (win0_11.rect t)).emb (ix2 y0 y1) = ix2 y0 y1 := funext fun a => Fin.ext (by
    match a with
    | ⟨0, _⟩ => blk_simp [idx_out]
    | ⟨1, _⟩ => blk_simp [idx_out])
  rw [h, (InprojSRow.refs _ _ _ _ _).2.2.2.2.2.2.2.2]
  rw [normed_block]
  refine ((InprojSRow.pays _ _ (iblk m c 2 t) 6 _ (fun k j => (cols _ k j).2.2.2.2.2.2) _ _).2.2.2.2.2.2.2.2).trans ?_
  simp only [blk_x, blk_norm, blk_mat]

/-- The reference runs to its end from any memory. -/
theorem frame_ref : Cert.quiescent_InprojSRefIdeal := fun m ρ _ =>
  (θ_run Cert.InprojSRefIdeal.defs _ _).mono
    (fun r h => ⟨fun c => by obtain ⟨-, -, -, -, -, -, -, -, -, h⟩ := h c; exact h,
      Idealize.ShloMosaic.sem_eq_zero_of_no_sems (by decide) r.2⟩)
    (Cert.InprojSRefIdeal.Value.run (F := Ideal) m ρ)

/-- The kernel's nine results are the reference's. -/
theorem algebraic : Cert.algebraic_InprojSIdeal_InprojSRefIdeal := by
  intro m ρ m' ρ' _ hagree
  refine ⟨fun c => (InprojSIdeal.Gen.dats m 0 c).arrAt 3 InprojSIdeal.cfg0.N, fun c => (InprojSIdeal.Gen.dats m 0 c).arrAt 4 InprojSIdeal.cfg0.N, fun c => (InprojSIdeal.Gen.dats m 0 c).arrAt 5 InprojSIdeal.cfg0.N, fun c => (InprojSIdeal.Gen.dats m 0 c).arrAt 6 InprojSIdeal.cfg0.N, fun c => (InprojSIdeal.Gen.dats m 0 c).arrAt 7 InprojSIdeal.cfg0.N, fun c => (InprojSIdeal.Gen.dats m 0 c).arrAt 8 InprojSIdeal.cfg0.N, fun c => (InprojSIdeal.Gen.dats m 0 c).arrAt 9 InprojSIdeal.cfg0.N, fun c => (InprojSIdeal.Gen.dats m 0 c).arrAt 10 InprojSIdeal.cfg0.N, fun c => (InprojSIdeal.Gen.dats m 0 c).arrAt 11 InprojSIdeal.cfg0.N,
    InprojSIdeal.Value.run_blocks m ρ, ?_⟩
  refine (θ_run Cert.InprojSRefIdeal.defs _ _).mono (fun _ h c => ?_) (Cert.InprojSRefIdeal.Value.run (F := Ideal) m' ρ')
  obtain ⟨r3, r4, r5, r6, r7, r8, r9, r10, r11, ra⟩ := h c
  obtain ⟨h0, h1, h2⟩ := hagree c
  open InprojSRefIdeal.Read in
  refine ⟨r3.trans ((val_main_v14_eq _ _ _).trans (by rw [h0, h1, h2]; exact (final_3 m c).symm)),
    r4.trans ((val_main_v34_eq _ _).trans (by rw [h0, h1, h2]; exact (final_4 m c).symm)),
    r5.trans ((val_main_v37_eq _ _ _).trans (by rw [h0, h1, h2]; exact (final_5 m c).symm)),
    r6.trans ((val_main_v17_eq _ _ _).trans (by rw [h0, h1, h2]; exact (final_6 m c).symm)),
    r7.trans ((val_main_v18_eq _ _ _).trans (by rw [h0, h1, h2]; exact (final_7 m c).symm)),
    r8.trans ((val_main_v38_eq _ _ _).trans (by rw [h0, h1, h2]; exact (final_8 m c).symm)),
    r9.trans ((val_main_v39_eq _ _ _).trans (by rw [h0, h1, h2]; exact (final_9 m c).symm)),
    r10.trans ((val_main_v46_eq _ _ _).trans (by rw [h0, h1, h2]; exact (final_10 m c).symm)),
    r11.trans ((val_main_v53_eq _ _ _).trans (by rw [h0, h1, h2]; exact (final_11 m c).symm)), ra⟩

end Cert.InprojSValue

end
-- ==== Proof.PleSRow.lean ====
/- The sample's per-layer embedding: the kernel's block and the reference's result, each read at one element. -/
module

public import proofs.«01_k».proof.Proof.Rows
public import proofs.«01_k».proof.Proof.Gen.PleSIdeal.Value
public import proofs.«01_k».proof.Proof.Gen.PleSRefIdeal.Read
public import Idealize.ShloMosaic.Lib.Pointwise
public import Idealize.ShloMosaic.Init

@[expose] public section

set_option maxRecDepth 16384

noncomputable section

namespace Cert.PleSRow

open Idealize.ShloMosaic Cert.Rows

/-- The kernel's block at row `r` and column `c`. -/
theorem pay (x : Vec Ideal PleSIdeal.S128x1024 .f32) (p : Vec Ideal PleSIdeal.S128x256 .f32) (g f : Vec Ideal PleSIdeal.S1x1024 .f32)
    (G : Vec Ideal PleSIdeal.S1024x1024 .bf16) (P : Vec Ideal PleSIdeal.S256x1024 .bf16) (r : Fin 128) (c : Fin 1024) :
    PleSIdeal.Gen.k0_pay1 (PleSIdeal.Gen.k0_pay2 f) (PleSIdeal.Gen.k0_pay3 x g G p P) (ix2 r c)
      = normed (embedded (fun k => x (ix2 r k)) (fun k => p (ix2 r k)) (fun k => g (ix2 0 k)) (fun k j => G (ix2 k j))
          (fun k j => P (ix2 k j))) (fun k => f (ix2 0 k)) c := by
  pointwise [PleSIdeal.Gen.k0_pay1, PleSIdeal.Gen.k0_pay2, PleSIdeal.Gen.k0_pay3]
  rfl

/-- The reference's result at row `r` and column `c`. -/
theorem ref (x : Vec Ideal PleSRefIdeal.S128x1024 .f32) (p : Vec Ideal PleSRefIdeal.S128x256 .f32) (g : Vec Ideal PleSRefIdeal.S1024 .f32)
    (G : Vec Ideal PleSRefIdeal.S1024x1024 .f32) (P : Vec Ideal PleSRefIdeal.S256x1024 .f32) (f : Vec Ideal PleSRefIdeal.S1024 .f32)
    (r : Fin 128) (c : Fin 1024) :
    PleSRefIdeal.Read.val_main_v35 x p g G P f (ix2 r c)
      = normed (embedded (fun k => x (ix2 r k)) (fun k => p (ix2 r k)) (fun k => g (ix1 k)) (fun k j => G (ix2 k j))
          (fun k j => P (ix2 k j))) (fun k => f (ix1 k)) c := by
  open PleSRefIdeal.Read in
  pointwise [val_main_v35, val_main_v34, val_main_v33, val_main_v32, val_main_v31, val_main_v30, val_main_v29, val_main_v28, val_main_cst_6, val_main_v27, val_main_v26, val_main_cst_5, val_main_v25, val_main_v24, val_main_cst_4, val_main_v23, val_main_v22, val_main_v21, val_main_v20, val_main_v19, val_main_v18, val_main_cst_3, val_main_v17, val_main_v16, val_main_cst_2, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

end Cert.PleSRow

end
-- ==== Proof.PleSValue.lean ====
/- The sample's per-layer embedding: the kernel's result array, element by element, and the claim that it is the reference's. -/
module

public import proofs.«01_k».proof.Defs
public import proofs.«01_k».proof.Proof.PleSRow
public import Idealize.ShloMosaic.Lib.Pipeline.ValueKit
public import Idealize.ShloMosaic.Init

@[expose] public section

set_option maxRecDepth 16384

noncomputable section

namespace Cert.PleSValue

open Idealize.ShloMosaic Idealize.ShloMosaic.TcCoe Idealize.SL.Sem Cert.PleSIdeal Cert.PleSIdeal.Gen Cert.Rows

variable (m : (ℓ : Loc nD τ sig) → Buf (Elt Ideal) ℓ) (ρ : Dev nD → PrngReg)

/-- The two weight rows as the region reads them: the arguments reshaped. -/
theorem V_norms (c : Dev nD) : V m c main_v0 = shapeCast S1x1024 (m ((c : Thread nD τ).loc main_arg2)) shapeCasts_S1024_S1x1024
    ∧ V m c main_v3 = shapeCast S1x1024 (m ((c : Thread nD τ).loc main_arg5)) shapeCasts_S1024_S1x1024 := by
  refine ⟨?_, ?_⟩ <;> (unfold Gen.V; after_results; rfl)

/-- The two matrices as the region reads them. -/
theorem V_mats (c : Dev nD) : V m c main_v1 = m ((c : Thread nD τ).loc main_arg3) ∧ V m c main_v2 = m ((c : Thread nD τ).loc main_arg4) := by
  refine ⟨?_, ?_⟩ <;> (unfold Gen.V; after_results; rfl)

/-- Which blocks the grid's points name. -/
theorem idx_facts : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) := by decide +kernel

/-- The tokens' block, read in the argument. -/
theorem blk_x (c : Dev nD) (t : Fin cfg0.N) (r : Fin 128) (k : Fin 1024) :
    iblk m c 0 t (ix2 r k) = m ((c : Thread nD τ).loc main_arg0) (ix2 r k) := by
  obtain ⟨⟨e0, e1⟩, -⟩ := idx_facts t
  blk_simp [iblk]
  rw [V_main_arg0]
  refine congrArg _ (funext fun a => Fin.ext ?_)
  match a with
  | ⟨0, _⟩ => blk_simp [e0, e1]
  | ⟨1, _⟩ => blk_simp [e0, e1]

/-- The embeddings' block, read in the argument. -/
theorem blk_p (c : Dev nD) (t : Fin cfg0.N) (r : Fin 128) (k : Fin 256) :
    iblk m c 1 t (ix2 r k) = m ((c : Thread nD τ).loc main_arg1) (ix2 r k) := by
  obtain ⟨-, ⟨e0, e1⟩, -⟩ := idx_facts t
  blk_simp [iblk]
  rw [V_main_arg1]
  refine congrArg _ (funext fun a => Fin.ext ?_)
  match a with
  | ⟨0, _⟩ => blk_simp [e0, e1]
  | ⟨1, _⟩ => blk_simp [e0, e1]

/-- The weight rows' blocks, read in the arguments. -/
theorem blk_norms (c : Dev nD) (t : Fin cfg0.N) (k : Fin 1024) :
    iblk m c 2 t (ix2 0 k) = m ((c : Thread nD τ).loc main_arg2) (ix1 k)
    ∧ iblk m c 5 t (ix2 0 k) = m ((c : Thread nD τ).loc main_arg5) (ix1 k) := by
  obtain ⟨-, -, ⟨e20, e21⟩, -, -, ⟨e50, e51⟩, -⟩ := idx_facts t
  have h2 : (win0_2.blk t).view.emb (ix2 0 k) = ix2 0 k := funext fun a => Fin.ext (by
    match a with
    | ⟨0, _⟩ => blk_simp [e20]
    | ⟨1, _⟩ => blk_simp [e21])
  have h5 : (win0_5.blk t).view.emb (ix2 0 k) = ix2 0 k := funext fun a => Fin.ext (by
    match a with
    | ⟨0, _⟩ => blk_simp [e50]
    | ⟨1, _⟩ => blk_simp [e51])
  refine ⟨?_, ?_⟩ <;>
    (blk_simp [iblk]
     first | rw [(V_norms m c).1, h2] | rw [(V_norms m c).2, h5]
     pointwise)

/-- The gate's block, read in the argument. -/
theorem blk_gate (c : Dev nD) (t : Fin cfg0.N) (k : Fin 1024) (j : Fin 1024) :
    iblk m c 3 t (ix2 k j) = m ((c : Thread nD τ).loc main_arg3) (ix2 k j) := by
  obtain ⟨-, -, -, ⟨e0, e1⟩, -⟩ := idx_facts t
  blk_simp [iblk]
  rw [(V_mats m c).1]
  refine congrArg _ (funext fun a => Fin.ext ?_)
  match a with
  | ⟨0, _⟩ => blk_simp [e0, e1]
  | ⟨1, _⟩ => blk_simp [e0, e1]

/-- The embedding matrix's block, read in the argument. -/
theorem blk_proj (c : Dev nD) (t : Fin cfg0.N) (k : Fin 256) (j : Fin 1024) :
    iblk m c 4 t (ix2 k j) = m ((c : Thread nD τ).loc main_arg4) (ix2 k j) := by
  obtain ⟨-, -, -, -, ⟨e0, e1⟩, -⟩ := idx_facts t
  blk_simp [iblk]
  rw [(V_mats m c).2]
  refine congrArg _ (funext fun a => Fin.ext ?_)
  match a with
  | ⟨0, _⟩ => blk_simp [e0, e1]
  | ⟨1, _⟩ => blk_simp [e0, e1]

/-- The result array of the kernel is the reference's term over the kernel's arguments. -/
theorem final (c : Dev nD) : (dats m 0 c).arrAt 6 cfg0.N
    = PleSRefIdeal.Read.val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hf y => ?_
  obtain ⟨-, -, -, -, -, -, e60, e61⟩ := idx_facts t
  blk_simp
  rw [after0_6]
  frame_out
  idx_vars y
  have h : ((View.whole main_v4).slice (win0_6.rect t)).emb (ix2 y0 y1) = ix2 y0 y1 := funext fun a => Fin.ext (by
    match a with
    | ⟨0, _⟩ => blk_simp [e60]
    | ⟨1, _⟩ => blk_simp [e61])
  rw [h, PleSRow.pay, PleSRow.ref]
  simp only [blk_x, blk_p, blk_norms, blk_gate, blk_proj]

end Cert.PleSValue

namespace Cert.PleSValue

open Idealize.ShloMosaic Idealize.ShloMosaic.TcCoe Idealize.SL.Sem

/-- The reference keeps its arguments and leaves every counter at zero. -/
theorem frame_ref : Cert.quiescent_PleSRefIdeal := fun m ρ _ =>
  (θ_run Cert.PleSRefIdeal.defs _ _).mono (fun r h => ⟨fun c => (h c).2, Idealize.ShloMosaic.sem_eq_zero_of_no_sems (by decide) r.2⟩)
    (Cert.PleSRefIdeal.Value.run (F := Ideal) m ρ)

/-- The kernel's result is the reference's. -/
theorem algebraic : Cert.algebraic_PleSIdeal_PleSRefIdeal := by
  intro m ρ m' ρ' _ hagree
  refine ⟨fun c => (PleSIdeal.Gen.dats m 0 c).arrAt 6 PleSIdeal.cfg0.N, PleSIdeal.Value.run_blocks m ρ, ?_⟩
  refine (θ_run Cert.PleSRefIdeal.defs _ _).mono (fun _ h c => ⟨(h c).1.trans ?_, (h c).2⟩)
    (Cert.PleSRefIdeal.Value.run (F := Ideal) m' ρ')
  obtain ⟨h0, h1, h2, h3, h4, h5⟩ := hagree c
  refine (PleSRefIdeal.Read.val_main_v35_eq _ _).trans ?_
  show _ = (PleSIdeal.Gen.dats m 0 c).arrAt 6 PleSIdeal.cfg0.N
  rw [final, h0, h1, h2, h3, h4, h5]

end Cert.PleSValue

end
-- ==== Proof.RnnSIdealSteps.lean ====
module

public import proofs.«01_k».proof.Proof.Gen.RnnSIdeal.Frame
public import proofs.«01_k».proof.Proof.Gen.RnnSIdeal.Loops
public import proofs.«01_k».proof.Proof.Gen.RnnSIdeal.Skeleton
public import proofs.«01_k».proof.Proof.Gen.RnnSIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

/-! # The sample's recurrence: the buffers of a grid point, and its steps

A grid point holds one sequence: 16 steps of 1024 channels. It writes the state after every step into a scratch
buffer, a row a step, and afterwards reads that buffer whole. The rows fill the buffer, so that what is read does
not depend on what the buffer held before. -/

set_option maxRecDepth 16384

noncomputable section

namespace Cert.RnnSIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branches -/

/-- The body's first branch: taken at the first block of steps. -/
abbrev cond0_0 (i : grid0.Coords) : Prop := (Scalar.cmpi .ne (Scalar.extui (Scalar.cmpi .eq (BitVec.ofNat 32 (i 1).val) 0#32)) 0#32) = 1#1
/-- The sample has one block of steps, so the first branch is taken at every point, -/
theorem hcond0_0 : ∀ t : Fin cfg0.N, cond0_0 (grid0.coords t) :=
  (fun t => by
    have ht : t.val < 8 := Nat.lt_of_lt_of_eq t.isLt N_0
    have e0 : (grid0.coords t 0).val = t.val / 1 % 8 := Pipeline.Grid.coords_val t 0 (by decide) rfl
    have e1 : (grid0.coords t 1).val = t.val / 1 % 1 := Pipeline.Grid.coords_val t 1 (by decide) rfl
    simp only [cond0_0, e0, e1]
    word_cmp
   : ∀ t : Fin grid0.N, cond0_0 (grid0.coords t))

/-- The body's second branch: taken at later blocks of steps. -/
abbrev cond0_1 (i : grid0.Coords) : Prop := (Scalar.cmpi .ne (Scalar.extui (Scalar.cmpi .ne (BitVec.ofNat 32 (i 1).val) 0#32)) 0#32) = 1#1
/-- and the second at none. -/
theorem hcond0_1 : ∀ t : Fin cfg0.N, ¬cond0_1 (grid0.coords t) :=
  (fun t => by
    have ht : t.val < 8 := Nat.lt_of_lt_of_eq t.isLt N_0
    have e0 : (grid0.coords t 0).val = t.val / 1 % 8 := Pipeline.Grid.coords_val t 0 (by decide) rfl
    have e1 : (grid0.coords t 1).val = t.val / 1 % 1 := Pipeline.Grid.coords_val t 1 (by decide) rfl
    simp only [cond0_1, e0, e1]
    word_cmp
   : ∀ t : Fin grid0.N, ¬cond0_1 (grid0.coords t))

/-! ## Buffers -/

/-- One staging buffer of each output: its contents are stated through it. -/
abbrev VO0_11 : View sig .tc .vmem S1x16x1024 .bf16 := (Memref.whole cc0_stg11_0 : Memref sig .tc .vmem S1x16x1024 .bf16).view
abbrev VO0_12 : View sig .tc .vmem S1x1x1024 .f32 := (Memref.whole cc0_stg12_0 : Memref sig .tc .vmem S1x1x1024 .f32).view
abbrev VO0_13 : View sig .tc .vmem S1x3x1024 .f32 := (Memref.whole cc0_stg13_0 : Memref sig .tc .vmem S1x3x1024 .f32).view
/-- The windows' staging buffers at a point, and that each is a whole buffer. -/
abbrev ms0_0 (t : Fin cfg0.N) : Memref sig .tc .vmem S1x16x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x3x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x16x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x3x1024 .f32 := win0_13.stage (cfg0.slots t 13)
abbrev hs0_13 (t : Fin cfg0.N) : (ms0_13 t).IsWhole := hstage0_13 ((cfg0.slots t 13).cast nbuf0_13)
/-- The kernel's scratch buffers. -/
abbrev scM0_0 : Memref sig .tc .vmem S24x1024 .f32 := Memref.whole cc0_scratch0
abbrev scM0_1 : Memref sig .tc .vmem S16x1024 .f32 := Memref.whole cc0_scratch1
abbrev scM0_2 : Memref sig .tc .vmem S16x1024 .f32 := Memref.whole cc0_scratch2
abbrev scM0_3 : Memref sig .tc .vmem S16x1024 .f32 := Memref.whole cc0_scratch3
abbrev scM0_4 : Memref sig .tc .vmem S1x1024 .f32 := Memref.whole cc0_scratch4

/-- What a point finds and leaves besides the windows: the scratch buffers and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

variable (c : Dev nD) (i : grid0.Coords)
  (arg2 : Memref sig .tc .vmem S1x16x1024 .f32) (harg2 : arg2.IsWhole)
  (arg3 : Memref sig .tc .vmem S1x16x1024 .bf16) (harg3 : arg3.IsWhole)
  (arg4 : Memref sig .tc .vmem S4x1024 .f32) (harg4 : arg4.IsWhole)
  (arg5 : Memref sig .tc .vmem S1x1024 .f32) (harg5 : arg5.IsWhole)
  (arg6 : Memref sig .tc .vmem S1024x1024 .bf16) (harg6 : arg6.IsWhole)
  (arg7 : Memref sig .tc .vmem S1x1024 .f32) (harg7 : arg7.IsWhole)
  (arg8 : Memref sig .tc .vmem S1024x1024 .bf16) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x1x1024 .f32) (harg11 : arg11.IsWhole)
  (arg12 : Memref sig .tc .vmem S1x3x1024 .f32) (harg12 : arg12.IsWhole)
  (arg13 : Memref sig .tc .vmem S1x16x1024 .bf16) (harg13 : arg13.IsWhole)
  (arg14 : Memref sig .tc .vmem S1x1x1024 .f32) (harg14 : arg14.IsWhole)
  (arg15 : Memref sig .tc .vmem S1x3x1024 .f32) (harg15 : arg15.IsWhole)
  (arg16 : Memref sig .tc .vmem S24x1024 .f32) (harg16 : arg16.IsWhole)
  (arg17 : Memref sig .tc .vmem S16x1024 .f32) (harg17 : arg17.IsWhole)
  (arg18 : Memref sig .tc .vmem S16x1024 .f32) (harg18 : arg18.IsWhole)
  (arg19 : Memref sig .tc .vmem S16x1024 .f32) (harg19 : arg19.IsWhole)
  (arg20 : Memref sig .tc .vmem S1x1024 .f32) (harg20 : arg20.IsWhole)

/-! ## The steps' rows fill the scratch buffer -/

section Steps
variable (𝒱 : Variants) (bd : Option 𝒱.V) (v33 : FVec F S16x1024 .f32) (v50 : FVec F S16x1024 .f32) (v66 : FVec F S16x1024 .f32) (v68 : BitVec 32) (v69 : IVec S16x1 32)
  (X17 : BufTy.Contents (Elt F) arg17.view.ty) (X18 : BufTy.Contents (Elt F) arg18.view.ty)

/-- A step's row of a buffer of 16 rows. -/
abbrev stepRow (k : Fin k0_t1_loop.trips) : Rect S16x1024 := Rect.unit (s := S16x1024) (k0_off1 k) S1x1024.size (k0_off1_inb k)

/-- What a step carries on. -/
theorem step_carry (k : Fin k0_t1_loop.trips) (acc : Vec F S1x1024 .f32) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v33 v50 v66 v68 v69 X17 X18 k acc
      = k0_pay15 acc (arg17.view.readAt (Elt F) (stepRow k).toLoadRect X17) (arg18.view.readAt (Elt F) (stepRow k).toLoadRect X18) := by
  unfold tripR_k0_t1 trip_k0_t1
  dsimp only

/-- What a step stores: its row, holding the state it carries on. -/
theorem step_store (k : Fin k0_t1_loop.trips) (acc : Vec F S1x1024 .f32) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v33 v50 v66 v68 v69 X17 X18 k acc
      = [⟨stepRow k, k0_pay16 acc (arg17.view.readAt (Elt F) (stepRow k).toLoadRect X17) (arg18.view.readAt (Elt F) (stepRow k).toLoadRect X18)⟩] := by
  unfold tripL_k0_t1 trip_k0_t1
  dsimp only

/-- The rows of the first `n` steps. -/
theorem steps_cover (init : Vec F S1x1024 .f32) : ∀ n, n ≤ k0_t1_loop.trips → ∀ y : S16x1024.Idx, (y 0).val < n →
    ∃ pc ∈ (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v33 v50 v66 v68 v69 X17 X18 init n).2, y ∈ pc.1.set
  | 0, _, _, h => absurd h (Nat.not_lt_zero _)
  | n + 1, hn, y, h => by
    rw [st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v33 v50 v66 v68 v69 X17 X18 init ⟨n, hn⟩, step_store]
    by_cases hy : (y 0).val < n
    · obtain ⟨pc, hm, hpc⟩ := steps_cover init n (by omega) y hy
      exact ⟨pc, List.mem_append_right _ hm, hpc⟩
    · refine ⟨_, List.mem_append_left _ (List.mem_singleton.mpr rfl), ?_⟩
      show y ∈ (stepRow ⟨n, hn⟩).set
      unfold stepRow
      rw [Rect.mem_set_unit, k0_off1_eq]
      have h1 : (y 1).val < 1024 := (y 1).isLt
      have hy0 : (y 0).val = n := by omega
      refine Fin.forall_fin_two.mpr ⟨?_, ?_⟩
      · show n ≤ (y 0).val ∧ (y 0).val < n + 1; omega
      · show 0 ≤ (y 1).val ∧ (y 1).val < 0 + 1024; omega

/-- There are 16 steps. -/
theorem steps_trips : k0_t1_loop.trips = 16 := by decide +kernel

/-- What is read of the buffer after the last step does not depend on what it held before the first. -/
theorem steps_read (init : Vec F S1x1024 .f32) (f : BufTy.Contents (Elt F) arg19.view.ty) (B : LoadRect S16x1024) :
    arg19.view.readAt (Elt F) B (arg19.view.writes (Elt F) f (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v33 v50 v66 v68 v69 X17 X18 init (Scf.trips k0_t1_loop.lb k0_t1_loop.ub k0_t1_loop.st)).2)
      = arg19.view.readCov (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v33 v50 v66 v68 v69 X17 X18 init (Scf.trips k0_t1_loop.lb k0_t1_loop.ub k0_t1_loop.st)).2 B :=
  View.readAt_writes_of_cover _ _ _ _ fun j => steps_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 𝒱 bd v33 v50 v66 v68 v69 X17 X18 init _ (le_refl _) _
    (by rw [steps_trips]; exact (B.idx j 0).isLt)
end Steps

end Cert.RnnSIdeal.Gen

end
-- ==== Proof.RnnSIdealRun.lean ====
module

public import proofs.«01_k».proof.Proof.RnnSIdealSteps

@[expose] public section

/-! # The sample's recurrence: the run of one grid point

The body is walked from end to end, with the buffer of the states read as the steps' rows alone. -/

set_option maxRecDepth 16384

noncomputable section

namespace Cert.RnnSIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x16x1024 .f32) (harg2 : arg2.IsWhole)
  (arg3 : Memref sig .tc .vmem S1x16x1024 .bf16) (harg3 : arg3.IsWhole)
  (arg4 : Memref sig .tc .vmem S4x1024 .f32) (harg4 : arg4.IsWhole)
  (arg5 : Memref sig .tc .vmem S1x1024 .f32) (harg5 : arg5.IsWhole)
  (arg6 : Memref sig .tc .vmem S1024x1024 .bf16) (harg6 : arg6.IsWhole)
  (arg7 : Memref sig .tc .vmem S1x1024 .f32) (harg7 : arg7.IsWhole)
  (arg8 : Memref sig .tc .vmem S1024x1024 .bf16) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x1x1024 .f32) (harg11 : arg11.IsWhole)
  (arg12 : Memref sig .tc .vmem S1x3x1024 .f32) (harg12 : arg12.IsWhole)
  (arg13 : Memref sig .tc .vmem S1x16x1024 .bf16) (harg13 : arg13.IsWhole)
  (arg14 : Memref sig .tc .vmem S1x1x1024 .f32) (harg14 : arg14.IsWhole)
  (arg15 : Memref sig .tc .vmem S1x3x1024 .f32) (harg15 : arg15.IsWhole)
  (arg16 : Memref sig .tc .vmem S24x1024 .f32) (harg16 : arg16.IsWhole)
  (arg17 : Memref sig .tc .vmem S16x1024 .f32) (harg17 : arg17.IsWhole)
  (arg18 : Memref sig .tc .vmem S16x1024 .f32) (harg18 : arg18.IsWhole)
  (arg19 : Memref sig .tc .vmem S16x1024 .f32) (harg19 : arg19.IsWhole)
  (arg20 : Memref sig .tc .vmem S1x1024 .f32) (harg20 : arg20.IsWhole)

set_option maxHeartbeats 1000000 in
/-- The body on whole staging buffers: the inputs stay as they are, each output ends with its stores written over
    what it held, and the scratch buffers end with something. The stores are what the walk finds. -/
noncomputable def kernelRun0_A (hc0 : cond0_0 i) (hc1 : ¬cond0_1 i)
    (x0 : Vec F S1x16x1024 .f32) (x1 : Vec F S1x16x1024 .bf16) (x2 : Vec F S4x1024 .f32) (x3 : Vec F S1x1024 .f32) (x4 : Vec F S1024x1024 .bf16) (x5 : Vec F S1x1024 .f32) (x6 : Vec F S1024x1024 .bf16) (x7 : Vec F S1x1024 .f32) (x8 : Vec F S1x1024 .f32) (x9 : Vec F S1x1x1024 .f32) (x10 : Vec F S1x3x1024 .f32) :
    Σ' (L11 : List (View.Piece (Elt F) S1x16x1024 .bf16)), Σ' (L12 : List (View.Piece (Elt F) S1x1x1024 .f32)), Σ' (L13 : List (View.Piece (Elt F) S1x3x1024 .f32)), Σ' (LT0 : List (View.Piece (Elt F) S24x1024 .f32)), Σ' (LT2 : List (View.Piece (Elt F) S16x1024 .f32)), { LT4 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LT0) ∗ (∃ d, owns (c : Thread nD τ) arg17 fullShare d) ∗ (∃ f, arg18.view.loc (c : Thread nD τ) ↦[arg18.view.set]{fullShare} arg18.view.writes (Elt F) f LT2) ∗ (∃ d, owns (c : Thread nD τ) arg19 fullShare d) ∗ (∃ f, arg20.view.loc (c : Thread nD τ) ↦[arg20.view.set]{fullShare} arg20.view.writes (Elt F) f LT4)) -∗ K ⟨⟩))
          ⊢ wp frame (wpE (defs₀ (F := F)) Variants.none c none) E (cc0_rnn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun E K => ?run⟩
  case run =>
    simp only [cc0_rnn_eq_skeleton]; unfold cc0_rnn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1)
    sl_step
    unfold kernelRun0_A.sl.v111
    rw [steps_read]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [HS0]; · iexists _; iexact HS0
    isplitl [HS1]
    · iexists _, _; isplitr; swap; · iexact HS1
      ipureintro; rfl
    isplitl [HS2]; · iexists _; iexact HS2
    isplitl [HS3]
    · iexists _, _; isplitr; swap; · iexact HS3
      ipureintro; rfl
    iexists _; iexact HS4

end Cert.RnnSIdeal.Gen

end
-- ==== Proof.RnnSIdealFrame.lean ====
module

public import proofs.«01_k».proof.Proof.RnnSIdealRun

@[expose] public section

/-! # The sample's recurrence: the frame

The run of one grid point, at every point of the grid: the arguments end unchanged, every counter at zero. -/

set_option maxRecDepth 16384

noncomputable section

namespace Cert.RnnSIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The run at a point of the grid, on the point's blocks. -/
noncomputable abbrev runAt (c : Dev nD) (t : Fin cfg0.N) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- A point's stores fill the block of each output. -/
theorem cover11 (c : Dev nD) (t : Fin cfg0.N) (y : S1x16x1024.Idx) : ∃ pc ∈ (runAt m c t).1, y ∈ pc.1.set :=
  View.cover_of_tiledL (runAt m c t).1 S1x16x1024.size (by sl_kernel_rfl) y
theorem cover12 (c : Dev nD) (t : Fin cfg0.N) (y : S1x1x1024.Idx) : ∃ pc ∈ (runAt m c t).2.1, y ∈ pc.1.set :=
  View.cover_of_tiledL (runAt m c t).2.1 S1x1x1024.size (by sl_kernel_rfl) y
theorem cover13 (c : Dev nD) (t : Fin cfg0.N) (y : S1x3x1024.Idx) : ∃ pc ∈ (runAt m c t).2.2.1, y ∈ pc.1.set :=
  View.cover_of_tiledL (runAt m c t).2.2.1 S1x3x1024.size (by sl_kernel_rfl) y

/-- What a point leaves in the staging buffer of each output. -/
def out11 (c : Dev nD) (t : Fin cfg0.N) : Vec F S1x16x1024 .bf16 :=
  VO0_11.read (Elt F) (VO0_11.writes (Elt F) VO0_11.junk (runAt m c t).1)
def out12 (c : Dev nD) (t : Fin cfg0.N) : Vec F S1x1x1024 .f32 :=
  VO0_12.read (Elt F) (VO0_12.writes (Elt F) VO0_12.junk (runAt m c t).2.1)
def out13 (c : Dev nD) (t : Fin cfg0.N) : Vec F S1x3x1024 .f32 :=
  VO0_13.read (Elt F) (VO0_13.writes (Elt F) VO0_13.junk (runAt m c t).2.2.1)

/-- The three together. -/
def outsAt0 (c : Dev nD) (t : Fin cfg0.N) : Vec F S1x16x1024 .bf16 × Vec F S1x1x1024 .f32 × Vec F S1x3x1024 .f32 :=
  (out11 m c t, out12 m c t, out13 m c t)

/-- The run's bookkeeping: what every window's staging buffer holds after the body of a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t).1
    | ⟨12, _⟩ => (outsAt0 m c t).2.1
    | ⟨13, _⟩ => (outsAt0 m c t).2.2
  Φ _ := Pipeline.ΦA spec0 c
  q _ := fullShare
  owed _ := 0

/-- The bookkeeping's arrays are those the host code leaves. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t).1 := by dsimp only [dats]
theorem after0_12 (c : Dev nD) (t : Fin cfg0.N) : (dats m 0 c).after 12 t = (outsAt0 m c t).2.1 := by dsimp only [dats]
theorem after0_13 (c : Dev nD) (t : Fin cfg0.N) : (dats m 0 c).after 13 t = (outsAt0 m c t).2.2 := by dsimp only [dats]

/-- Every input's staging buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body finds at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 1600000 in
/-- The body at any point: the run applies, the scratch buffers are handed in and taken back with any contents, and
    each output's stores fill its block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  unfold outsAt0
  unfold out11 out12 out13; (try dsimp only)
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runAt m c t).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, ⟨%e11, H11⟩, ⟨%e12, H12⟩, ⟨%e13, H13⟩, ⟨%fT0, HS0⟩, HS1, ⟨%fT2, HS2⟩, HS3, ⟨%fT4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexact HS1
      isplitl [HS2]
      · iexists _; unfold owns; iexists _; isplitr
        swap; · iexact HS2
        ipureintro; rfl
      isplitl [HS3]
      · iexact HS3
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover11 m c t)
  isplitl [H12]
  · unfold owns; iexists _; isplitr
    swap; · iexact H12
    ipureintro; exact View.read_writes_of_cover _ _ _ _ _ (cover12 m c t)
  unfold owns; iexists _; isplitr
  swap; · iexact H13
  ipureintro; exact View.read_writes_of_cover _ _ _ _ _ (cover13 m c t)

/-- The pipeline's body at a point. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the arrays end as the bookkeeping says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.RnnSIdeal.Gen

end
-- ==== Proof.RnnGate.lean ====
module

public import Idealize.ShloMosaic.PureOps.Ideal
public import Idealize.ShloMosaic.PureOps.Ideal.Laws
public import Idealize.ShloMosaic.Lib.Pointwise
public import Idealize.ShloMosaic.Init

@[expose] public section

/-! # The recurrence's gates over the extended reals

The decay of a step is `exp x` for an exponent `x ≤ 0`, and its input is weighted by `sqrt (1 - exp (2 x))`. One
program writes the weight's radicand with the hyperbolic tangent, the other with `exp - 1`; the two agree wherever the
exponent is not positive infinity, and it never is. The gates' products take a matrix that is zero outside 16 blocks
of 64 by 64 entries. -/

noncomputable section
namespace Cert.RnnGate
open Idealize.ShloMosaic

/-- The recurrence: the state before step `n` of the steps `h ↦ a n * h + b n`. -/
def lin (a b : ℕ → EReal) (h : EReal) : ℕ → EReal
  | 0 => h
  | n + 1 => a n * lin a b h n + b n

/-- Softplus. -/
def plus (x : EReal) : EReal := max x 0 + Ideal.log1p (Ideal.exp (-(max x (-x))))

/-- The exponent of a step's decay, of the channel's parameter and the gate's argument. -/
def expo (lam y : EReal) : EReal := -8 * plus (-lam) * Ideal.logistic y

/-- What weighs a step's input. -/
def weight (x : EReal) : EReal := Ideal.sqrt (-(Ideal.exp (2 * x) - 1))

theorem log1p_nonneg (x : EReal) (h : 0 ≤ x) : 0 ≤ Ideal.log1p x := by
  unfold Ideal.log1p
  induction x with
  | bot => exact absurd h (by simp)
  | top => rw [EReal.add_top_of_ne_bot (by decide)]; exact le_top
  | coe r =>
    have hr : 0 ≤ r := by exact_mod_cast h
    rw [← EReal.coe_one, ← EReal.coe_add]
    show 0 ≤ (if (1 + r : ℝ) ≤ 0 then (⊥ : EReal) else ((Real.log (1 + r) : ℝ) : EReal))
    rw [if_neg (by linarith)]
    exact_mod_cast Real.log_nonneg (by linarith)

theorem exp_nonneg (x : EReal) : 0 ≤ Ideal.exp x := by
  induction x with
  | bot => exact le_refl _
  | top => exact le_top
  | coe r => rw [Ideal.exp_coe]; exact_mod_cast (Real.exp_pos r).le

theorem logistic_nonneg (x : EReal) : 0 ≤ Ideal.logistic x := by
  induction x with
  | bot => rw [Ideal.logistic_bot]
  | top => rw [Ideal.logistic_top]; exact zero_le_one
  | coe r => rw [Ideal.logistic_coe]; exact_mod_cast inv_nonneg.mpr (by have := Real.exp_pos (-r); linarith)

theorem plus_nonneg (x : EReal) : 0 ≤ plus x :=
  add_nonneg (le_max_right _ _) (log1p_nonneg _ (exp_nonneg _))

/-- The exponent is not positive infinity. -/
theorem expo_ne_top (lam y : EReal) : expo lam y ≠ ⊤ := by
  have h : expo lam y ≤ 0 := by
    unfold expo
    refine mul_nonpos_of_nonpos_of_nonneg ?_ (logistic_nonneg y)
    exact mul_nonpos_of_nonpos_of_nonneg (by norm_num) (plus_nonneg _)
  exact fun e => absurd (e ▸ h) (by simp)

/-- The weight's radicand, written with the hyperbolic tangent. -/
theorem radicand (x : EReal) (h : x ≠ ⊤) : Ideal.div (-2 * Ideal.tanh x) (1 - Ideal.tanh x) = -(Ideal.exp (2 * x) - 1) := by
  induction x with
  | top => exact absurd rfl h
  | bot =>
    have e2 : (2 : EReal) = ((2 : ℝ) : EReal) := rfl
    have h1 : (-2 : EReal) * Ideal.tanh ⊥ = 2 := by rw [Ideal.tanh_bot, neg_mul_neg, mul_one]
    have h2 : (1 : EReal) - Ideal.tanh ⊥ = ((2 : ℝ) : EReal) := by
      rw [Ideal.tanh_bot, sub_eq_add_neg, neg_neg]; exact one_add_one_eq_two
    have h3 : (2 : EReal) * ⊥ = ⊥ := by rw [e2]; exact EReal.coe_mul_bot_of_pos (by norm_num)
    rw [h1, h2, h3, Ideal.exp_bot, Ideal.div_coe (by norm_num), zero_sub, neg_neg, e2, ← EReal.coe_mul]
    norm_num
  | coe r =>
    have e2 : (2 : EReal) = ((2 : ℝ) : EReal) := rfl
    have h1 : 1 - Real.tanh r ≠ 0 := by have := Real.tanh_lt_one r; linarith
    rw [Ideal.tanh_coe, e2, ← EReal.coe_mul, Ideal.exp_coe, ← EReal.coe_neg, ← EReal.coe_one, ← EReal.coe_sub,
      ← EReal.coe_mul, ← EReal.coe_sub, ← EReal.coe_neg, Ideal.div_coe h1, ← EReal.coe_mul]
    refine congrArg _ ?_
    have h2 : Real.exp (2 * r) = Real.exp r * Real.exp r := by rw [← Real.exp_add]; ring_nf
    have h3 : Real.exp (-r) * Real.exp r = 1 := by rw [← Real.exp_add]; simp
    have h4 := Real.exp_pos r
    have h5 := Real.exp_pos (-r)
    have h6 : Real.exp r + Real.exp (-r) ≠ 0 := by linarith
    rw [mul_one_div, div_eq_iff h1, h2, Real.tanh_eq_sinh_div_cosh, Real.sinh_eq, Real.cosh_eq]
    field_simp
    nlinarith [h3]

/-- A sum over 1024 entries of which only the 64 of block `n` are not zero. -/
theorem block_sum (f : Fin 1024 → EReal) (n : Fin 16) (h : ∀ k : Fin 1024, k.val / 64 ≠ n.val → f k = 0) :
    ∑ k, f k = ∑ c : Fin 64, f ⟨n.val * 64 + c.val, by omega⟩ := by
  symm
  refine Finset.sum_of_injOn (fun c : Fin 64 => (⟨n.val * 64 + c.val, by omega⟩ : Fin 1024)) ?_ (fun _ _ => Finset.mem_coe.mpr (Finset.mem_univ _))
    (fun k _ hk => h k fun e => hk ⟨⟨k.val % 64, Nat.mod_lt _ (by decide)⟩, Finset.mem_coe.mpr (Finset.mem_univ _), Fin.ext ?_⟩) (fun _ _ => rfl)
  · intro a _ b _ e; have := congrArg Fin.val e; exact Fin.ext (by simp only at this; omega)
  · show n.val * 64 + k.val % 64 = k.val; omega

end Cert.RnnGate
end
-- ==== Proof.RnnSLoop.lean ====
/- The sample's recurrence: the states the loop carries and stores, as a recursion over the steps. -/
module

public import proofs.«01_k».proof.Proof.RnnSIdealSteps
public import proofs.«01_k».proof.Proof.RnnGate
public import Idealize.ShloMosaic.Lib.Pipeline.ValueKit
public import Idealize.ShloMosaic.Lib.Pointwise
public import Idealize.ShloMosaic.Init

@[expose] public section

set_option maxRecDepth 16384

noncomputable section

namespace Cert.RnnSLoop

open Idealize.ShloMosaic Idealize.ShloMosaic.TcCoe Idealize.SL.Sem Cert.RnnSIdeal Cert.RnnSIdeal.Gen Cert.RnnGate

/-- Row `k` of an array of 16 rows, as a function of all natural numbers. -/
def at16 (A : Vec Ideal S16x1024 .f32) (d : Fin 1024) (k : ℕ) : EReal := if h : k < 16 then A (ix2 ⟨k, h⟩ d) else 0

theorem at16_of (A : Vec Ideal S16x1024 .f32) (d : Fin 1024) (k : Fin 16) : at16 A d k.val = A (ix2 k d) := dif_pos k.isLt

/-- What a step carries on, at a channel. -/
theorem pay_carry (h a b : Vec Ideal S1x1024 .f32) (d : Fin 1024) :
    k0_pay15 h a b (ix2 0 d) = a (ix2 0 d) * h (ix2 0 d) + b (ix2 0 d) := by
  pointwise [k0_pay15]

/-- What a step stores is what it carries on. -/
theorem pay_store (h a b : Vec Ideal S1x1024 .f32) (d : Fin 1024) : k0_pay16 h a b (ix2 0 d) = k0_pay15 h a b (ix2 0 d) := by
  pointwise [k0_pay16]

variable (c : Dev nD) (i : grid0.Coords)
  (arg2 : Memref sig .tc .vmem S1x16x1024 .f32) (harg2 : arg2.IsWhole)
  (arg3 : Memref sig .tc .vmem S1x16x1024 .bf16) (harg3 : arg3.IsWhole)
  (arg4 : Memref sig .tc .vmem S4x1024 .f32) (harg4 : arg4.IsWhole)
  (arg5 : Memref sig .tc .vmem S1x1024 .f32) (harg5 : arg5.IsWhole)
  (arg6 : Memref sig .tc .vmem S1024x1024 .bf16) (harg6 : arg6.IsWhole)
  (arg7 : Memref sig .tc .vmem S1x1024 .f32) (harg7 : arg7.IsWhole)
  (arg8 : Memref sig .tc .vmem S1024x1024 .bf16) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x1x1024 .f32) (harg11 : arg11.IsWhole)
  (arg12 : Memref sig .tc .vmem S1x3x1024 .f32) (harg12 : arg12.IsWhole)
  (arg13 : Memref sig .tc .vmem S1x16x1024 .bf16) (harg13 : arg13.IsWhole)
  (arg14 : Memref sig .tc .vmem S1x1x1024 .f32) (harg14 : arg14.IsWhole)
  (arg15 : Memref sig .tc .vmem S1x3x1024 .f32) (harg15 : arg15.IsWhole)
  (arg16 : Memref sig .tc .vmem S24x1024 .f32) (harg16 : arg16.IsWhole)
  (arg17 : Memref sig .tc .vmem S16x1024 .f32) (harg17 : arg17.IsWhole)
  (arg18 : Memref sig .tc .vmem S16x1024 .f32) (harg18 : arg18.IsWhole)
  (arg19 : Memref sig .tc .vmem S16x1024 .f32) (harg19 : arg19.IsWhole)
  (arg20 : Memref sig .tc .vmem S1x1024 .f32) (harg20 : arg20.IsWhole)

section
variable (𝒱 : Variants) (bd : Option 𝒱.V) (v33 : FVec Ideal S16x1024 .f32) (v50 : FVec Ideal S16x1024 .f32) (v66 : FVec Ideal S16x1024 .f32) (v68 : BitVec 32) (v69 : IVec S16x1 32)
  (X17 : BufTy.Contents (Elt Ideal) arg17.view.ty) (X18 : BufTy.Contents (Elt Ideal) arg18.view.ty)

/-- Where a step's row lies. -/
theorem stepRow_idx (k : Fin k0_t1_loop.trips) (d : Fin 1024) :
    (stepRow k).toLoadRect.idx (ix2 0 d) = ix2 ⟨k.val, by have := k.isLt; have := steps_trips; omega⟩ d := by
  refine funext fun a => Fin.ext ?_
  match a with
  | ⟨0, _⟩ => show k0_off1 k 0 + 1 * 0 = k.val; rw [k0_off1_eq]; rfl
  | ⟨1, _⟩ => show k0_off1 k 1 + 1 * d.val = d.val; rw [k0_off1_eq]; show 0 + 1 * d.val = d.val; omega

/-- A step's row of the decays, at a channel. -/
theorem read17 (k : Fin k0_t1_loop.trips) (d : Fin 1024) :
    arg17.view.readAt (Elt Ideal) (stepRow k).toLoadRect X17 (ix2 0 d) = at16 (arg17.view.read (Elt Ideal) X17) d k.val := by
  rw [at16, dif_pos (by have := k.isLt; have := steps_trips; omega), ← stepRow_idx]; rfl

/-- A step's row of the inputs, at a channel. -/
theorem read18 (k : Fin k0_t1_loop.trips) (d : Fin 1024) :
    arg18.view.readAt (Elt Ideal) (stepRow k).toLoadRect X18 (ix2 0 d) = at16 (arg18.view.read (Elt Ideal) X18) d k.val := by
  rw [at16, dif_pos (by have := k.isLt; have := steps_trips; omega), ← stepRow_idx]; rfl

/-- The state before step `n`, at a channel. -/
theorem carry_eq (init : Vec Ideal S1x1024 .f32) (d : Fin 1024) : ∀ n, n ≤ k0_t1_loop.trips →
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v33 v50 v66 v68 v69 X17 X18 init n).1 (ix2 0 d)
      = lin (at16 (arg17.view.read (Elt Ideal) X17) d) (at16 (arg18.view.read (Elt Ideal) X18) d) (init (ix2 0 d)) n
  | 0, _ => by rw [st_k0_t1_zero]; rfl
  | n + 1, hn => by
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v33 v50 v66 v68 v69 X17 X18 init ⟨n, hn⟩, step_carry]
    show k0_pay15 _ _ _ (ix2 0 d) = _
    rw [pay_carry, read17, read18, carry_eq init d n (by omega)]
    rfl

/-- Every stored row holds the state after its step. -/
theorem rows_eq (init : Vec Ideal S1x1024 .f32) : ∀ n, n ≤ k0_t1_loop.trips →
    ∀ pc ∈ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v33 v50 v66 v68 v69 X17 X18 init n).2, ∀ x : pc.1.shape.Idx,
      pc.2 x = lin (at16 (arg17.view.read (Elt Ideal) X17) (pc.1.emb x 1)) (at16 (arg18.view.read (Elt Ideal) X18) (pc.1.emb x 1))
        (init (ix2 0 (pc.1.emb x 1))) ((pc.1.emb x 0).val + 1)
  | 0, _, pc, h, _ => absurd h List.not_mem_nil
  | n + 1, hn, pc, h, x => by
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v33 v50 v66 v68 v69 X17 X18 init ⟨n, hn⟩, step_store] at h
    rcases List.mem_append.mp h with h | h
    · obtain rfl := List.mem_singleton.mp h
      obtain ⟨x0, x1, rfl⟩ : ∃ (x0 : Fin 1) (x1 : Fin 1024), x = ix2 x0 x1 := ⟨x 0, x 1, funext fun a => by fin_cases a <;> rfl⟩
      obtain rfl : x0 = 0 := Subsingleton.elim _ _
      have e : (stepRow (⟨n, hn⟩ : Fin k0_t1_loop.trips)).emb (ix2 0 x1) = ix2 ⟨n, by have := steps_trips; omega⟩ x1 :=
        stepRow_idx ⟨n, hn⟩ x1
      show k0_pay16 _ _ _ (ix2 0 x1) = _
      rw [e, pay_store, pay_carry, read17, read18, carry_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 𝒱 bd v33 v50 v66 v68 v69 X17 X18 init x1 n (by omega)]
      rfl
    · exact rows_eq init n (by omega) pc h x

/-- What is read of the stored rows after the last step: the state after each. -/
theorem stored_read (init : Vec Ideal S1x1024 .f32) (inb) (s : Fin 16) (d : Fin 1024) :
    arg19.view.readCov (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v33 v50 v66 v68 v69 X17 X18 init (Scf.trips k0_t1_loop.lb k0_t1_loop.ub k0_t1_loop.st)).2 (Rect.unit (s := S16x1024) ![0, 0] ![16, 1024] inb).toLoadRect (ix2 s d)
      = lin (at16 (arg17.view.read (Elt Ideal) X17) d) (at16 (arg18.view.read (Elt Ideal) X18) d) (init (ix2 0 d)) (s.val + 1) := by
  have e : (Rect.unit (s := S16x1024) ![0, 0] ![16, 1024] inb).toLoadRect.idx (ix2 s d) = ix2 s d :=
    funext fun a => Fin.ext (by
      match a with
      | ⟨0, _⟩ => show 0 + 1 * s.val = s.val; omega
      | ⟨1, _⟩ => show 0 + 1 * d.val = d.val; omega)
  show arg19.view.read (Elt Ideal) (arg19.view.writes (Elt Ideal) arg19.view.junk _) ((Rect.unit (s := S16x1024) ![0, 0] ![16, 1024] inb).toLoadRect.idx (ix2 s d)) = _
  rw [e]
  exact View.read_writes_apply_of_pieces arg19.view _
    (fun y : S16x1024.Idx => (lin (at16 (arg17.view.read (Elt Ideal) X17) (y 1)) (at16 (arg18.view.read (Elt Ideal) X18) (y 1)) (init (ix2 0 (y 1))) ((y 0).val + 1) : Elt Ideal .f32))
    _ (rows_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 𝒱 bd v33 v50 v66 v68 v69 X17 X18 init _ (le_refl _)) (ix2 s d)
    (steps_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 𝒱 bd v33 v50 v66 v68 v69 X17 X18 init _ (le_refl _) _ (by rw [steps_trips]; exact s.isLt))

end

end Cert.RnnSLoop

end
-- ==== Proof.RnnForm.lean ====
/- The sample's recurrence: its values as plain functions of a sequence's rows, common to the kernel and the reference. -/
module

public import proofs.«01_k».proof.Proof.RnnGate

@[expose] public section

noncomputable section

namespace Cert.RnnForm

open Idealize.ShloMosaic Cert.RnnGate

/-- Row `n` of the three kept rows followed by the sequence's sixteen. -/
def row (b : Fin 3 → Fin 1024 → EReal) (u : Fin 16 → Fin 1024 → EReal) (n : ℕ) (d : Fin 1024) : EReal :=
  if h : n < 3 then b ⟨n, h⟩ d else if h' : n < 19 then u ⟨n - 3, by omega⟩ d else 0

/-- The convolution over four rows. -/
def conv (b : Fin 3 → Fin 1024 → EReal) (u : Fin 16 → Fin 1024 → EReal) (w : Fin 4 → Fin 1024 → EReal) (v : Fin 1024 → EReal)
    (s : Fin 16) (d : Fin 1024) : EReal :=
  v d + row b u s.val d * w 0 d + row b u (s.val + 1) d * w 1 d + row b u (s.val + 2) d * w 2 d + row b u (s.val + 3) d * w 3 d

/-- A gate's argument: the product with a matrix, and a bias. -/
def arg (x : Fin 16 → Fin 1024 → EReal) (W : Fin 1024 → Fin 1024 → EReal) (v : Fin 1024 → EReal) (s : Fin 16) (d : Fin 1024) : EReal :=
  ∑ k, x s k * W k d + v d

/-- The matrix with 16 blocks on its diagonal. -/
def diag (w : Fin 16 → Fin 64 → Fin 64 → EReal) (k d : Fin 1024) : EReal :=
  (if k.val / 64 = d.val / 64 then 1 else 0) * w ⟨k.val / 64, by omega⟩ ⟨k.val % 64, by omega⟩ ⟨d.val % 64, by omega⟩

/-- The product with that matrix is block by block. -/
theorem arg_diag (x : Fin 16 → Fin 1024 → EReal) (w : Fin 16 → Fin 64 → Fin 64 → EReal) (v : Fin 1024 → EReal) (s : Fin 16) (d : Fin 1024) :
    arg x (diag w) v s d = ∑ c : Fin 64, w ⟨d.val / 64, by omega⟩ c ⟨d.val % 64, by omega⟩ * x s ⟨d.val / 64 * 64 + c.val, by omega⟩ + v d := by
  unfold arg
  rw [block_sum _ ⟨d.val / 64, by omega⟩ (fun k hk => by unfold diag; rw [if_neg hk, zero_mul, mul_zero])]
  refine congrArg (· + v d) (Finset.sum_congr rfl fun c _ => ?_)
  unfold diag
  have h1 : (d.val / 64 * 64 + c.val) / 64 = d.val / 64 := by omega
  have h2 : (d.val / 64 * 64 + c.val) % 64 = c.val := by omega
  rw [if_pos h1, one_mul, mul_comm]
  congr 1
  congr 1
  · exact Fin.ext h1
  · exact Fin.ext h2

/-- A row of sixteen values as a function of all natural numbers. -/
def seq (f : Fin 16 → EReal) (k : ℕ) : EReal := if h : k < 16 then f ⟨k, h⟩ else 0

theorem seq_of (f : Fin 16 → EReal) (k : Fin 16) : seq f k.val = f k := dif_pos k.isLt

/-- The state before step `n` of a channel: of the decays' arguments `p`, the inputs' `q`, the convolved rows `x`, the
    channel's parameter and its first state. -/
def state (lam : EReal) (p q x : Fin 16 → EReal) (h : EReal) (n : ℕ) : EReal :=
  lin (seq fun s => Ideal.exp (expo lam (p s))) (seq fun s => weight (expo lam (p s)) * (Ideal.logistic (q s) * x s)) h n

end Cert.RnnForm

end
-- ==== Proof.RnnSCells.lean ====
/- The sample's recurrence: what a grid point leaves, read at one element. -/
module

public import proofs.«01_k».proof.Proof.RnnSIdealFrame
public import proofs.«01_k».proof.Proof.RnnSLoop
public import proofs.«01_k».proof.Proof.RnnForm

@[expose] public section

set_option maxRecDepth 16384

noncomputable section

namespace Cert.RnnSCells

open Idealize.ShloMosaic Idealize.ShloMosaic.TcCoe Idealize.SL.Sem Cert.RnnSIdeal Cert.RnnSIdeal.Gen Cert.RnnGate Cert.RnnForm

/-- A block's rows, as functions of numbers. -/
abbrev rows16 (u : Vec Ideal S1x16x1024 .f32) : Fin 16 → Fin 1024 → EReal := fun s d => u (ix3 0 s d)
abbrev rows3 (b : Vec Ideal S1x3x1024 .f32) : Fin 3 → Fin 1024 → EReal := fun s d => b (ix3 0 s d)
abbrev rows4 (w : Vec Ideal S4x1024 .f32) : Fin 4 → Fin 1024 → EReal := fun s d => w (ix2 s d)
abbrev row1 (v : Vec Ideal S1x1024 .f32) : Fin 1024 → EReal := fun d => v (ix2 0 d)
abbrev square (W : Vec Ideal S1024x1024 .bf16) : Fin 1024 → Fin 1024 → EReal := fun k d => W (ix2 k d)

/-- What the buffer of rows is filled with: the sequence's rows from row 8 on, the kept ones before them. -/
abbrev held (u : Vec Ideal S1x16x1024 .f32) (b : Vec Ideal S1x3x1024 .f32) : List (View.Piece (Elt Ideal) S24x1024 .f32) :=
  [⟨Rect.unit ![8, 0] ![16, 1024] inb_S24x1024_S16x1024_8_0, k0_pay6 u⟩, ⟨Rect.unit ![5, 0] ![3, 1024] inb_S24x1024_S3x1024_5_0, k0_pay3 b⟩]

/-- What the buffer of rows holds from row 5 on. -/
theorem held_read (V : View sig .tc .vmem S24x1024 .f32) (u : Vec Ideal S1x16x1024 .f32) (b : Vec Ideal S1x3x1024 .f32) (y : S24x1024.Idx) (h : 5 ≤ (y 0).val) :
    V.read (Elt Ideal) (V.writes (Elt Ideal) V.junk (held u b)) y
      = row (rows3 b) (rows16 u) ((y 0).val - 5) (y 1) := by
  refine View.read_writes_apply_of_pieces V V.junk (fun y : S24x1024.Idx => (row (rows3 b) (rows16 u) ((y 0).val - 5) (y 1) : Elt Ideal .f32)) (held u b) ?_ y ?_
  · intro p hp x
    rcases List.mem_cons.mp hp with rfl | hp
    · obtain ⟨x0, x1, rfl⟩ : ∃ (x0 : Fin 16) (x1 : Fin 1024), x = ix2 x0 x1 := ⟨x 0, x 1, funext fun a => by fin_cases a <;> rfl⟩
      have e : (Rect.unit (s := S24x1024) ![8, 0] ![16, 1024] inb_S24x1024_S16x1024_8_0).emb (ix2 x0 x1) = ix2 ⟨8 + x0.val, by omega⟩ x1 :=
        funext fun a => Fin.ext (by
          match a with
          | ⟨0, _⟩ => show 8 + 1 * x0.val = 8 + x0.val; omega
          | ⟨1, _⟩ => show 0 + 1 * x1.val = x1.val; omega)
      show k0_pay6 u (ix2 x0 x1) = row (rows3 b) (rows16 u) (((Rect.unit (s := S24x1024) ![8, 0] ![16, 1024] inb_S24x1024_S16x1024_8_0).emb (ix2 x0 x1) 0).val - 5) ((Rect.unit (s := S24x1024) ![8, 0] ![16, 1024] inb_S24x1024_S16x1024_8_0).emb (ix2 x0 x1) 1)
      rw [e]
      show _ = row (rows3 b) (rows16 u) (8 + x0.val - 5) x1
      unfold row
      rw [dif_neg (by omega), dif_pos (by omega)]
      have hx : (⟨8 + x0.val - 5 - 3, by omega⟩ : Fin 16) = x0 := Fin.ext (by show 8 + x0.val - 5 - 3 = x0.val; omega)
      rw [hx]
      pointwise [k0_pay6]
    · obtain rfl := List.mem_singleton.mp hp
      obtain ⟨x0, x1, rfl⟩ : ∃ (x0 : Fin 3) (x1 : Fin 1024), x = ix2 x0 x1 := ⟨x 0, x 1, funext fun a => by fin_cases a <;> rfl⟩
      have e : (Rect.unit (s := S24x1024) ![5, 0] ![3, 1024] inb_S24x1024_S3x1024_5_0).emb (ix2 x0 x1) = ix2 ⟨5 + x0.val, by omega⟩ x1 :=
        funext fun a => Fin.ext (by
          match a with
          | ⟨0, _⟩ => show 5 + 1 * x0.val = 5 + x0.val; omega
          | ⟨1, _⟩ => show 0 + 1 * x1.val = x1.val; omega)
      show k0_pay3 b (ix2 x0 x1) = row (rows3 b) (rows16 u) (((Rect.unit (s := S24x1024) ![5, 0] ![3, 1024] inb_S24x1024_S3x1024_5_0).emb (ix2 x0 x1) 0).val - 5) ((Rect.unit (s := S24x1024) ![5, 0] ![3, 1024] inb_S24x1024_S3x1024_5_0).emb (ix2 x0 x1) 1)
      rw [e]
      show _ = row (rows3 b) (rows16 u) (5 + x0.val - 5) x1
      unfold row
      rw [dif_pos (by omega)]
      have hx : (⟨5 + x0.val - 5, by omega⟩ : Fin 3) = x0 := Fin.ext (by show 5 + x0.val - 5 = x0.val; omega)
      rw [hx]
      pointwise [k0_pay3]
  · have h0 : (y 0).val < 24 := (y 0).isLt
    have h1 : (y 1).val < 1024 := (y 1).isLt
    by_cases hy : 8 ≤ (y 0).val
    · refine ⟨_, List.mem_cons_self, ?_⟩
      rw [Rect.mem_set_unit]
      refine Fin.forall_fin_two.mpr ⟨?_, ?_⟩
      · show 8 ≤ (y 0).val ∧ (y 0).val < 8 + 16; omega
      · show 0 ≤ (y 1).val ∧ (y 1).val < 0 + 1024; omega
    · refine ⟨_, List.mem_cons_of_mem _ List.mem_cons_self, ?_⟩
      rw [Rect.mem_set_unit]
      refine Fin.forall_fin_two.mpr ⟨?_, ?_⟩
      · show 5 ≤ (y 0).val ∧ (y 0).val < 5 + 3; omega
      · show 0 ≤ (y 1).val ∧ (y 1).val < 0 + 1024; omega

/-- A window of `N` of those rows. -/
theorem held_rows (V : View sig .tc .vmem S24x1024 .f32) (u : Vec Ideal S1x16x1024 .f32) (b : Vec Ideal S1x3x1024 .f32) (o N : ℕ) (inb)
    (ho : 5 ≤ o) (hN : o + N ≤ 24) (k : Fin N) (d : Fin 1024) :
    V.readCov (held u b) (Rect.unit (s := S24x1024) ![o, 0] ![N, 1024] inb).toLoadRect (ix2 k d)
      = row (rows3 b) (rows16 u) (o - 5 + k.val) d := by
  have e : (Rect.unit (s := S24x1024) ![o, 0] ![N, 1024] inb).toLoadRect.idx (ix2 k d) = ix2 ⟨o + k.val, by omega⟩ d :=
    funext fun a => Fin.ext (by
      match a with
      | ⟨0, _⟩ => show o + 1 * k.val = o + k.val; omega
      | ⟨1, _⟩ => show 0 + 1 * d.val = d.val; omega)
  show V.read (Elt Ideal) (V.writes (Elt Ideal) V.junk (held u b)) ((Rect.unit (s := S24x1024) ![o, 0] ![N, 1024] inb).toLoadRect.idx (ix2 k d)) = _
  rw [e, held_read V u b _ (by show 5 ≤ o + k.val; omega)]
  show row (rows3 b) (rows16 u) (o + k.val - 5) d = _
  exact congrArg (fun n => row (rows3 b) (rows16 u) n d) (by omega)

/-- A row of the convolution's weights. -/
theorem weight_row (w : Vec Ideal S4x1024 .f32) (o : Fin 4) (inb) (d : Fin 1024) :
    View.ld w (Rect.unit (s := S4x1024) ![o.val, 0] ![1, 1024] inb) (ix2 0 d) = w (ix2 o d) := by
  refine congrArg w (funext fun a => Fin.ext ?_)
  match a with
  | ⟨0, _⟩ => show o.val + 1 * 0 = o.val; omega
  | ⟨1, _⟩ => show 0 + 1 * d.val = d.val; omega

/-- The convolution's four terms over arrays that hold the rows. -/
theorem conv_of (R5 R6 R7 R8 : Vec Ideal S16x1024 .f32) (v W0 W1 W2 W3 : Vec Ideal S1x1024 .f32) (s : Fin 16) (d : Fin 1024) :
    k0_pay8 (k0_pay7 v R5 W0 R6 W1 R7 W2) R8 W3 (ix2 s d)
      = v (ix2 0 d) + R5 (ix2 s d) * W0 (ix2 0 d) + R6 (ix2 s d) * W1 (ix2 0 d) + R7 (ix2 s d) * W2 (ix2 0 d) + R8 (ix2 s d) * W3 (ix2 0 d) := by
  pointwise [k0_pay8, k0_pay7]

/-- The buffer of rows. -/
abbrev VB : View sig .tc .vmem S24x1024 .f32 := View.whole cc0_scratch0

/-- The first three terms of the convolution, as the body builds them. -/
abbrev part (u : Vec Ideal S1x16x1024 .f32) (b : Vec Ideal S1x3x1024 .f32) (w : Vec Ideal S4x1024 .f32) (v : Vec Ideal S1x1024 .f32) : FVec Ideal S16x1024 .f32 :=
  k0_pay7 v (VB.readCov (held u b) (Rect.unit (s := S24x1024) ![5, 0] ![16, 1024] inb_S24x1024_S16x1024_5_0).toLoadRect)
    (View.ld w (Rect.unit (s := S4x1024) ![0, 0] ![1, 1024] inb_S4x1024_S1x1024_0_0))
    (VB.readCov (held u b) (Rect.unit (s := S24x1024) ![6, 0] ![16, 1024] inb_S24x1024_S16x1024_6_0).toLoadRect)
    (View.ld w (Rect.unit (s := S4x1024) ![1, 0] ![1, 1024] inb_S4x1024_S1x1024_1_0))
    (VB.readCov (held u b) (Rect.unit (s := S24x1024) ![7, 0] ![16, 1024] inb_S24x1024_S16x1024_7_0).toLoadRect)
    (View.ld w (Rect.unit (s := S4x1024) ![2, 0] ![1, 1024] inb_S4x1024_S1x1024_2_0))
/-- What the last term is made of. -/
abbrev last (u : Vec Ideal S1x16x1024 .f32) (b : Vec Ideal S1x3x1024 .f32) : Vec Ideal S16x1024 .f32 :=
  VB.readCov (held u b) (Rect.unit (s := S24x1024) ![8, 0] ![16, 1024] inb_S24x1024_S16x1024_8_0).toLoadRect
abbrev lastw (w : Vec Ideal S4x1024 .f32) : Vec Ideal S1x1024 .f32 := View.ld w (Rect.unit (s := S4x1024) ![3, 0] ![1, 1024] inb_S4x1024_S1x1024_3_0)

/-- The convolved rows. -/
theorem conv_at (u : Vec Ideal S1x16x1024 .f32) (b : Vec Ideal S1x3x1024 .f32) (w : Vec Ideal S4x1024 .f32) (v : Vec Ideal S1x1024 .f32)
    (s : Fin 16) (d : Fin 1024) :
    k0_pay8 (part u b w v) (last u b) (lastw w) (ix2 s d) = conv (rows3 b) (rows16 u) (rows4 w) (row1 v) s d := by
  have r (o : ℕ) (inb) (ho : 5 ≤ o) (hN : o + 16 ≤ 24) (n : ℕ) (hn : o - 5 + s.val = n) :=
    (held_rows VB u b o 16 inb ho hN s d).trans (congrArg (fun n => row (rows3 b) (rows16 u) n d) hn)
  refine (conv_of _ _ _ _ _ _ _ _ _ s d).trans ?_
  unfold conv
  refine (congrArg₂ (· + ·) (congrArg₂ (· + ·) (congrArg₂ (· + ·) (congrArg₂ (· + ·) rfl (congrArg₂ (· * ·) ?_ ?_)) (congrArg₂ (· * ·) ?_ ?_)) (congrArg₂ (· * ·) ?_ ?_)) (congrArg₂ (· * ·) ?_ ?_))
  · exact r 5 _ (by omega) (by omega) _ (by omega)
  · exact weight_row w 0 _ d
  · exact r 6 _ (by omega) (by omega) _ (by omega)
  · exact weight_row w 1 _ d
  · exact r 7 _ (by omega) (by omega) _ (by omega)
  · exact weight_row w 2 _ d
  · exact r 8 _ (by omega) (by omega) _ (by omega)
  · exact weight_row w 3 _ d

theorem neg_eight : Ideal.ofBits .f32 0xC1000000#32 = -8 := by
  have h : Ideal.ofBits .f32 0xC1000000#32 = ((-(8 : ℝ) : ℝ) : EReal) := by
    simp [Ideal.ofBits, Ideal.ieee, -EReal.coe_mul, -EReal.coe_neg]; norm_num
  rw [h]; rfl
theorem neg_two : Ideal.ofBits .f32 0xC0000000#32 = -2 := by
  have h : Ideal.ofBits .f32 0xC0000000#32 = ((-(2 : ℝ) : ℝ) : EReal) := by
    simp [Ideal.ofBits, Ideal.ieee, -EReal.coe_mul, -EReal.coe_neg]; norm_num
  rw [h]; rfl

/-- No step of the sample is at position 0. -/
theorem no_reset (s : Fin 16) {α : Type} (x y : α) :
    Scalar.select (IntOp.cmpi .eq (IntOp.addi (Scalar.addi 2048#32 (Scalar.muli 0#32 16#32)) (BitVec.ofNat 32 s.val)) 0#32) x y = y := by
  have h : ∀ s : Fin 16, ¬ IntOp.cmpi .eq (IntOp.addi (Scalar.addi 2048#32 (Scalar.muli 0#32 16#32)) (BitVec.ofNat 32 s.val)) 0#32 = 1#1 := by
    decide +kernel
  exact if_neg (h s)

/-- The gate on the inputs. -/
theorem gate_at (P L : FVec Ideal S16x1024 .f32) (lw : Vec Ideal S1x1024 .f32) (W : Vec Ideal S1024x1024 .bf16) (v : Vec Ideal S1x1024 .f32)
    (s : Fin 16) (d : Fin 1024) :
    k0_pay10 P L lw W v (ix2 s d) = Ideal.logistic (arg (fun s k => k0_pay8 P L lw (ix2 s k)) (square W) (row1 v) s d) := by
  pointwise [k0_pay10, k0_pay9]
  rfl

/-- The decays' exponents. -/
theorem expo_at (P L : FVec Ideal S16x1024 .f32) (lw : Vec Ideal S1x1024 .f32) (W : Vec Ideal S1024x1024 .bf16) (v lam : Vec Ideal S1x1024 .f32)
    (s : Fin 16) (d : Fin 1024) :
    k0_pay11 P L lw W v lam (ix2 s d) = expo (lam (ix2 0 d)) (arg (fun s k => k0_pay8 P L lw (ix2 s k)) (square W) (row1 v) s d) := by
  pointwise [k0_pay11, k0_pay9, expo, plus]
  rw [neg_eight, zero_sub, zero_sub, neg_neg, max_comm (-lam (ix2 0 d)) (lam (ix2 0 d))]
  rfl

/-- The decays: no step of the sample is at position 0. -/
theorem decay_at (X : FVec Ideal S16x1024 .f32) (n : ℕ) (hn : n = 0) (s : Fin 16) (d : Fin 1024) :
    k0_pay13 X (Scalar.addi 2048#32 (Scalar.muli (BitVec.ofNat 32 n) 16#32)) (iota Kind.tc S16x1 32 [0] iota_S16x1_d0_w32) (ix2 s d)
      = Ideal.exp (X (ix2 s d)) := by
  subst hn
  pointwise [k0_pay13, k0_pay12]
  exact no_reset s _ _

/-- The weighted inputs. -/
theorem input_at (C G X : FVec Ideal S16x1024 .f32) (n : ℕ) (hn : n = 0) (s : Fin 16) (d : Fin 1024) (h : X (ix2 s d) ≠ ⊤) :
    k0_pay14 C G X (Scalar.addi 2048#32 (Scalar.muli (BitVec.ofNat 32 n) 16#32)) (iota Kind.tc S16x1 32 [0] iota_S16x1_d0_w32) (ix2 s d)
      = weight (X (ix2 s d)) * (G (ix2 s d) * C (ix2 s d)) := by
  subst hn
  pointwise [k0_pay14, k0_pay12]
  rw [no_reset, neg_two, radicand _ h]
  rfl

/-- The kept rows, stored. -/
theorem new_at (R : Vec Ideal S3x1024 .f32) (k : Fin 3) (d : Fin 1024) : k0_pay1 R (ix3 0 k d) = R (ix2 k d) := by
  pointwise [k0_pay1]

variable (m : (ℓ : Loc nD τ sig) → Buf (Elt Ideal) ℓ)

/-- The rows kept for the next call: the last three. -/
theorem out13_at (c : Dev nD) (t : Fin cfg0.N) (k : Fin 3) (d : Fin 1024) :
    out13 m c t (ix3 0 k d) = row (rows3 (iblk m c 10 t)) (rows16 (iblk m c 0 t)) (16 + k.val) d := by
  unfold out13 runAt
  frame_out
  refine Eq.trans ?_ (held_rows VB (iblk m c 0 t) (iblk m c 10 t) 21 3 inb_S24x1024_S3x1024_21_0 (by omega) (by omega) k d)
  exact new_at _ k d

/-- A buffer of 16 rows written whole holds what was written. -/
theorem whole_read (V : View sig .tc .vmem S16x1024 .f32) (inb) (w : Vec Ideal S16x1024 .f32) :
    V.read (Elt Ideal) (V.writes (Elt Ideal) V.junk [⟨Rect.unit (s := S16x1024) ![0, 0] ![16, 1024] inb, w⟩]) = w := by
  have e : ∀ x : S16x1024.Idx, (Rect.unit (s := S16x1024) ![0, 0] ![16, 1024] inb).emb x = x := fun x =>
    funext fun a => Fin.ext (by
      match a with
      | ⟨0, _⟩ => show 0 + 1 * (x 0).val = (x 0).val; omega
      | ⟨1, _⟩ => show 0 + 1 * (x 1).val = (x 1).val; omega)
  funext y
  refine View.read_writes_apply_of_pieces V V.junk w _ (fun p hp x => ?_) y ⟨_, List.mem_cons_self, ?_⟩
  · obtain rfl := List.mem_singleton.mp hp
    exact congrArg w (e x).symm
  · rw [Rect.mem_set_unit]
    have h0 : (y 0).val < 16 := (y 0).isLt
    have h1 : (y 1).val < 1024 := (y 1).isLt
    refine Fin.forall_fin_two.mpr ⟨?_, ?_⟩
    · show 0 ≤ (y 0).val ∧ (y 0).val < 0 + 16; omega
    · show 0 ≤ (y 1).val ∧ (y 1).val < 0 + 1024; omega

theorem last_at (Y : Vec Ideal S1x1024 .f32) (d : Fin 1024) : k0_pay18 Y (ix3 0 0 d) = Y (ix2 0 d) := by
  pointwise [k0_pay18]
theorem first_at (Y : Vec Ideal S1x1x1024 .f32) (d : Fin 1024) : k0_pay4 Y (ix2 0 d) = Y (ix3 0 0 d) := by
  pointwise [k0_pay4]
theorem gated_at (H : Vec Ideal S16x1024 .f32) (g : Vec Ideal S1x16x1024 .bf16) (s : Fin 16) (d : Fin 1024) :
    k0_pay2 H g (ix3 0 s d) = H (ix2 s d) * g (ix3 0 s d) := by
  pointwise [k0_pay2]

/-- The recurrence over arrays that hold the decays and the weighted inputs. -/
theorem state_of (A B : Vec Ideal S16x1024 .f32) (d : Fin 1024) (lam : EReal) (p q x : Fin 16 → EReal) (h : EReal) (n : ℕ)
    (hA : ∀ s, A (ix2 s d) = Ideal.exp (expo lam (p s))) (hB : ∀ s, B (ix2 s d) = weight (expo lam (p s)) * (Ideal.logistic (q s) * x s)) :
    lin (RnnSLoop.at16 A d) (RnnSLoop.at16 B d) h n = state lam p q x h n := by
  have eA : RnnSLoop.at16 A d = seq fun s => Ideal.exp (expo lam (p s)) := by
    rw [show RnnSLoop.at16 A d = seq (fun s => A (ix2 s d)) from rfl]; exact congrArg seq (funext hA)
  have eB : RnnSLoop.at16 B d = seq fun s => weight (expo lam (p s)) * (Ideal.logistic (q s) * x s) := by
    rw [show RnnSLoop.at16 B d = seq (fun s => B (ix2 s d)) from rfl]; exact congrArg seq (funext hB)
  rw [eA, eB]; rfl

/-- The grid has one block of steps. -/
theorem block_zero (t : Fin cfg0.N) : (grid0.coords t 1).val = 0 := by
  have h : (grid0.coords t 1).val < 1 := (grid0.coords t 1).isLt
  omega

/-- The convolved rows of a point's blocks. -/
def X (c : Dev nD) (t : Fin cfg0.N) : Fin 16 → Fin 1024 → EReal :=
  conv (rows3 (iblk m c 10 t)) (rows16 (iblk m c 0 t)) (rows4 (iblk m c 2 t)) (row1 (iblk m c 3 t))

/-- The state before step `n` at a point, of its blocks. -/
def S (c : Dev nD) (t : Fin cfg0.N) (d : Fin 1024) (n : ℕ) : EReal :=
  state (row1 (iblk m c 8 t) d) (fun s => arg (X m c t) (square (iblk m c 4 t)) (row1 (iblk m c 5 t)) s d)
    (fun s => arg (X m c t) (square (iblk m c 6 t)) (row1 (iblk m c 7 t)) s d) (fun s => X m c t s d) (iblk m c 9 t (ix3 0 0 d)) n

theorem conv_eq (c : Dev nD) (t : Fin cfg0.N) :
    (fun s k => k0_pay8 (part (iblk m c 0 t) (iblk m c 10 t) (iblk m c 2 t) (iblk m c 3 t)) (last (iblk m c 0 t) (iblk m c 10 t)) (lastw (iblk m c 2 t)) (ix2 s k))
      = X m c t := funext fun s => funext fun k => conv_at _ _ _ _ s k

/-- The decays the body stores. -/
theorem decays (c : Dev nD) (t : Fin cfg0.N) (V : View sig .tc .vmem S16x1024 .f32) (inb) (s : Fin 16) (d : Fin 1024) :
    V.read (Elt Ideal) (V.writes (Elt Ideal) V.junk [⟨Rect.unit (s := S16x1024) ![0, 0] ![16, 1024] inb,
      k0_pay13 (k0_pay11 (part (iblk m c 0 t) (iblk m c 10 t) (iblk m c 2 t) (iblk m c 3 t)) (last (iblk m c 0 t) (iblk m c 10 t)) (lastw (iblk m c 2 t)) (iblk m c 4 t) (iblk m c 5 t) (iblk m c 8 t))
        (Scalar.addi 2048#32 (Scalar.muli (BitVec.ofNat 32 (grid0.coords t 1).val) 16#32)) (iota Kind.tc S16x1 32 [0] iota_S16x1_d0_w32)⟩]) (ix2 s d)
      = Ideal.exp (expo (row1 (iblk m c 8 t) d) (arg (X m c t) (square (iblk m c 4 t)) (row1 (iblk m c 5 t)) s d)) := by
  rw [whole_read, decay_at _ _ (block_zero t), expo_at, conv_eq]

/-- The weighted inputs the body stores. -/
theorem inputs (c : Dev nD) (t : Fin cfg0.N) (V : View sig .tc .vmem S16x1024 .f32) (inb) (s : Fin 16) (d : Fin 1024) :
    V.read (Elt Ideal) (V.writes (Elt Ideal) V.junk [⟨Rect.unit (s := S16x1024) ![0, 0] ![16, 1024] inb,
      k0_pay14 (k0_pay8 (part (iblk m c 0 t) (iblk m c 10 t) (iblk m c 2 t) (iblk m c 3 t)) (last (iblk m c 0 t) (iblk m c 10 t)) (lastw (iblk m c 2 t)))
        (k0_pay10 (part (iblk m c 0 t) (iblk m c 10 t) (iblk m c 2 t) (iblk m c 3 t)) (last (iblk m c 0 t) (iblk m c 10 t)) (lastw (iblk m c 2 t)) (iblk m c 6 t) (iblk m c 7 t))
        (k0_pay11 (part (iblk m c 0 t) (iblk m c 10 t) (iblk m c 2 t) (iblk m c 3 t)) (last (iblk m c 0 t) (iblk m c 10 t)) (lastw (iblk m c 2 t)) (iblk m c 4 t) (iblk m c 5 t) (iblk m c 8 t))
        (Scalar.addi 2048#32 (Scalar.muli (BitVec.ofNat 32 (grid0.coords t 1).val) 16#32)) (iota Kind.tc S16x1 32 [0] iota_S16x1_d0_w32)⟩]) (ix2 s d)
      = weight (expo (row1 (iblk m c 8 t) d) (arg (X m c t) (square (iblk m c 4 t)) (row1 (iblk m c 5 t)) s d))
        * (Ideal.logistic (arg (X m c t) (square (iblk m c 6 t)) (row1 (iblk m c 7 t)) s d) * X m c t s d) := by
  rw [whole_read, input_at _ _ _ _ (block_zero t) _ _ (by rw [expo_at]; exact expo_ne_top _ _), expo_at, gate_at, conv_eq, conv_at]
  rfl

/-- The last state. -/
theorem out12_at (c : Dev nD) (t : Fin cfg0.N) (d : Fin 1024) : out12 m c t (ix3 0 0 d) = S m c t d 16 := by
  unfold out12 runAt
  frame_out
  refine (last_at _ d).trans ?_
  rw [RnnSLoop.carry_eq _ _ _ _ _ _ _ _ _ _ _ _ _ _ _ _ _ _ _ _ _ _ _ _ _ _ _ _ _ _ _ _ _ _ _ _ _ _ _ _ _ _ _ _ _ _ _ _ _ _ _ _ (le_refl _)]
  rw [steps_trips, first_at]
  exact state_of _ _ d _ _ _ _ _ _ (fun s => decays m c t _ _ s d) (fun s => inputs m c t _ _ s d)

/-- The gated states. -/
theorem out11_at (c : Dev nD) (t : Fin cfg0.N) (s : Fin 16) (d : Fin 1024) :
    out11 m c t (ix3 0 s d) = S m c t d (s.val + 1) * iblk m c 1 t (ix3 0 s d) := by
  unfold out11 runAt
  frame_out
  refine (gated_at _ _ s d).trans (congrArg (· * iblk m c 1 t (ix3 0 s d)) ?_)
  refine (RnnSLoop.stored_read c (grid0.coords t) (ms0_0 t) _ (ms0_1 t) _ (ms0_2 t) _ (ms0_3 t) _ (ms0_4 t) _ (ms0_5 t) _ (ms0_6 t) _ (ms0_7 t) _ (ms0_8 t) _ (ms0_9 t) _ (ms0_10 t) _ (ms0_11 t) _ (ms0_12 t) _ (ms0_13 t) _ scM0_0 _ scM0_1 _ scM0_2 _ scM0_3 _ scM0_4 _ _ _ _ _ _ _ _ _ _ _ _ s d).trans ?_
  rw [first_at]
  exact state_of _ _ d _ _ _ _ _ _ (fun s => decays m c t _ _ s d) (fun s => inputs m c t _ _ s d)

end Cert.RnnSCells

end
-- ==== Proof.RnnSMat.lean ====
/- The sample's recurrence: the gates' matrices as the host builds them. -/
module

public import proofs.«01_k».proof.Proof.RnnForm
public import proofs.«01_k».proof.Proof.Gen.RnnSIdeal.Frame
public import Idealize.ShloMosaic.Lib.Pointwise
public import Idealize.ShloMosaic.Lib.Pipeline.ValueKit
public import Idealize.ShloMosaic.Init

@[expose] public section

set_option maxRecDepth 16384

noncomputable section

namespace Cert.RnnSMat

open Idealize.ShloMosaic Idealize.ShloMosaic.TcCoe Idealize.SL.Sem Cert.RnnSIdeal Cert.RnnSIdeal.Gen Cert.RnnForm

variable (m : (ℓ : Loc nD τ sig) → Buf (Elt Ideal) ℓ)

/-- The comparison of 16 row numbers with 16 column numbers. -/
def same : IVec S16x16 1 := cmpi .eq (addi (iotaInDim S16x16 32 0) (broadcastInDim S16x16 ![] bcast_S_S16x16 (constantI S_ 32 0#32))) (iotaInDim S16x16 32 1)

theorem same_at (i j : Fin 16) : same (ix2 i j) = if i = j then 1#1 else 0#1 := by
  revert i j; decide +kernel

/-- The 1024 by 1024 matrix of 16 blocks: the comparison times each block, the axes joined. -/
def mat (w : Vec Ideal S16x64x64 .f32) : Vec Ideal S1024x1024 .bf16 :=
  truncf .bf16 (shapeCast S1024x1024
    (mulf (broadcastInDim S16x64x16x64 ![0, 1, 2, 3] bcast_S16x1x16x1_S16x64x16x64_0_1_2_3
        (broadcastInDim S16x1x16x1 ![0, 2] bcast_S16x16_S16x1x16x1_0_2 (uitofp (F := Ideal) .f32 same)))
      (broadcastInDim S16x64x16x64 ![0, 1, 2, 3] bcast_S16x64x1x64_S16x64x16x64_0_1_2_3
        (broadcastInDim S16x64x1x64 ![0, 1, 3] bcast_S16x64x64_S16x64x1x64_0_1_3 w)))
    shapeCasts_S16x64x16x64_S1024x1024) bitsLt_bf16_f32

/-- Both matrices are of that form. -/
theorem V_decay (c : Dev nD) : V m c main_v13 = mat (m ((c : Thread nD τ).loc main_arg4)) := by
  unfold Gen.V; after_results; rfl
theorem V_input (c : Dev nD) : V m c main_v27 = mat (m ((c : Thread nD τ).loc main_arg6)) := by
  unfold Gen.V; after_results; rfl

/-- An entry of the matrix. -/
theorem mat_at (w : Vec Ideal S16x64x64 .f32) (k d : Fin 1024) : mat w (ix2 k d) = diag (fun n k d => w (ix3 n k d)) k d := by
  pointwise [mat, same_at, diag]
  by_cases h : k.val / 64 = d.val / 64
  · rw [if_pos h, if_pos (Fin.ext h)]
    refine congrArg (· * _) ?_
    show (((1#1 : BitVec 1).toNat : ℝ) : EReal) = 1
    simp
  · rw [if_neg h, if_neg fun e => h (congrArg Fin.val e)]
    refine congrArg (· * _) ?_
    show (((0#1 : BitVec 1).toNat : ℝ) : EReal) = 0
    simp

/-- The rows the region reads are the arguments reshaped. -/
theorem V_cb (c : Dev nD) : V m c main_v0 = shapeCast S1x1024 (m ((c : Thread nD τ).loc main_arg3)) shapeCasts_S1024_S1x1024 := by
  unfold Gen.V; after_results; rfl
theorem V_ba (c : Dev nD) : V m c main_v14 = shapeCast S1x1024 (m ((c : Thread nD τ).loc main_arg5)) shapeCasts_S16x64_S1x1024 := by
  unfold Gen.V; after_results; rfl
theorem V_bx (c : Dev nD) : V m c main_v28 = shapeCast S1x1024 (m ((c : Thread nD τ).loc main_arg7)) shapeCasts_S16x64_S1x1024 := by
  unfold Gen.V; after_results; rfl
theorem V_lam (c : Dev nD) : V m c main_v29 = shapeCast S1x1024 (m ((c : Thread nD τ).loc main_arg8)) shapeCasts_S1024_S1x1024 := by
  unfold Gen.V; after_results; rfl

/-- A row of 16 by 64 entries, read flat. -/
theorem flat_at (x : Vec Ideal S16x64 .f32) (d : Fin 1024) :
    shapeCast S1x1024 x shapeCasts_S16x64_S1x1024 (ix2 0 d) = x (ix2 ⟨d.val / 64, by omega⟩ ⟨d.val % 64, by omega⟩) := by
  pointwise
theorem row_at (x : Vec Ideal S1024 .f32) (d : Fin 1024) : shapeCast S1x1024 x shapeCasts_S1024_S1x1024 (ix2 0 d) = x (ix1 d) := by
  pointwise

end Cert.RnnSMat

end
-- ==== Proof.RnnSRef.lean ====
/- The sample's recurrence: the reference's values read at one element. -/
module

public import proofs.«01_k».proof.Proof.RnnForm
public import proofs.«01_k».proof.Proof.Gen.RnnSRefIdeal.Read
public import Idealize.ShloMosaic.Lib.Pointwise
public import Idealize.ShloMosaic.Lib.Pipeline.ValueKit
public import Idealize.ShloMosaic.Init

@[expose] public section

set_option maxRecDepth 16384

noncomputable section

namespace Cert.RnnSRef

open Idealize.ShloMosaic Cert.RnnGate Cert.RnnForm RnnSRefIdeal RnnSRefIdeal.Read

variable (x0 : Vec Ideal S8x16x1024 .f32) (x2 : Vec Ideal S4x1024 .f32) (x3 : Vec Ideal S1024 .f32)
  (x4 : Vec Ideal S16x64x64 .f32) (x5 : Vec Ideal S16x64 .f32) (x6 : Vec Ideal S16x64x64 .f32) (x7 : Vec Ideal S16x64 .f32)
  (x8 : Vec Ideal S1024 .f32) (x9 : Vec Ideal S8x1x1024 .f32) (x10 : Vec Ideal S8x3x1024 .f32)
  (b : Fin 8) (s : Fin 16) (d : Fin 1024)

/-- A sequence's rows, those kept from before, the filter's rows and a row, as plain functions. -/
abbrev rowsOf (x : Vec Ideal S8x16x1024 .f32) (b : Fin 8) : Fin 16 → Fin 1024 → EReal := fun s d => x (ix3 b s d)
abbrev keptOf (x : Vec Ideal S8x3x1024 .f32) (b : Fin 8) : Fin 3 → Fin 1024 → EReal := fun s d => x (ix3 b s d)
abbrev filter (x : Vec Ideal S4x1024 .f32) : Fin 4 → Fin 1024 → EReal := fun s d => x (ix2 s d)
abbrev single (x : Vec Ideal S1024 .f32) : Fin 1024 → EReal := fun d => x (ix1 d)
/-- A gate's 16 blocks and its bias. -/
abbrev blocks (x : Vec Ideal S16x64x64 .f32) : Fin 16 → Fin 64 → Fin 64 → EReal := fun n k d => x (ix3 n k d)
abbrev flat (x : Vec Ideal S16x64 .f32) : Fin 1024 → EReal := fun d => x (ix2 ⟨d.val / 64, by omega⟩ ⟨d.val % 64, by omega⟩)

/-- The convolved rows of sequence `b`. -/
def X : Fin 16 → Fin 1024 → EReal := conv (keptOf x10 b) (rowsOf x0 b) (filter x2) (single x3)

/-- The state of channel `d` of sequence `b` before step `n`. -/
def S (n : ℕ) : EReal :=
  state (single x8 d) (fun s => arg (X x0 x2 x3 x10 b) (diag (blocks x4)) (flat x5) s d)
    (fun s => arg (X x0 x2 x3 x10 b) (diag (blocks x6)) (flat x7) s d) (fun s => X x0 x2 x3 x10 b s d) (x9 (ix3 b 0 d)) n

/-- The kept rows and the sequence's in one array. -/
theorem rows_at (n : Fin 19) : val_main_v3 x0 x10 (ix3 b n d) = row (keptOf x10 b) (rowsOf x0 b) n.val d := by
  unfold val_main_v3 row
  by_cases h : n.val < 3
  · rw [dif_pos h]
    exact concatenate_pair_apply_left (t := S8x19x1024) (s₁ := S8x3x1024) (s₂ := S8x16x1024) 1 x10 x0 _ (ix3 b n d) rfl (ix3 b ⟨n.val, h⟩ d)
      fun a => match a with | ⟨0, _⟩ => rfl | ⟨1, _⟩ => rfl | ⟨2, _⟩ => rfl
  · rw [dif_neg h, dif_pos n.isLt]
    refine concatenate_pair_apply_right (t := S8x19x1024) (s₁ := S8x3x1024) (s₂ := S8x16x1024) 1 x10 x0 _ (ix3 b n d) rfl rfl (ix3 b ⟨n.val - 3, by omega⟩ d)
      (fun a => match a with | ⟨0, _⟩ => fun _ => rfl | ⟨1, _⟩ => fun ha => absurd rfl ha | ⟨2, _⟩ => fun _ => rfl) ?_
    show n.val - 3 + 3 = n.val
    omega

theorem conv_at : val_main_v33 x0 x2 x3 x10 (ix3 b s d) = X x0 x2 x3 x10 b s d := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, rows_at]
  rw [Nat.add_comm 1 s.val, Nat.add_comm 2 s.val, Nat.add_comm 3 s.val]
  rfl

theorem decay_gate : val_main_v48 x0 x2 x3 x4 x5 x10 (ix3 b s d) = Ideal.logistic (arg (X x0 x2 x3 x10 b) (diag (blocks x4)) (flat x5) s d) := by
  rw [arg_diag]
  pointwise [val_main_v48, val_main_v47, val_main_v46, val_main_cst_1, val_main_v45, val_main_v44, val_main_cst, val_main_v43, val_main_v42, val_main_v41, val_main_v40, val_main_v39, val_main_v38, val_main_v37, val_main_v36, conv_at]
  rfl

theorem input_gate : val_main_v60 x0 x2 x3 x6 x7 x10 (ix3 b s d) = Ideal.logistic (arg (X x0 x2 x3 x10 b) (diag (blocks x6)) (flat x7) s d) := by
  rw [arg_diag]
  pointwise [val_main_v60, val_main_v59, val_main_v58, val_main_cst_3, val_main_v57, val_main_v56, val_main_cst_2, val_main_v55, val_main_v54, val_main_v53, val_main_v52, val_main_v51, val_main_v50, val_main_v49, val_main_v36, conv_at]
  rfl

theorem soft : val_main_v62 x8 (ix1 d) = plus (-(single x8 d)) := by
  pointwise [val_main_v62, val_main_call0_v4, val_main_call0_v6, val_main_call0_v11, val_main_call0_v10, val_main_call0_v9, val_main_call0_v8, val_main_call0_v7, val_main_call0_v5, val_main_call0_v3, val_main_call0_v2, val_main_call0_v1, val_main_call0_v0, val_main_call0_cst, val_main_v61]
  rw [if_neg (not_not.mpr rfl)]
  rfl

theorem neg_eight : Ideal.ofBits .f32 0xC1000000#32 = -8 := by
  have e : (-8 : EReal) = ((-(8 : ℝ) : ℝ) : EReal) := rfl
  rw [e]
  simp [Ideal.ofBits, Ideal.ieee, -EReal.coe_mul, -EReal.coe_neg]; norm_num

theorem two : Ideal.ofBits .f32 0x40000000#32 = 2 := by
  have e : (2 : EReal) = ((2 : ℝ) : EReal) := rfl
  rw [e]
  simp [Ideal.ofBits, Ideal.ieee, -EReal.coe_mul, -EReal.coe_neg]; try norm_num

theorem expo_at : val_main_v67 x0 x2 x3 x4 x5 x8 x10 (ix3 b s d)
    = expo (single x8 d) (arg (X x0 x2 x3 x10 b) (diag (blocks x4)) (flat x5) s d) := by
  pointwise [val_main_v67, val_main_v66, val_main_v65, val_main_v64, val_main_v63, val_main_cst_4, soft, decay_gate, neg_eight]
  rfl

/-- No step is the first of its sequence. -/
theorem going : val_main_v35 (F := Ideal) (ix1 s) = 0#1 := by
  revert s; decide +kernel

theorem decay_at : val_main_v70 x0 x2 x3 x4 x5 x8 x10 (ix3 b s d)
    = Ideal.exp (expo (single x8 d) (arg (X x0 x2 x3 x10 b) (diag (blocks x4)) (flat x5) s d)) := by
  pointwise [val_main_v70, val_main_call1_v1, val_main_v68, going, val_main_v69, expo_at]

theorem input_at : val_main_v78 x0 x2 x3 x4 x5 x6 x7 x8 x10 (ix3 b s d)
    = weight (expo (single x8 d) (arg (X x0 x2 x3 x10 b) (diag (blocks x4)) (flat x5) s d))
      * (Ideal.logistic (arg (X x0 x2 x3 x10 b) (diag (blocks x6)) (flat x7) s d) * X x0 x2 x3 x10 b s d) := by
  pointwise [val_main_v78, val_main_v77, val_main_v76, val_main_call2_v1, val_main_v68, going, val_main_v75, val_main_v74, val_main_v73, val_main_v72, val_main_v71, val_main_cst_6, two, expo_at, input_gate, conv_at]
  rfl

/-- A step's slice of an array of all steps. -/
theorem slices (n : Fin 16) : S8x16x1024.Slices ![0, n.val, 0] S8x1x1024 := by
  revert n; decide +kernel

/-- One step, from the array of decays, that of inputs and the state before. -/
def next (n : Fin 16) (A B : FVec Ideal S8x16x1024 .f32) (h : FVec Ideal S8x1x1024 .f32) : FVec Ideal S8x1x1024 .f32 :=
  addf (mulf (extractStridedSlice S8x1x1024 ![0, n.val, 0] A (slices n)) h) (extractStridedSlice S8x1x1024 ![0, n.val, 0] B (slices n))

/-- The states, one after the other. -/
def chain (A B : FVec Ideal S8x16x1024 .f32) (h : FVec Ideal S8x1x1024 .f32) : (n : ℕ) → n ≤ 16 → FVec Ideal S8x1x1024 .f32
  | 0, _ => h
  | n + 1, l => next ⟨n, l⟩ A B (chain A B h n (Nat.le_of_succ_le l))

theorem slice_at (n : Fin 16) (A : FVec Ideal S8x16x1024 .f32) :
    extractStridedSlice S8x1x1024 ![0, n.val, 0] A (slices n) (ix3 b 0 d) = A (ix3 b n d) :=
  extractStridedSlice_apply _ A (slices n) _ _ fun a => match a with | ⟨0, _⟩ => (Nat.zero_add _).symm | ⟨1, _⟩ => rfl | ⟨2, _⟩ => (Nat.zero_add _).symm

theorem chain_at (n : ℕ) (l : n ≤ 16) :
    chain (val_main_v70 x0 x2 x3 x4 x5 x8 x10) (val_main_v78 x0 x2 x3 x4 x5 x6 x7 x8 x10) x9 n l (ix3 b 0 d) = S x0 x2 x3 x4 x5 x6 x7 x8 x9 x10 b d n := by
  induction n with
  | zero => rfl
  | succ n ih =>
    have e : chain (val_main_v70 x0 x2 x3 x4 x5 x8 x10) (val_main_v78 x0 x2 x3 x4 x5 x6 x7 x8 x10) x9 (n + 1) l (ix3 b 0 d)
      = extractStridedSlice S8x1x1024 ![0, n, 0] (val_main_v70 x0 x2 x3 x4 x5 x8 x10) (slices ⟨n, l⟩) (ix3 b 0 d)
          * chain (val_main_v70 x0 x2 x3 x4 x5 x8 x10) (val_main_v78 x0 x2 x3 x4 x5 x6 x7 x8 x10) x9 n (Nat.le_of_succ_le l) (ix3 b 0 d)
        + extractStridedSlice S8x1x1024 ![0, n, 0] (val_main_v78 x0 x2 x3 x4 x5 x6 x7 x8 x10) (slices ⟨n, l⟩) (ix3 b 0 d) := rfl
    rw [e, ih, slice_at b d ⟨n, l⟩, slice_at b d ⟨n, l⟩, decay_at, input_at]
    unfold S state
    rw [lin]
    rw [seq_of _ ⟨n, l⟩, seq_of _ ⟨n, l⟩]

/-- The state after the last step. -/
theorem last_at : val_main_v142 x0 x2 x3 x4 x5 x6 x7 x8 x9 x10 (ix3 b 0 d) = S x0 x2 x3 x4 x5 x6 x7 x8 x9 x10 b d 16 :=
  (congrFun (show val_main_v142 x0 x2 x3 x4 x5 x6 x7 x8 x9 x10
    = chain (val_main_v70 x0 x2 x3 x4 x5 x8 x10) (val_main_v78 x0 x2 x3 x4 x5 x6 x7 x8 x10) x9 16 (le_refl _) from rfl) _).trans (chain_at _ _ _ _ _ _ _ _ _ _ b d 16 _)

/-- The states of all steps in one array. -/
theorem states_at : val_main_v143 x0 x2 x3 x4 x5 x6 x7 x8 x9 x10 (ix3 b s d) = S x0 x2 x3 x4 x5 x6 x7 x8 x9 x10 b d (s.val + 1) := by
  unfold val_main_v143
  refine concatenate_ofFn_unit_eq (t := S8x16x1024) (s₁ := S8x1x1024) 1
    (fun n : Fin 16 => chain (val_main_v70 x0 x2 x3 x4 x5 x8 x10) (val_main_v78 x0 x2 x3 x4 x5 x6 x7 x8 x10) x9 (n.val + 1) n.isLt)
    _ (ix3 b s d) _ rfl rfl fun n i hn h0 hb => ?_
  have e : i = ix3 b 0 d := funext fun a => Fin.ext (match a with | ⟨0, _⟩ => hb 0 (by decide) | ⟨1, _⟩ => h0 | ⟨2, _⟩ => hb 2 (by decide))
  have en : s.val = n.val := hn
  rw [e, chain_at, en]

/-- The first result: the states weighted by the other operand. -/
theorem out_at (x1 : Vec Ideal S8x16x1024 .bf16) : val_main_v146 x0 x1 x2 x3 x4 x5 x6 x7 x8 x9 x10 (ix3 b s d)
    = S x0 x2 x3 x4 x5 x6 x7 x8 x9 x10 b d (s.val + 1) * x1 (ix3 b s d) := by
  pointwise [val_main_v146, val_main_v145, val_main_v144, states_at]

/-- The third: the last three rows. -/
theorem tail_at (k : Fin 3) : val_main_v147 x0 x10 (ix3 b k d) = row (keptOf x10 b) (rowsOf x0 b) (16 + k.val) d := by
  pointwise [val_main_v147, rows_at]

end Cert.RnnSRef

end
-- ==== Proof.RnnSValue.lean ====
/- The sample's recurrence: the kernel's result arrays, element by element, and the claim that they are the reference's. -/
module

public import proofs.«01_k».proof.Defs
public import proofs.«01_k».proof.Proof.RnnSCells
public import proofs.«01_k».proof.Proof.RnnSMat
public import proofs.«01_k».proof.Proof.RnnSRef
public import Idealize.ShloMosaic.Lib.Pipeline.ValueKit
public import Idealize.ShloMosaic.Init

@[expose] public section

set_option maxRecDepth 16384

noncomputable section

namespace Cert.RnnSValue

open Idealize.ShloMosaic Idealize.ShloMosaic.TcCoe Idealize.ShloMosaic.StableHlo Idealize.SL.Sem Cert.RnnSIdeal Cert.RnnSIdeal.Gen Cert.RnnForm

variable (m : (ℓ : Loc nD τ sig) → Buf (Elt Ideal) ℓ) (ρ : Dev nD → PrngReg)

/-- The sequence a point works on. -/
def seqAt (t : Fin cfg0.N) : Fin 8 := ⟨t.val, lt_of_lt_of_eq t.isLt (by decide)⟩

/-- Which blocks the grid's points name, over the operands cut by sequence … -/
theorem idx_seq : ∀ t : Fin grid0.N, (win0_0.index t 0 = t.val ∧ win0_0.index t 1 = 0 ∧ win0_0.index t 2 = 0)
    ∧ (win0_1.index t 0 = t.val ∧ win0_1.index t 1 = 0 ∧ win0_1.index t 2 = 0)
    ∧ (win0_9.index t 0 = t.val ∧ win0_9.index t 1 = 0 ∧ win0_9.index t 2 = 0)
    ∧ (win0_10.index t 0 = t.val ∧ win0_10.index t 1 = 0 ∧ win0_10.index t 2 = 0) := by decide +kernel

/-- … over those read whole … -/
theorem idx_whole : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) := by decide +kernel

/-- … and over the results. -/
theorem idx_out : ∀ t : Fin grid0.N, (win0_11.index t 0 = t.val ∧ win0_11.index t 1 = 0 ∧ win0_11.index t 2 = 0)
    ∧ (win0_12.index t 0 = t.val ∧ win0_12.index t 1 = 0 ∧ win0_12.index t 2 = 0)
    ∧ (win0_13.index t 0 = t.val ∧ win0_13.index t 1 = 0 ∧ win0_13.index t 2 = 0) := by decide +kernel

/-- A sequence's rows, read in the argument. -/
theorem blk_0 (c : Dev nD) (t : Fin cfg0.N) (k : Fin 16) (d : Fin 1024) :
    iblk m c 0 t (ix3 0 k d) = m ((c : Thread nD τ).loc main_arg0) (ix3 (seqAt t) k d) := by
  obtain ⟨⟨e0, e1, e2⟩, -⟩ := idx_seq t
  blk_simp [iblk]
  rw [V_main_arg0]
  refine congrArg _ (funext fun a => Fin.ext ?_)
  match a with
  | ⟨0, _⟩ => blk_simp [e0, seqAt]; rfl
  | ⟨1, _⟩ => blk_simp [e1]
  | ⟨2, _⟩ => blk_simp [e2]

/-- The other operand's rows, read in the argument. -/
theorem blk_1 (c : Dev nD) (t : Fin cfg0.N) (k : Fin 16) (d : Fin 1024) :
    iblk m c 1 t (ix3 0 k d) = m ((c : Thread nD τ).loc main_arg1) (ix3 (seqAt t) k d) := by
  obtain ⟨-, ⟨e0, e1, e2⟩, -⟩ := idx_seq t
  blk_simp [iblk]
  rw [V_main_arg1]
  refine congrArg _ (funext fun a => Fin.ext ?_)
  match a with
  | ⟨0, _⟩ => blk_simp [e0, seqAt]; rfl
  | ⟨1, _⟩ => blk_simp [e1]
  | ⟨2, _⟩ => blk_simp [e2]

/-- A sequence's first state, read in the argument. -/
theorem blk_9 (c : Dev nD) (t : Fin cfg0.N) (d : Fin 1024) :
    iblk m c 9 t (ix3 0 0 d) = m ((c : Thread nD τ).loc main_arg9) (ix3 (seqAt t) 0 d) := by
  obtain ⟨-, -, ⟨e0, e1, e2⟩, -⟩ := idx_seq t
  blk_simp [iblk]
  rw [V_main_arg9]
  refine congrArg _ (funext fun a => Fin.ext ?_)
  match a with
  | ⟨0, _⟩ => blk_simp [e0, seqAt]; rfl
  | ⟨1, _⟩ => blk_simp [e1]
  | ⟨2, _⟩ => blk_simp [e2]

/-- The kept rows, read in the argument. -/
theorem blk_10 (c : Dev nD) (t : Fin cfg0.N) (k : Fin 3) (d : Fin 1024) :
    iblk m c 10 t (ix3 0 k d) = m ((c : Thread nD τ).loc main_arg10) (ix3 (seqAt t) k d) := by
  obtain ⟨-, -, -, e0, e1, e2⟩ := idx_seq t
  blk_simp [iblk]
  rw [V_main_arg10]
  refine congrArg _ (funext fun a => Fin.ext ?_)
  match a with
  | ⟨0, _⟩ => blk_simp [e0, seqAt]; rfl
  | ⟨1, _⟩ => blk_simp [e1]
  | ⟨2, _⟩ => blk_simp [e2]

/-- The filter's rows, read in the argument. -/
theorem blk_2 (c : Dev nD) (t : Fin cfg0.N) (k : Fin 4) (d : Fin 1024) :
    iblk m c 2 t (ix2 k d) = m ((c : Thread nD τ).loc main_arg2) (ix2 k d) := by
  obtain ⟨⟨e0, e1⟩, -⟩ := idx_whole t
  blk_simp [iblk]
  rw [V_main_arg2]
  refine congrArg _ (funext fun a => Fin.ext ?_)
  match a with
  | ⟨0, _⟩ => blk_simp [e0]
  | ⟨1, _⟩ => blk_simp [e1]

/-- The filter's bias, read in the argument. -/
theorem blk_3 (c : Dev nD) (t : Fin cfg0.N) (d : Fin 1024) : iblk m c 3 t (ix2 0 d) = m ((c : Thread nD τ).loc main_arg3) (ix1 d) := by
  obtain ⟨-, ⟨e0, e1⟩, -⟩ := idx_whole t
  blk_simp [iblk]
  rw [RnnSMat.V_cb]
  have h : (win0_3.blk t).view.emb (ix2 0 d) = ix2 0 d := funext fun a => Fin.ext (by
    match a with
    | ⟨0, _⟩ => blk_simp [e0]
    | ⟨1, _⟩ => blk_simp [e1])
  rw [h]
  exact RnnSMat.row_at _ d

/-- The decay gate's matrix, of its blocks. -/
theorem blk_4 (c : Dev nD) (t : Fin cfg0.N) (k d : Fin 1024) : iblk m c 4 t (ix2 k d) = diag (RnnSRef.blocks (m ((c : Thread nD τ).loc main_arg4))) k d := by
  obtain ⟨-, -, ⟨e0, e1⟩, -⟩ := idx_whole t
  blk_simp [iblk]
  rw [RnnSMat.V_decay]
  have h : (win0_4.blk t).view.emb (ix2 k d) = ix2 k d := funext fun a => Fin.ext (by
    match a with
    | ⟨0, _⟩ => blk_simp [e0]
    | ⟨1, _⟩ => blk_simp [e1])
  rw [h]
  exact RnnSMat.mat_at _ k d

/-- The decay gate's bias, read in the argument. -/
theorem blk_5 (c : Dev nD) (t : Fin cfg0.N) (d : Fin 1024) : iblk m c 5 t (ix2 0 d) = RnnSRef.flat (m ((c : Thread nD τ).loc main_arg5)) d := by
  obtain ⟨-, -, -, ⟨e0, e1⟩, -⟩ := idx_whole t
  blk_simp [iblk]
  rw [RnnSMat.V_ba]
  have h : (win0_5.blk t).view.emb (ix2 0 d) = ix2 0 d := funext fun a => Fin.ext (by
    match a with
    | ⟨0, _⟩ => blk_simp [e0]
    | ⟨1, _⟩ => blk_simp [e1])
  rw [h]
  exact RnnSMat.flat_at _ d

/-- The input gate's matrix, of its blocks. -/
theorem blk_6 (c : Dev nD) (t : Fin cfg0.N) (k d : Fin 1024) : iblk m c 6 t (ix2 k d) = diag (RnnSRef.blocks (m ((c : Thread nD τ).loc main_arg6))) k d := by
  obtain ⟨-, -, -, -, ⟨e0, e1⟩, -⟩ := idx_whole t
  blk_simp [iblk]
  rw [RnnSMat.V_input]
  have h : (win0_6.blk t).view.emb (ix2 k d) = ix2 k d := funext fun a => Fin.ext (by
    match a with
    | ⟨0, _⟩ => blk_simp [e0]
    | ⟨1, _⟩ => blk_simp [e1])
  rw [h]
  exact RnnSMat.mat_at _ k d

/-- The input gate's bias, read in the argument. -/
theorem blk_7 (c : Dev nD) (t : Fin cfg0.N) (d : Fin 1024) : iblk m c 7 t (ix2 0 d) = RnnSRef.flat (m ((c : Thread nD τ).loc main_arg7)) d := by
  obtain ⟨-, -, -, -, -, ⟨e0, e1⟩, -⟩ := idx_whole t
  blk_simp [iblk]
  rw [RnnSMat.V_bx]
  have h : (win0_7.blk t).view.emb (ix2 0 d) = ix2 0 d := funext fun a => Fin.ext (by
    match a with
    | ⟨0, _⟩ => blk_simp [e0]
    | ⟨1, _⟩ => blk_simp [e1])
  rw [h]
  exact RnnSMat.flat_at _ d

/-- The channels' parameter, read in the argument. -/
theorem blk_8 (c : Dev nD) (t : Fin cfg0.N) (d : Fin 1024) : iblk m c 8 t (ix2 0 d) = m ((c : Thread nD τ).loc main_arg8) (ix1 d) := by
  obtain ⟨-, -, -, -, -, -, e0, e1⟩ := idx_whole t
  blk_simp [iblk]
  rw [RnnSMat.V_lam]
  have h : (win0_8.blk t).view.emb (ix2 0 d) = ix2 0 d := funext fun a => Fin.ext (by
    match a with
    | ⟨0, _⟩ => blk_simp [e0]
    | ⟨1, _⟩ => blk_simp [e1])
  rw [h]
  exact RnnSMat.row_at _ d

/-! The blocks as plain functions. -/

theorem whole_0 (c : Dev nD) (t : Fin cfg0.N) : RnnSCells.rows16 (iblk m c 0 t) = RnnSRef.rowsOf (m ((c : Thread nD τ).loc main_arg0)) (seqAt t) :=
  funext fun k => funext fun d => blk_0 m c t k d
theorem whole_10 (c : Dev nD) (t : Fin cfg0.N) : RnnSCells.rows3 (iblk m c 10 t) = RnnSRef.keptOf (m ((c : Thread nD τ).loc main_arg10)) (seqAt t) :=
  funext fun k => funext fun d => blk_10 m c t k d
theorem whole_2 (c : Dev nD) (t : Fin cfg0.N) : RnnSCells.rows4 (iblk m c 2 t) = RnnSRef.filter (m ((c : Thread nD τ).loc main_arg2)) :=
  funext fun k => funext fun d => blk_2 m c t k d
theorem whole_3 (c : Dev nD) (t : Fin cfg0.N) : RnnSCells.row1 (iblk m c 3 t) = RnnSRef.single (m ((c : Thread nD τ).loc main_arg3)) :=
  funext fun k => blk_3 m c t k
theorem whole_4 (c : Dev nD) (t : Fin cfg0.N) : RnnSCells.square (iblk m c 4 t) = diag (RnnSRef.blocks (m ((c : Thread nD τ).loc main_arg4))) :=
  funext fun k => funext fun d => blk_4 m c t k d
theorem whole_5 (c : Dev nD) (t : Fin cfg0.N) : RnnSCells.row1 (iblk m c 5 t) = RnnSRef.flat (m ((c : Thread nD τ).loc main_arg5)) :=
  funext fun k => blk_5 m c t k
theorem whole_6 (c : Dev nD) (t : Fin cfg0.N) : RnnSCells.square (iblk m c 6 t) = diag (RnnSRef.blocks (m ((c : Thread nD τ).loc main_arg6))) :=
  funext fun k => funext fun d => blk_6 m c t k d
theorem whole_7 (c : Dev nD) (t : Fin cfg0.N) : RnnSCells.row1 (iblk m c 7 t) = RnnSRef.flat (m ((c : Thread nD τ).loc main_arg7)) :=
  funext fun k => blk_7 m c t k
theorem whole_8 (c : Dev nD) (t : Fin cfg0.N) : RnnSCells.row1 (iblk m c 8 t) = RnnSRef.single (m ((c : Thread nD τ).loc main_arg8)) :=
  funext fun k => blk_8 m c t k

/-- A point's convolved rows are its sequence's. -/
theorem X_eq (c : Dev nD) (t : Fin cfg0.N) : RnnSCells.X m c t = RnnSRef.X (m ((c : Thread nD τ).loc main_arg0)) (m ((c : Thread nD τ).loc main_arg2)) (m ((c : Thread nD τ).loc main_arg3)) (m ((c : Thread nD τ).loc main_arg10)) (seqAt t) := by
  unfold RnnSCells.X RnnSRef.X
  rw [whole_0, whole_2, whole_3, whole_10]

/-- A point's states are its sequence's. -/
theorem S_eq (c : Dev nD) (t : Fin cfg0.N) (d : Fin 1024) (n : ℕ) :
    RnnSCells.S m c t d n = RnnSRef.S (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (seqAt t) d n := by
  unfold RnnSCells.S RnnSRef.S
  rw [X_eq, whole_4, whole_5, whole_6, whole_7, whole_8, blk_9]

/-! What a point leaves for each output. -/

theorem left_11 (c : Dev nD) (t : Fin cfg0.N) (s : Fin 16) (d : Fin 1024) :
    (outsAt0 m c t).1 (ix3 0 s d) = RnnSCells.S m c t d (s.val + 1) * iblk m c 1 t (ix3 0 s d) := by
  unfold outsAt0; dsimp only; exact RnnSCells.out11_at m c t s d
theorem left_12 (c : Dev nD) (t : Fin cfg0.N) (d : Fin 1024) : (outsAt0 m c t).2.1 (ix3 0 0 d) = RnnSCells.S m c t d 16 := by
  unfold outsAt0; dsimp only; exact RnnSCells.out12_at m c t d
theorem left_13 (c : Dev nD) (t : Fin cfg0.N) (k : Fin 3) (d : Fin 1024) :
    (outsAt0 m c t).2.2 (ix3 0 k d) = row (RnnSCells.rows3 (iblk m c 10 t)) (RnnSCells.rows16 (iblk m c 0 t)) (16 + k.val) d := by
  unfold outsAt0; dsimp only; exact RnnSCells.out13_at m c t k d

/-- The result array of window 11, filled sequence by sequence. -/
theorem final_11 (c : Dev nD) : (dats m 0 c).arrAt 11 cfg0.N = RnnSRefIdeal.Read.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp
  rw [after0_11]
  idx_vars y
  have h : ((View.whole main_v30_0).slice (win0_11.rect t)).emb (ix3 y0 y1 y2) = ix3 (seqAt t) y1 y2 := funext fun a => Fin.ext (by
    match a with
    | ⟨0, _⟩ => blk_simp [idx_out, seqAt]; try rfl
    | ⟨1, _⟩ => blk_simp [idx_out]
    | ⟨2, _⟩ => blk_simp [idx_out])
  have e0 : y0 = 0 := Subsingleton.elim _ _
  subst e0
  rw [h, RnnSRef.out_at, left_11, S_eq, blk_1]

/-- The result array of window 12, filled sequence by sequence. -/
theorem final_12 (c : Dev nD) : (dats m 0 c).arrAt 12 cfg0.N = RnnSRefIdeal.Read.val_main_v142 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  blk_simp
  rw [after0_12]
  idx_vars y
  have h : ((View.whole main_v30_1).slice (win0_12.rect t)).emb (ix3 y0 y1 y2) = ix3 (seqAt t) y1 y2 := funext fun a => Fin.ext (by
    match a with
    | ⟨0, _⟩ => blk_simp [idx_out, seqAt]; try rfl
    | ⟨1, _⟩ => blk_simp [idx_out]
    | ⟨2, _⟩ => blk_simp [idx_out])
  have e0 : y0 = 0 := Subsingleton.elim _ _
  have e1 : y1 = 0 := Subsingleton.elim _ _
  subst e0 e1
  rw [h, RnnSRef.last_at, left_12]
  exact S_eq m c t y2 16

/-- The result array of window 13, filled sequence by sequence. -/
theorem final_13 (c : Dev nD) : (dats m 0 c).arrAt 13 cfg0.N = RnnSRefIdeal.Read.val_main_v147 (F := Ideal) (m ((c : Thread nD τ).loc main_arg0)) (m ((c : Thread nD τ).loc main_arg10)) := by
  refine (dats m 0 c).arrAt_eq_of_covers 13 _ (by decide +kernel) fun t hf y => ?_
  blk_simp
  rw [after0_13]
  idx_vars y
  have h : ((View.whole main_v30_2).slice (win0_13.rect t)).emb (ix3 y0 y1 y2) = ix3 (seqAt t) y1 y2 := funext fun a => Fin.ext (by
    match a with
    | ⟨0, _⟩ => blk_simp [idx_out, seqAt]; try rfl
    | ⟨1, _⟩ => blk_simp [idx_out]
    | ⟨2, _⟩ => blk_simp [idx_out])
  have e0 : y0 = 0 := Subsingleton.elim _ _
  subst e0
  rw [h, RnnSRef.tail_at, left_13, whole_0, whole_10]

/-- The launch: each result array as the bookkeeping says, the arguments unchanged. -/
theorem run_blocks : θ_run defs (onTc (τ := τ) (main (F := Ideal))) ⟨m, fun _ => 0, ρ⟩ (fun r => ∀ c : Dev nD,
      r.2.mem ((c.tc : Thread nD τ).loc main_v30_0) = (dats m 0 c).arrAt 11 cfg0.N
      ∧ r.2.mem ((c.tc : Thread nD τ).loc main_v30_1) = (dats m 0 c).arrAt 12 cfg0.N
      ∧ r.2.mem ((c.tc : Thread nD τ).loc main_v30_2) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h.1 c).1 11, (h.1 c).1 12, (h.1 c).1 13, h.2 c⟩) (θ_run_and (run_main m ρ) (unchanged m ρ))

/-- The reference leaves its arguments as they were. -/
theorem frame_ref : Cert.quiescent_RnnSRefIdeal := fun m ρ _ =>
  (θ_run Cert.RnnSRefIdeal.defs _ _).mono
    (fun r h => ⟨fun c => by obtain ⟨-, -, -, h⟩ := h c; exact h,
      Idealize.ShloMosaic.sem_eq_zero_of_no_sems (by decide) r.2⟩)
    (Cert.RnnSRefIdeal.Value.run (F := Ideal) m ρ)

/-- The kernel's three results are the reference's. -/
theorem algebraic : Cert.algebraic_RnnSIdeal_RnnSRefIdeal := by
  intro m ρ m' ρ' _ hagree
  refine ⟨fun c => (RnnSIdeal.Gen.dats m 0 c).arrAt 11 RnnSIdeal.cfg0.N, fun c => (RnnSIdeal.Gen.dats m 0 c).arrAt 12 RnnSIdeal.cfg0.N, fun c => (RnnSIdeal.Gen.dats m 0 c).arrAt 13 RnnSIdeal.cfg0.N,
    run_blocks m ρ, ?_⟩
  refine (θ_run Cert.RnnSRefIdeal.defs _ _).mono (fun _ h c => ?_) (Cert.RnnSRefIdeal.Value.run (F := Ideal) m' ρ')
  obtain ⟨r11, r12, r13, ra⟩ := h c
  obtain ⟨h0, h1, h2, h3, h4, h5, h6, h7, h8, h9, h10⟩ := hagree c
  replace h0 : launchContents m' c (Proc.devRef .tc RnnSRefIdeal.main_arg0) = m ((c.tc : Thread nD τ).loc main_arg0) := h0
  replace h1 : launchContents m' c (Proc.devRef .tc RnnSRefIdeal.main_arg1) = m ((c.tc : Thread nD τ).loc main_arg1) := h1
  replace h2 : launchContents m' c (Proc.devRef .tc RnnSRefIdeal.main_arg2) = m ((c.tc : Thread nD τ).loc main_arg2) := h2
  replace h3 : launchContents m' c (Proc.devRef .tc RnnSRefIdeal.main_arg3) = m ((c.tc : Thread nD τ).loc main_arg3) := h3
  replace h4 : launchContents m' c (Proc.devRef .tc RnnSRefIdeal.main_arg4) = m ((c.tc : Thread nD τ).loc main_arg4) := h4
  replace h5 : launchContents m' c (Proc.devRef .tc RnnSRefIdeal.main_arg5) = m ((c.tc : Thread nD τ).loc main_arg5) := h5
  replace h6 : launchContents m' c (Proc.devRef .tc RnnSRefIdeal.main_arg6) = m ((c.tc : Thread nD τ).loc main_arg6) := h6
  replace h7 : launchContents m' c (Proc.devRef .tc RnnSRefIdeal.main_arg7) = m ((c.tc : Thread nD τ).loc main_arg7) := h7
  replace h8 : launchContents m' c (Proc.devRef .tc RnnSRefIdeal.main_arg8) = m ((c.tc : Thread nD τ).loc main_arg8) := h8
  replace h9 : launchContents m' c (Proc.devRef .tc RnnSRefIdeal.main_arg9) = m ((c.tc : Thread nD τ).loc main_arg9) := h9
  replace h10 : launchContents m' c (Proc.devRef .tc RnnSRefIdeal.main_arg10) = m ((c.tc : Thread nD τ).loc main_arg10) := h10
  open RnnSRefIdeal.Read in
  refine ⟨r11.trans ((val_main_v146_eq (launchContents m' c)).trans (by rw [h0, h1, h2, h3, h4, h5, h6, h7, h8, h9, h10]; exact (final_11 m c).symm)),
    r12.trans ((val_main_v142_eq (launchContents m' c)).trans (by rw [h0, h2, h3, h4, h5, h6, h7, h8, h9, h10]; exact (final_12 m c).symm)),
    r13.trans ((val_main_v147_eq (launchContents m' c)).trans (by rw [h0, h10]; exact (final_13 m c).symm)), ra⟩

end Cert.RnnSValue

end
-- ==== Proof.lean ====
module

public import proofs.«01_k».proof.Defs
public import proofs.«01_k».proof.Proof.Gen.Attn.Frame
public import proofs.«01_k».proof.Proof.Gen.Ffn.Frame
public import proofs.«01_k».proof.Proof.Gen.Inproj.Frame
public import proofs.«01_k».proof.Proof.Gen.Merge.Frame
public import proofs.«01_k».proof.Proof.Gen.Ple.Frame
public import proofs.«01_k».proof.Proof.Gen.AttnIdeal.Value
public import proofs.«01_k».proof.Proof.Gen.FfnIdeal.Value
public import proofs.«01_k».proof.Proof.Gen.InprojIdeal.Value
public import proofs.«01_k».proof.Proof.Gen.MergeIdeal.Value
public import proofs.«01_k».proof.Proof.Gen.PleIdeal.Value
public import proofs.«01_k».proof.Proof.Gen.AttnRefIdeal.Run
public import proofs.«01_k».proof.Proof.Gen.AttnRefIdeal.Read
public import proofs.«01_k».proof.Proof.Gen.FfnRefIdeal.Run
public import proofs.«01_k».proof.Proof.Gen.FfnRefIdeal.Read
public import proofs.«01_k».proof.Proof.Gen.InprojRefIdeal.Run
public import proofs.«01_k».proof.Proof.Gen.InprojRefIdeal.Read
public import proofs.«01_k».proof.Proof.Gen.MergeRefIdeal.Run
public import proofs.«01_k».proof.Proof.Gen.MergeRefIdeal.Read
public import proofs.«01_k».proof.Proof.Gen.PleRefIdeal.Run
public import proofs.«01_k».proof.Proof.Gen.PleRefIdeal.Read
public import proofs.«01_k».proof.Proof.Gen.InprojS.Frame
public import proofs.«01_k».proof.Proof.Gen.PleS.Frame
public import proofs.«01_k».proof.Proof.Gen.InprojSIdeal.Value
public import proofs.«01_k».proof.Proof.Gen.PleSIdeal.Value
public import proofs.«01_k».proof.Proof.Gen.InprojSRefIdeal.Run
public import proofs.«01_k».proof.Proof.Gen.InprojSRefIdeal.Read
public import proofs.«01_k».proof.Proof.Gen.PleSRefIdeal.Run
public import proofs.«01_k».proof.Proof.Gen.PleSRefIdeal.Read
public import proofs.«01_k».proof.Proof.Gen.RnnS
public import proofs.«01_k».proof.Proof.Gen.RnnS.Frame
public import proofs.«01_k».proof.Proof.Gen.RnnS.Loops
public import proofs.«01_k».proof.Proof.Gen.RnnS.Skeleton
public import proofs.«01_k».proof.Proof.Gen.RnnSIdeal
public import proofs.«01_k».proof.Proof.Gen.RnnSIdeal.Frame
public import proofs.«01_k».proof.Proof.Gen.RnnSIdeal.Loops
public import proofs.«01_k».proof.Proof.Gen.RnnSIdeal.Skeleton
public import proofs.«01_k».proof.Proof.Gen.RnnSRefIdeal.Run
public import proofs.«01_k».proof.Proof.Gen.RnnSRefIdeal.Read
public import proofs.«01_k».proof.Proof.Gen.Pre_finite_scores
public import proofs.«01_k».proof.Proof.FfnValue
public import proofs.«01_k».proof.Proof.InprojValue
public import proofs.«01_k».proof.Proof.MergeValue
public import proofs.«01_k».proof.Proof.PleValue
public import proofs.«01_k».proof.Proof.AttnValue
public import proofs.«01_k».proof.Proof.InprojSValue
public import proofs.«01_k».proof.Proof.PleSValue
public import proofs.«01_k».proof.Proof.RnnSFrame
public import proofs.«01_k».proof.Proof.RnnSIdealFrame
public import proofs.«01_k».proof.Proof.RnnSValue
public import Idealize.ShloMosaic.Adequacy
public import Idealize.ShloMosaic.Init

@[expose] public section

noncomputable section

namespace Cert.Proof

open Idealize.ShloMosaic Idealize.SL.Sem

theorem claim : Cert.Claim :=
  ⟨Cert.Attn.Gen.facts, Cert.AttnIdeal.Gen.facts, Cert.AttnRefIdeal.Gen.facts,
    Cert.Ffn.Gen.facts, Cert.FfnIdeal.Gen.facts, Cert.FfnRefIdeal.Gen.facts,
    Cert.Inproj.Gen.facts, Cert.InprojIdeal.Gen.facts, Cert.InprojRefIdeal.Gen.facts,
    Cert.Merge.Gen.facts, Cert.MergeIdeal.Gen.facts, Cert.MergeRefIdeal.Gen.facts,
    Cert.Ple.Gen.facts, Cert.PleIdeal.Gen.facts, Cert.PleRefIdeal.Gen.facts,
    Cert.InprojS.Gen.facts, Cert.InprojSIdeal.Gen.facts, Cert.InprojSRefIdeal.Gen.facts,
    Cert.PleS.Gen.facts, Cert.PleSIdeal.Gen.facts, Cert.PleSRefIdeal.Gen.facts,
    Cert.RnnS.Gen.facts, Cert.RnnSIdeal.Gen.facts, Cert.RnnSRefIdeal.Gen.facts,
    Cert.Pre_finite_scores.Gen.facts,
    fun m ρ _ => Cert.Attn.Gen.frame m ρ, fun m ρ _ => Cert.AttnIdeal.Gen.frame m ρ, fun m ρ _ => Cert.AttnIdeal.Gen.frame m ρ, Cert.AttnValue.frame_ref, Cert.AttnValue.frame_ref_finite,
    fun m ρ _ => Cert.Ffn.Gen.frame m ρ, fun m ρ _ => Cert.FfnIdeal.Gen.frame m ρ, Cert.FfnValue.frame_ref,
    fun m ρ _ => Cert.Inproj.Gen.frame m ρ, fun m ρ _ => Cert.InprojIdeal.Gen.frame m ρ, Cert.InprojValue.frame_ref,
    fun m ρ _ => Cert.Merge.Gen.frame m ρ, fun m ρ _ => Cert.MergeIdeal.Gen.frame m ρ, Cert.MergeValue.frame_ref,
    fun m ρ _ => Cert.Ple.Gen.frame m ρ, fun m ρ _ => Cert.PleIdeal.Gen.frame m ρ, Cert.PleValue.frame_ref,
    fun m ρ _ => Cert.InprojS.Gen.frame m ρ, fun m ρ _ => Cert.InprojSIdeal.Gen.frame m ρ, Cert.InprojSValue.frame_ref,
    fun m ρ _ => Cert.PleS.Gen.frame m ρ, fun m ρ _ => Cert.PleSIdeal.Gen.frame m ρ, Cert.PleSValue.frame_ref,
    fun m ρ _ => Cert.RnnS.Gen.frame m ρ, fun m ρ _ => Cert.RnnSIdeal.Gen.frame m ρ, Cert.RnnSValue.frame_ref,
    trivial, Cert.AttnValue.algebraic,
    trivial, Cert.FfnValue.algebraic,
    trivial, Cert.InprojValue.algebraic,
    trivial, Cert.MergeValue.algebraic,
    trivial, Cert.PleValue.algebraic,
    trivial, Cert.InprojSValue.algebraic,
    trivial, Cert.PleSValue.algebraic,
    trivial, Cert.RnnSValue.algebraic⟩

end Cert.Proof

end
